-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S2x256x4x64 : Shape := ⟨4, ![2, 256, 4, 64]⟩
abbrev S8x256x64 : Shape := ⟨3, ![8, 256, 64]⟩
abbrev S512x512 : Shape := ⟨2, ![512, 512]⟩
abbrev S16x512 : Shape := ⟨2, ![16, 512]⟩
abbrev S4 : Shape := ⟨1, ![4]⟩
abbrev S16 : Shape := ⟨1, ![16]⟩
abbrev S32 : Shape := ⟨1, ![32]⟩
abbrev S1 : Shape := ⟨1, ![1]⟩
abbrev S_ : Shape := ⟨0, ![]⟩
abbrev S1x256x4x64 : Shape := ⟨4, ![1, 256, 4, 64]⟩
abbrev S256x4x64 : Shape := ⟨3, ![256, 4, 64]⟩
abbrev S256x256 : Shape := ⟨2, ![256, 256]⟩
abbrev S1x256x64 : Shape := ⟨3, ![1, 256, 64]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S64x512 : Shape := ⟨2, ![64, 512]⟩

abbrev nBuf : Space → Nat
  | .hbm => 6
  | .vmem => 13
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S2x256x512, .f32⟩
  | .local _ .vmem, ⟨4, _⟩ => ⟨S2x256x4x64, .f32⟩
  | .local _ .vmem, ⟨5, _⟩ => ⟨S2x256x4x64, .f32⟩
  | .local _ .vmem, ⟨6, _⟩ => ⟨S8x256x64, .f32⟩
  | .local _ .vmem, ⟨7, _⟩ => ⟨S8x256x64, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S16x512, .bf16⟩
  | .local _ .vmem, ⟨12, _⟩ => ⟨S512x512, .bf16⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 152 → Bool
  | ⟨i, _⟩ => dmaSemScopedAt i

abbrev sig : RefSig :=
  (ofTc nBuf bufTy 1 152 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.muli v2 c4_i32
  let c0_i32_6 : BitVec 32 := 0#32
  ![0, 0, v3.toNat, 0]
def k0_off2 (d0 : Dev nD) : Fin 4 → Nat :=
  let c1_i32_17 : BitVec 32 := 1#32
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_16 : BitVec 32 := 4#32
  let v17 : BitVec 32 := Scalar.muli v2 c4_i32_16
  let c0_i32_23 : BitVec 32 := 0#32
  ![1, 0, v17.toNat, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_297 : BitVec 32 := 0#32
  let v444 : BitVec 1 := Scalar.cmpi .ne v2 c0_i32_297
  let v445 : BitVec 32 := Scalar.extui v444
  let c0_i32_298 : BitVec 32 := 0#32
  let v446 : BitVec 1 := Scalar.cmpi .ne v445 c0_i32_298
  v446

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_299 : BitVec 32 := 1#32
  let v447 : BitVec 1 := Scalar.cmpi .ne v2 c1_i32_299
  let v448 : BitVec 32 := Scalar.extui v447
  let c0_i32_300 : BitVec 32 := 0#32
  let v449 : BitVec 1 := Scalar.cmpi .ne v448 c0_i32_300
  v449

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_301 : BitVec 32 := 2#32
  let v450 : BitVec 1 := Scalar.cmpi .ne v2 c2_i32_301
  let v451 : BitVec 32 := Scalar.extui v450
  let c0_i32_302 : BitVec 32 := 0#32
  let v452 : BitVec 1 := Scalar.cmpi .ne v451 c0_i32_302
  v452

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_303 : BitVec 32 := 3#32
  let v453 : BitVec 1 := Scalar.cmpi .ne v2 c3_i32_303
  let v454 : BitVec 32 := Scalar.extui v453
  let c0_i32_304 : BitVec 32 := 0#32
  let v455 : BitVec 1 := Scalar.cmpi .ne v454 c0_i32_304
  v455

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_305 : BitVec 32 := 4#32
  let v456 : BitVec 1 := Scalar.cmpi .ne v2 c4_i32_305
  let v457 : BitVec 32 := Scalar.extui v456
  let c0_i32_306 : BitVec 32 := 0#32
  let v458 : BitVec 1 := Scalar.cmpi .ne v457 c0_i32_306
  v458

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_307 : BitVec 32 := 5#32
  let v459 : BitVec 1 := Scalar.cmpi .ne v2 c5_i32_307
  let v460 : BitVec 32 := Scalar.extui v459
  let c0_i32_308 : BitVec 32 := 0#32
  let v461 : BitVec 1 := Scalar.cmpi .ne v460 c0_i32_308
  v461

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_309 : BitVec 32 := 6#32
  let v462 : BitVec 1 := Scalar.cmpi .ne v2 c6_i32_309
  let v463 : BitVec 32 := Scalar.extui v462
  let c0_i32_310 : BitVec 32 := 0#32
  let v464 : BitVec 1 := Scalar.cmpi .ne v463 c0_i32_310
  v464

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_311 : BitVec 32 := 7#32
  let v465 : BitVec 1 := Scalar.cmpi .ne v2 c7_i32_311
  let v466 : BitVec 32 := Scalar.extui v465
  let c0_i32_312 : BitVec 32 := 0#32
  let v467 : BitVec 1 := Scalar.cmpi .ne v466 c0_i32_312
  v467

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_313 : BitVec 32 := 8#32
  let v468 : BitVec 1 := Scalar.cmpi .ne v2 c8_i32_313
  let v469 : BitVec 32 := Scalar.extui v468
  let c0_i32_314 : BitVec 32 := 0#32
  let v470 : BitVec 1 := Scalar.cmpi .ne v469 c0_i32_314
  v470

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_315 : BitVec 32 := 9#32
  let v471 : BitVec 1 := Scalar.cmpi .ne v2 c9_i32_315
  let v472 : BitVec 32 := Scalar.extui v471
  let c0_i32_316 : BitVec 32 := 0#32
  let v473 : BitVec 1 := Scalar.cmpi .ne v472 c0_i32_316
  v473

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_317 : BitVec 32 := 10#32
  let v474 : BitVec 1 := Scalar.cmpi .ne v2 c10_i32_317
  let v475 : BitVec 32 := Scalar.extui v474
  let c0_i32_318 : BitVec 32 := 0#32
  let v476 : BitVec 1 := Scalar.cmpi .ne v475 c0_i32_318
  v476

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_319 : BitVec 32 := 11#32
  let v477 : BitVec 1 := Scalar.cmpi .ne v2 c11_i32_319
  let v478 : BitVec 32 := Scalar.extui v477
  let c0_i32_320 : BitVec 32 := 0#32
  let v479 : BitVec 1 := Scalar.cmpi .ne v478 c0_i32_320
  v479

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_321 : BitVec 32 := 12#32
  let v480 : BitVec 1 := Scalar.cmpi .ne v2 c12_i32_321
  let v481 : BitVec 32 := Scalar.extui v480
  let c0_i32_322 : BitVec 32 := 0#32
  let v482 : BitVec 1 := Scalar.cmpi .ne v481 c0_i32_322
  v482

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_323 : BitVec 32 := 13#32
  let v483 : BitVec 1 := Scalar.cmpi .ne v2 c13_i32_323
  let v484 : BitVec 32 := Scalar.extui v483
  let c0_i32_324 : BitVec 32 := 0#32
  let v485 : BitVec 1 := Scalar.cmpi .ne v484 c0_i32_324
  v485

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_325 : BitVec 32 := 14#32
  let v486 : BitVec 1 := Scalar.cmpi .ne v2 c14_i32_325
  let v487 : BitVec 32 := Scalar.extui v486
  let c0_i32_326 : BitVec 32 := 0#32
  let v488 : BitVec 1 := Scalar.cmpi .ne v487 c0_i32_326
  v488

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_327 : BitVec 32 := 15#32
  let v489 : BitVec 1 := Scalar.cmpi .ne v2 c15_i32_327
  let v490 : BitVec 32 := Scalar.extui v489
  let c0_i32_328 : BitVec 32 := 0#32
  let v491 : BitVec 1 := Scalar.cmpi .ne v490 c0_i32_328
  v491

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_532 : BitVec 32 := 16#32
  let v726 : BitVec 1 := Scalar.cmpi .ne v2 c16_i32_532
  let v727 : BitVec 32 := Scalar.extui v726
  let c0_i32_533 : BitVec 32 := 0#32
  let v728 : BitVec 1 := Scalar.cmpi .ne v727 c0_i32_533
  v728

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_534 : BitVec 32 := 17#32
  let v729 : BitVec 1 := Scalar.cmpi .ne v2 c17_i32_534
  let v730 : BitVec 32 := Scalar.extui v729
  let c0_i32_535 : BitVec 32 := 0#32
  let v731 : BitVec 1 := Scalar.cmpi .ne v730 c0_i32_535
  v731

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_536 : BitVec 32 := 18#32
  let v732 : BitVec 1 := Scalar.cmpi .ne v2 c18_i32_536
  let v733 : BitVec 32 := Scalar.extui v732
  let c0_i32_537 : BitVec 32 := 0#32
  let v734 : BitVec 1 := Scalar.cmpi .ne v733 c0_i32_537
  v734

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_538 : BitVec 32 := 19#32
  let v735 : BitVec 1 := Scalar.cmpi .ne v2 c19_i32_538
  let v736 : BitVec 32 := Scalar.extui v735
  let c0_i32_539 : BitVec 32 := 0#32
  let v737 : BitVec 1 := Scalar.cmpi .ne v736 c0_i32_539
  v737

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_540 : BitVec 32 := 20#32
  let v738 : BitVec 1 := Scalar.cmpi .ne v2 c20_i32_540
  let v739 : BitVec 32 := Scalar.extui v738
  let c0_i32_541 : BitVec 32 := 0#32
  let v740 : BitVec 1 := Scalar.cmpi .ne v739 c0_i32_541
  v740

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_542 : BitVec 32 := 21#32
  let v741 : BitVec 1 := Scalar.cmpi .ne v2 c21_i32_542
  let v742 : BitVec 32 := Scalar.extui v741
  let c0_i32_543 : BitVec 32 := 0#32
  let v743 : BitVec 1 := Scalar.cmpi .ne v742 c0_i32_543
  v743

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_544 : BitVec 32 := 22#32
  let v744 : BitVec 1 := Scalar.cmpi .ne v2 c22_i32_544
  let v745 : BitVec 32 := Scalar.extui v744
  let c0_i32_545 : BitVec 32 := 0#32
  let v746 : BitVec 1 := Scalar.cmpi .ne v745 c0_i32_545
  v746

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_546 : BitVec 32 := 23#32
  let v747 : BitVec 1 := Scalar.cmpi .ne v2 c23_i32_546
  let v748 : BitVec 32 := Scalar.extui v747
  let c0_i32_547 : BitVec 32 := 0#32
  let v749 : BitVec 1 := Scalar.cmpi .ne v748 c0_i32_547
  v749

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_548 : BitVec 32 := 24#32
  let v750 : BitVec 1 := Scalar.cmpi .ne v2 c24_i32_548
  let v751 : BitVec 32 := Scalar.extui v750
  let c0_i32_549 : BitVec 32 := 0#32
  let v752 : BitVec 1 := Scalar.cmpi .ne v751 c0_i32_549
  v752

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_550 : BitVec 32 := 25#32
  let v753 : BitVec 1 := Scalar.cmpi .ne v2 c25_i32_550
  let v754 : BitVec 32 := Scalar.extui v753
  let c0_i32_551 : BitVec 32 := 0#32
  let v755 : BitVec 1 := Scalar.cmpi .ne v754 c0_i32_551
  v755

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_552 : BitVec 32 := 26#32
  let v756 : BitVec 1 := Scalar.cmpi .ne v2 c26_i32_552
  let v757 : BitVec 32 := Scalar.extui v756
  let c0_i32_553 : BitVec 32 := 0#32
  let v758 : BitVec 1 := Scalar.cmpi .ne v757 c0_i32_553
  v758

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_554 : BitVec 32 := 27#32
  let v759 : BitVec 1 := Scalar.cmpi .ne v2 c27_i32_554
  let v760 : BitVec 32 := Scalar.extui v759
  let c0_i32_555 : BitVec 32 := 0#32
  let v761 : BitVec 1 := Scalar.cmpi .ne v760 c0_i32_555
  v761

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_556 : BitVec 32 := 28#32
  let v762 : BitVec 1 := Scalar.cmpi .ne v2 c28_i32_556
  let v763 : BitVec 32 := Scalar.extui v762
  let c0_i32_557 : BitVec 32 := 0#32
  let v764 : BitVec 1 := Scalar.cmpi .ne v763 c0_i32_557
  v764

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_558 : BitVec 32 := 29#32
  let v765 : BitVec 1 := Scalar.cmpi .ne v2 c29_i32_558
  let v766 : BitVec 32 := Scalar.extui v765
  let c0_i32_559 : BitVec 32 := 0#32
  let v767 : BitVec 1 := Scalar.cmpi .ne v766 c0_i32_559
  v767

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_560 : BitVec 32 := 30#32
  let v768 : BitVec 1 := Scalar.cmpi .ne v2 c30_i32_560
  let v769 : BitVec 32 := Scalar.extui v768
  let c0_i32_561 : BitVec 32 := 0#32
  let v770 : BitVec 1 := Scalar.cmpi .ne v769 c0_i32_561
  v770

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_562 : BitVec 32 := 31#32
  let v771 : BitVec 1 := Scalar.cmpi .ne v2 c31_i32_562
  let v772 : BitVec 32 := Scalar.extui v771
  let c0_i32_563 : BitVec 32 := 0#32
  let v773 : BitVec 1 := Scalar.cmpi .ne v772 c0_i32_563
  v773

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_564 : BitVec 32 := 16#32
  let v774 : BitVec 32 := Scalar.muli v2 c16_i32_564
  let v775 : Index := Scalar.indexCast v774
  let c0_565 : Index := 0#32
  ![v775.toNat, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_739 : BitVec 32 := 0#32
  let v1079 : BitVec 1 := Scalar.cmpi .ne v2 c0_i32_739
  let v1080 : BitVec 32 := Scalar.extui v1079
  let c0_i32_740 : BitVec 32 := 0#32
  let v1081 : BitVec 1 := Scalar.cmpi .ne v1080 c0_i32_740
  v1081

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_741 : BitVec 32 := 1#32
  let v1082 : BitVec 1 := Scalar.cmpi .ne v2 c1_i32_741
  let v1083 : BitVec 32 := Scalar.extui v1082
  let c0_i32_742 : BitVec 32 := 0#32
  let v1084 : BitVec 1 := Scalar.cmpi .ne v1083 c0_i32_742
  v1084

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_743 : BitVec 32 := 2#32
  let v1085 : BitVec 1 := Scalar.cmpi .ne v2 c2_i32_743
  let v1086 : BitVec 32 := Scalar.extui v1085
  let c0_i32_744 : BitVec 32 := 0#32
  let v1087 : BitVec 1 := Scalar.cmpi .ne v1086 c0_i32_744
  v1087

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_745 : BitVec 32 := 3#32
  let v1088 : BitVec 1 := Scalar.cmpi .ne v2 c3_i32_745
  let v1089 : BitVec 32 := Scalar.extui v1088
  let c0_i32_746 : BitVec 32 := 0#32
  let v1090 : BitVec 1 := Scalar.cmpi .ne v1089 c0_i32_746
  v1090

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_747 : BitVec 32 := 4#32
  let v1091 : BitVec 1 := Scalar.cmpi .ne v2 c4_i32_747
  let v1092 : BitVec 32 := Scalar.extui v1091
  let c0_i32_748 : BitVec 32 := 0#32
  let v1093 : BitVec 1 := Scalar.cmpi .ne v1092 c0_i32_748
  v1093

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_749 : BitVec 32 := 5#32
  let v1094 : BitVec 1 := Scalar.cmpi .ne v2 c5_i32_749
  let v1095 : BitVec 32 := Scalar.extui v1094
  let c0_i32_750 : BitVec 32 := 0#32
  let v1096 : BitVec 1 := Scalar.cmpi .ne v1095 c0_i32_750
  v1096

def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_751 : BitVec 32 := 6#32
  let v1097 : BitVec 1 := Scalar.cmpi .ne v2 c6_i32_751
  let v1098 : BitVec 32 := Scalar.extui v1097
  let c0_i32_752 : BitVec 32 := 0#32
  let v1099 : BitVec 1 := Scalar.cmpi .ne v1098 c0_i32_752
  v1099

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_753 : BitVec 32 := 7#32
  let v1100 : BitVec 1 := Scalar.cmpi .ne v2 c7_i32_753
  let v1101 : BitVec 32 := Scalar.extui v1100
  let c0_i32_754 : BitVec 32 := 0#32
  let v1102 : BitVec 1 := Scalar.cmpi .ne v1101 c0_i32_754
  v1102

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_755 : BitVec 32 := 8#32
  let v1103 : BitVec 1 := Scalar.cmpi .ne v2 c8_i32_755
  let v1104 : BitVec 32 := Scalar.extui v1103
  let c0_i32_756 : BitVec 32 := 0#32
  let v1105 : BitVec 1 := Scalar.cmpi .ne v1104 c0_i32_756
  v1105

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_757 : BitVec 32 := 9#32
  let v1106 : BitVec 1 := Scalar.cmpi .ne v2 c9_i32_757
  let v1107 : BitVec 32 := Scalar.extui v1106
  let c0_i32_758 : BitVec 32 := 0#32
  let v1108 : BitVec 1 := Scalar.cmpi .ne v1107 c0_i32_758
  v1108

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_759 : BitVec 32 := 10#32
  let v1109 : BitVec 1 := Scalar.cmpi .ne v2 c10_i32_759
  let v1110 : BitVec 32 := Scalar.extui v1109
  let c0_i32_760 : BitVec 32 := 0#32
  let v1111 : BitVec 1 := Scalar.cmpi .ne v1110 c0_i32_760
  v1111

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_761 : BitVec 32 := 11#32
  let v1112 : BitVec 1 := Scalar.cmpi .ne v2 c11_i32_761
  let v1113 : BitVec 32 := Scalar.extui v1112
  let c0_i32_762 : BitVec 32 := 0#32
  let v1114 : BitVec 1 := Scalar.cmpi .ne v1113 c0_i32_762
  v1114

def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_763 : BitVec 32 := 12#32
  let v1115 : BitVec 1 := Scalar.cmpi .ne v2 c12_i32_763
  let v1116 : BitVec 32 := Scalar.extui v1115
  let c0_i32_764 : BitVec 32 := 0#32
  let v1117 : BitVec 1 := Scalar.cmpi .ne v1116 c0_i32_764
  v1117

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_765 : BitVec 32 := 13#32
  let v1118 : BitVec 1 := Scalar.cmpi .ne v2 c13_i32_765
  let v1119 : BitVec 32 := Scalar.extui v1118
  let c0_i32_766 : BitVec 32 := 0#32
  let v1120 : BitVec 1 := Scalar.cmpi .ne v1119 c0_i32_766
  v1120

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_767 : BitVec 32 := 14#32
  let v1121 : BitVec 1 := Scalar.cmpi .ne v2 c14_i32_767
  let v1122 : BitVec 32 := Scalar.extui v1121
  let c0_i32_768 : BitVec 32 := 0#32
  let v1123 : BitVec 1 := Scalar.cmpi .ne v1122 c0_i32_768
  v1123

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_769 : BitVec 32 := 15#32
  let v1124 : BitVec 1 := Scalar.cmpi .ne v2 c15_i32_769
  let v1125 : BitVec 32 := Scalar.extui v1124
  let c0_i32_770 : BitVec 32 := 0#32
  let v1126 : BitVec 1 := Scalar.cmpi .ne v1125 c0_i32_770
  v1126

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_771 : BitVec 32 := 16#32
  let v1127 : BitVec 1 := Scalar.cmpi .ne v2 c16_i32_771
  let v1128 : BitVec 32 := Scalar.extui v1127
  let c0_i32_772 : BitVec 32 := 0#32
  let v1129 : BitVec 1 := Scalar.cmpi .ne v1128 c0_i32_772
  v1129

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_773 : BitVec 32 := 17#32
  let v1130 : BitVec 1 := Scalar.cmpi .ne v2 c17_i32_773
  let v1131 : BitVec 32 := Scalar.extui v1130
  let c0_i32_774 : BitVec 32 := 0#32
  let v1132 : BitVec 1 := Scalar.cmpi .ne v1131 c0_i32_774
  v1132

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_775 : BitVec 32 := 18#32
  let v1133 : BitVec 1 := Scalar.cmpi .ne v2 c18_i32_775
  let v1134 : BitVec 32 := Scalar.extui v1133
  let c0_i32_776 : BitVec 32 := 0#32
  let v1135 : BitVec 1 := Scalar.cmpi .ne v1134 c0_i32_776
  v1135

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_777 : BitVec 32 := 19#32
  let v1136 : BitVec 1 := Scalar.cmpi .ne v2 c19_i32_777
  let v1137 : BitVec 32 := Scalar.extui v1136
  let c0_i32_778 : BitVec 32 := 0#32
  let v1138 : BitVec 1 := Scalar.cmpi .ne v1137 c0_i32_778
  v1138

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_779 : BitVec 32 := 20#32
  let v1139 : BitVec 1 := Scalar.cmpi .ne v2 c20_i32_779
  let v1140 : BitVec 32 := Scalar.extui v1139
  let c0_i32_780 : BitVec 32 := 0#32
  let v1141 : BitVec 1 := Scalar.cmpi .ne v1140 c0_i32_780
  v1141

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_781 : BitVec 32 := 21#32
  let v1142 : BitVec 1 := Scalar.cmpi .ne v2 c21_i32_781
  let v1143 : BitVec 32 := Scalar.extui v1142
  let c0_i32_782 : BitVec 32 := 0#32
  let v1144 : BitVec 1 := Scalar.cmpi .ne v1143 c0_i32_782
  v1144

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_783 : BitVec 32 := 22#32
  let v1145 : BitVec 1 := Scalar.cmpi .ne v2 c22_i32_783
  let v1146 : BitVec 32 := Scalar.extui v1145
  let c0_i32_784 : BitVec 32 := 0#32
  let v1147 : BitVec 1 := Scalar.cmpi .ne v1146 c0_i32_784
  v1147

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_785 : BitVec 32 := 23#32
  let v1148 : BitVec 1 := Scalar.cmpi .ne v2 c23_i32_785
  let v1149 : BitVec 32 := Scalar.extui v1148
  let c0_i32_786 : BitVec 32 := 0#32
  let v1150 : BitVec 1 := Scalar.cmpi .ne v1149 c0_i32_786
  v1150

def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_787 : BitVec 32 := 24#32
  let v1151 : BitVec 1 := Scalar.cmpi .ne v2 c24_i32_787
  let v1152 : BitVec 32 := Scalar.extui v1151
  let c0_i32_788 : BitVec 32 := 0#32
  let v1153 : BitVec 1 := Scalar.cmpi .ne v1152 c0_i32_788
  v1153

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_789 : BitVec 32 := 25#32
  let v1154 : BitVec 1 := Scalar.cmpi .ne v2 c25_i32_789
  let v1155 : BitVec 32 := Scalar.extui v1154
  let c0_i32_790 : BitVec 32 := 0#32
  let v1156 : BitVec 1 := Scalar.cmpi .ne v1155 c0_i32_790
  v1156

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_791 : BitVec 32 := 26#32
  let v1157 : BitVec 1 := Scalar.cmpi .ne v2 c26_i32_791
  let v1158 : BitVec 32 := Scalar.extui v1157
  let c0_i32_792 : BitVec 32 := 0#32
  let v1159 : BitVec 1 := Scalar.cmpi .ne v1158 c0_i32_792
  v1159

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_793 : BitVec 32 := 27#32
  let v1160 : BitVec 1 := Scalar.cmpi .ne v2 c27_i32_793
  let v1161 : BitVec 32 := Scalar.extui v1160
  let c0_i32_794 : BitVec 32 := 0#32
  let v1162 : BitVec 1 := Scalar.cmpi .ne v1161 c0_i32_794
  v1162

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_795 : BitVec 32 := 28#32
  let v1163 : BitVec 1 := Scalar.cmpi .ne v2 c28_i32_795
  let v1164 : BitVec 32 := Scalar.extui v1163
  let c0_i32_796 : BitVec 32 := 0#32
  let v1165 : BitVec 1 := Scalar.cmpi .ne v1164 c0_i32_796
  v1165

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_797 : BitVec 32 := 29#32
  let v1166 : BitVec 1 := Scalar.cmpi .ne v2 c29_i32_797
  let v1167 : BitVec 32 := Scalar.extui v1166
  let c0_i32_798 : BitVec 32 := 0#32
  let v1168 : BitVec 1 := Scalar.cmpi .ne v1167 c0_i32_798
  v1168

def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_799 : BitVec 32 := 30#32
  let v1169 : BitVec 1 := Scalar.cmpi .ne v2 c30_i32_799
  let v1170 : BitVec 32 := Scalar.extui v1169
  let c0_i32_800 : BitVec 32 := 0#32
  let v1171 : BitVec 1 := Scalar.cmpi .ne v1170 c0_i32_800
  v1171

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_801 : BitVec 32 := 31#32
  let v1172 : BitVec 1 := Scalar.cmpi .ne v2 c31_i32_801
  let v1173 : BitVec 32 := Scalar.extui v1172
  let c0_i32_802 : BitVec 32 := 0#32
  let v1174 : BitVec 1 := Scalar.cmpi .ne v1173 c0_i32_802
  v1174

def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_939 : BitVec 32 := 0#32
  ![v1371.toNat, 0]
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let v1275 : BitVec 1 := Scalar.cmpi .ne v2 c0_i32_872
  let v1276 : BitVec 32 := Scalar.extui v1275
  let c0_i32_873 : BitVec 32 := 0#32
  let v1277 : BitVec 1 := Scalar.cmpi .ne v1276 c0_i32_873
  v1277

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_874 : BitVec 32 := 1#32
  let v1278 : BitVec 1 := Scalar.cmpi .ne v2 c1_i32_874
  let v1279 : BitVec 32 := Scalar.extui v1278
  let c0_i32_875 : BitVec 32 := 0#32
  let v1280 : BitVec 1 := Scalar.cmpi .ne v1279 c0_i32_875
  v1280

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_876 : BitVec 32 := 2#32
  let v1281 : BitVec 1 := Scalar.cmpi .ne v2 c2_i32_876
  let v1282 : BitVec 32 := Scalar.extui v1281
  let c0_i32_877 : BitVec 32 := 0#32
  let v1283 : BitVec 1 := Scalar.cmpi .ne v1282 c0_i32_877
  v1283

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_878 : BitVec 32 := 3#32
  let v1284 : BitVec 1 := Scalar.cmpi .ne v2 c3_i32_878
  let v1285 : BitVec 32 := Scalar.extui v1284
  let c0_i32_879 : BitVec 32 := 0#32
  let v1286 : BitVec 1 := Scalar.cmpi .ne v1285 c0_i32_879
  v1286

def k0_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_880 : BitVec 32 := 4#32
  let v1287 : BitVec 1 := Scalar.cmpi .ne v2 c4_i32_880
  let v1288 : BitVec 32 := Scalar.extui v1287
  let c0_i32_881 : BitVec 32 := 0#32
  let v1289 : BitVec 1 := Scalar.cmpi .ne v1288 c0_i32_881
  v1289

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_882 : BitVec 32 := 5#32
  let v1290 : BitVec 1 := Scalar.cmpi .ne v2 c5_i32_882
  let v1291 : BitVec 32 := Scalar.extui v1290
  let c0_i32_883 : BitVec 32 := 0#32
  let v1292 : BitVec 1 := Scalar.cmpi .ne v1291 c0_i32_883
  v1292

def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_884 : BitVec 32 := 6#32
  let v1293 : BitVec 1 := Scalar.cmpi .ne v2 c6_i32_884
  let v1294 : BitVec 32 := Scalar.extui v1293
  let c0_i32_885 : BitVec 32 := 0#32
  let v1295 : BitVec 1 := Scalar.cmpi .ne v1294 c0_i32_885
  v1295

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_886 : BitVec 32 := 7#32
  let v1296 : BitVec 1 := Scalar.cmpi .ne v2 c7_i32_886
  let v1297 : BitVec 32 := Scalar.extui v1296
  let c0_i32_887 : BitVec 32 := 0#32
  let v1298 : BitVec 1 := Scalar.cmpi .ne v1297 c0_i32_887
  v1298

def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_888 : BitVec 32 := 8#32
  let v1299 : BitVec 1 := Scalar.cmpi .ne v2 c8_i32_888
  let v1300 : BitVec 32 := Scalar.extui v1299
  let c0_i32_889 : BitVec 32 := 0#32
  let v1301 : BitVec 1 := Scalar.cmpi .ne v1300 c0_i32_889
  v1301

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_890 : BitVec 32 := 9#32
  let v1302 : BitVec 1 := Scalar.cmpi .ne v2 c9_i32_890
  let v1303 : BitVec 32 := Scalar.extui v1302
  let c0_i32_891 : BitVec 32 := 0#32
  let v1304 : BitVec 1 := Scalar.cmpi .ne v1303 c0_i32_891
  v1304

def k0_off141 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_892 : BitVec 32 := 10#32
  let v1305 : BitVec 1 := Scalar.cmpi .ne v2 c10_i32_892
  let v1306 : BitVec 32 := Scalar.extui v1305
  let c0_i32_893 : BitVec 32 := 0#32
  let v1307 : BitVec 1 := Scalar.cmpi .ne v1306 c0_i32_893
  v1307

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_894 : BitVec 32 := 11#32
  let v1308 : BitVec 1 := Scalar.cmpi .ne v2 c11_i32_894
  let v1309 : BitVec 32 := Scalar.extui v1308
  let c0_i32_895 : BitVec 32 := 0#32
  let v1310 : BitVec 1 := Scalar.cmpi .ne v1309 c0_i32_895
  v1310

def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_896 : BitVec 32 := 12#32
  let v1311 : BitVec 1 := Scalar.cmpi .ne v2 c12_i32_896
  let v1312 : BitVec 32 := Scalar.extui v1311
  let c0_i32_897 : BitVec 32 := 0#32
  let v1313 : BitVec 1 := Scalar.cmpi .ne v1312 c0_i32_897
  v1313

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_898 : BitVec 32 := 13#32
  let v1314 : BitVec 1 := Scalar.cmpi .ne v2 c13_i32_898
  let v1315 : BitVec 32 := Scalar.extui v1314
  let c0_i32_899 : BitVec 32 := 0#32
  let v1316 : BitVec 1 := Scalar.cmpi .ne v1315 c0_i32_899
  v1316

def k0_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_900 : BitVec 32 := 14#32
  let v1317 : BitVec 1 := Scalar.cmpi .ne v2 c14_i32_900
  let v1318 : BitVec 32 := Scalar.extui v1317
  let c0_i32_901 : BitVec 32 := 0#32
  let v1319 : BitVec 1 := Scalar.cmpi .ne v1318 c0_i32_901
  v1319

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_902 : BitVec 32 := 15#32
  let v1320 : BitVec 1 := Scalar.cmpi .ne v2 c15_i32_902
  let v1321 : BitVec 32 := Scalar.extui v1320
  let c0_i32_903 : BitVec 32 := 0#32
  let v1322 : BitVec 1 := Scalar.cmpi .ne v1321 c0_i32_903
  v1322

def k0_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_904 : BitVec 32 := 16#32
  let v1323 : BitVec 1 := Scalar.cmpi .ne v2 c16_i32_904
  let v1324 : BitVec 32 := Scalar.extui v1323
  let c0_i32_905 : BitVec 32 := 0#32
  let v1325 : BitVec 1 := Scalar.cmpi .ne v1324 c0_i32_905
  v1325

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_906 : BitVec 32 := 17#32
  let v1326 : BitVec 1 := Scalar.cmpi .ne v2 c17_i32_906
  let v1327 : BitVec 32 := Scalar.extui v1326
  let c0_i32_907 : BitVec 32 := 0#32
  let v1328 : BitVec 1 := Scalar.cmpi .ne v1327 c0_i32_907
  v1328

def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_908 : BitVec 32 := 18#32
  let v1329 : BitVec 1 := Scalar.cmpi .ne v2 c18_i32_908
  let v1330 : BitVec 32 := Scalar.extui v1329
  let c0_i32_909 : BitVec 32 := 0#32
  let v1331 : BitVec 1 := Scalar.cmpi .ne v1330 c0_i32_909
  v1331

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_910 : BitVec 32 := 19#32
  let v1332 : BitVec 1 := Scalar.cmpi .ne v2 c19_i32_910
  let v1333 : BitVec 32 := Scalar.extui v1332
  let c0_i32_911 : BitVec 32 := 0#32
  let v1334 : BitVec 1 := Scalar.cmpi .ne v1333 c0_i32_911
  v1334

def k0_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_912 : BitVec 32 := 20#32
  let v1335 : BitVec 1 := Scalar.cmpi .ne v2 c20_i32_912
  let v1336 : BitVec 32 := Scalar.extui v1335
  let c0_i32_913 : BitVec 32 := 0#32
  let v1337 : BitVec 1 := Scalar.cmpi .ne v1336 c0_i32_913
  v1337

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_914 : BitVec 32 := 21#32
  let v1338 : BitVec 1 := Scalar.cmpi .ne v2 c21_i32_914
  let v1339 : BitVec 32 := Scalar.extui v1338
  let c0_i32_915 : BitVec 32 := 0#32
  let v1340 : BitVec 1 := Scalar.cmpi .ne v1339 c0_i32_915
  v1340

def k0_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_916 : BitVec 32 := 22#32
  let v1341 : BitVec 1 := Scalar.cmpi .ne v2 c22_i32_916
  let v1342 : BitVec 32 := Scalar.extui v1341
  let c0_i32_917 : BitVec 32 := 0#32
  let v1343 : BitVec 1 := Scalar.cmpi .ne v1342 c0_i32_917
  v1343

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_918 : BitVec 32 := 23#32
  let v1344 : BitVec 1 := Scalar.cmpi .ne v2 c23_i32_918
  let v1345 : BitVec 32 := Scalar.extui v1344
  let c0_i32_919 : BitVec 32 := 0#32
  let v1346 : BitVec 1 := Scalar.cmpi .ne v1345 c0_i32_919
  v1346

def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_920 : BitVec 32 := 24#32
  let v1347 : BitVec 1 := Scalar.cmpi .ne v2 c24_i32_920
  let v1348 : BitVec 32 := Scalar.extui v1347
  let c0_i32_921 : BitVec 32 := 0#32
  let v1349 : BitVec 1 := Scalar.cmpi .ne v1348 c0_i32_921
  v1349

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_922 : BitVec 32 := 25#32
  let v1350 : BitVec 1 := Scalar.cmpi .ne v2 c25_i32_922
  let v1351 : BitVec 32 := Scalar.extui v1350
  let c0_i32_923 : BitVec 32 := 0#32
  let v1352 : BitVec 1 := Scalar.cmpi .ne v1351 c0_i32_923
  v1352

def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_924 : BitVec 32 := 26#32
  let v1353 : BitVec 1 := Scalar.cmpi .ne v2 c26_i32_924
  let v1354 : BitVec 32 := Scalar.extui v1353
  let c0_i32_925 : BitVec 32 := 0#32
  let v1355 : BitVec 1 := Scalar.cmpi .ne v1354 c0_i32_925
  v1355

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_926 : BitVec 32 := 27#32
  let v1356 : BitVec 1 := Scalar.cmpi .ne v2 c27_i32_926
  let v1357 : BitVec 32 := Scalar.extui v1356
  let c0_i32_927 : BitVec 32 := 0#32
  let v1358 : BitVec 1 := Scalar.cmpi .ne v1357 c0_i32_927
  v1358

def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_928 : BitVec 32 := 28#32
  let v1359 : BitVec 1 := Scalar.cmpi .ne v2 c28_i32_928
  let v1360 : BitVec 32 := Scalar.extui v1359
  let c0_i32_929 : BitVec 32 := 0#32
  let v1361 : BitVec 1 := Scalar.cmpi .ne v1360 c0_i32_929
  v1361

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_930 : BitVec 32 := 29#32
  let v1362 : BitVec 1 := Scalar.cmpi .ne v2 c29_i32_930
  let v1363 : BitVec 32 := Scalar.extui v1362
  let c0_i32_931 : BitVec 32 := 0#32
  let v1364 : BitVec 1 := Scalar.cmpi .ne v1363 c0_i32_931
  v1364

def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_932 : BitVec 32 := 30#32
  let v1365 : BitVec 1 := Scalar.cmpi .ne v2 c30_i32_932
  let v1366 : BitVec 32 := Scalar.extui v1365
  let c0_i32_933 : BitVec 32 := 0#32
  let v1367 : BitVec 1 := Scalar.cmpi .ne v1366 c0_i32_933
  v1367

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_934 : BitVec 32 := 31#32
  let v1368 : BitVec 1 := Scalar.cmpi .ne v2 c31_i32_934
  let v1369 : BitVec 32 := Scalar.extui v1368
  let c0_i32_935 : BitVec 32 := 0#32
  let v1370 : BitVec 1 := Scalar.cmpi .ne v1369 c0_i32_935
  v1370

def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_936 : BitVec 32 := 16#32
  let v1371 : BitVec 32 := Scalar.muli v2 c16_i32_936
  let c0_i32_943 : BitVec 32 := 0#32
  ![v1371.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S2x128x256x256, .f32⟩
  | .hbm, ⟨85, _⟩ => ⟨S_, .f32⟩
  | .hbm, ⟨86, _⟩ => ⟨S2x128x256x256, .f32⟩
  | .hbm, ⟨87, _⟩ => ⟨S2x128x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S2x128x256x256, .i1⟩
  | .hbm, ⟨92, _⟩ => ⟨S2x128x256x256, .f32⟩
  | .hbm, ⟨93, _⟩ => ⟨S2x128x256x256, .f32⟩
  | .hbm, ⟨94, _⟩ => ⟨S_, .f32⟩
  | .hbm, ⟨95, _⟩ => ⟨S2x128x256, .f32⟩
  | .hbm, ⟨96, _⟩ => ⟨S2x128x256x1, .f32⟩
  | .hbm, ⟨97, _⟩ => ⟨S2x128x256x256, .f32⟩
  | .hbm, ⟨98, _⟩ => ⟨S2x128x256x256, .f32⟩
  | .hbm, ⟨99, _⟩ => ⟨S2x128x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x128x256, .f32⟩
  | .hbm, ⟨105, _⟩ => ⟨S2x128x256x1, .f32⟩
  | .hbm, ⟨106, _⟩ => ⟨S_, .f32⟩
  | .hbm, ⟨107, _⟩ => ⟨S_, .f32⟩
  | .hbm, ⟨108, _⟩ => ⟨S2x128x256x1, .i1⟩
  | .hbm, ⟨109, _⟩ => ⟨S2x128x256x1, .f32⟩
  | .hbm, ⟨110, _⟩ => ⟨S2x128x256x1, .f32⟩
  | .hbm, ⟨111, _⟩ => ⟨S2x128x256x256, .f32⟩
  | .hbm, ⟨112, _⟩ => ⟨S2x128x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x128x256x256, .i1⟩
  | .hbm, ⟨117, _⟩ => ⟨S2x128x256x256, .f32⟩
  | .hbm, ⟨118, _⟩ => ⟨S2x128x256x256, .f32⟩
  | .hbm, ⟨119, _⟩ => ⟨S2x128x64x256, .f32⟩
  | .hbm, ⟨120, _⟩ => ⟨S2x256x128x64, .f32⟩
  | .hbm, ⟨121, _⟩ => ⟨S2x256x8192, .f32⟩
  | .hbm, ⟨122, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Vals.lean ====
/-
# Block-sparse attention over 32 devices: what each device computes

The values the kernel's memory holds, device by device, as functions of the memory at launch: the head slices of K and
V, the partial product of the device's four heads with its block of the output weights, the sixteen rows it reduces,
and the gathered result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.ValueLayout
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The memrefs -/

abbrev xM : Memref sig .tc .vmem S2x256x512 .f32 := Memref.whole cc0_stg0_0
abbrev wqM : Memref sig .tc .vmem S512x256 .f32 := Memref.whole cc0_stg1_0
abbrev kA : Memref sig .tc .hbm S2x256x128x64 .f32 := Memref.whole main_arg2
abbrev vA : Memref sig .tc .hbm S2x256x128x64 .f32 := Memref.whole main_arg3
abbrev woM : Memref sig .tc .vmem S256x512 .f32 := Memref.whole cc0_stg2_0
abbrev outM : Memref sig .tc .vmem S2x256x512 .f32 := Memref.whole cc0_stg3_0
abbrev k4M : Memref sig .tc .vmem S2x256x4x64 .f32 := Memref.whole cc0_scratch0
abbrev v4M : Memref sig .tc .vmem S2x256x4x64 .f32 := Memref.whole cc0_scratch1
abbrev ktM : Memref sig .tc .vmem S8x256x64 .f32 := Memref.whole cc0_scratch2
abbrev vtM : Memref sig .tc .vmem S8x256x64 .f32 := Memref.whole cc0_scratch3
abbrev pM : Memref sig .tc .vmem S512x512 .f32 := Memref.whole cc0_scratch4
abbrev pbM : Memref sig .tc .vmem S512x512 .bf16 := Memref.whole cc0_scratch5
abbrev rsM : Memref sig .tc .vmem S512x512 .bf16 := Memref.whole cc0_scratch6
abbrev redM : Memref sig .tc .vmem S16x512 .bf16 := Memref.whole cc0_scratch7
abbrev agM : Memref sig .tc .vmem S512x512 .bf16 := Memref.whole cc0_scratch8

/-! ## The slices the transfers name -/

/-- A slot lies within the buffer. -/
theorem slot_inb (j : Fin 32) : ∀ a, (![16 * j.val, 0] : Fin 2 → ℕ) a + S16x512.size a ≤ S512x512.size a := by
  revert j; decide
/-- Rows `16 j` to `16 j + 15` of a 512-row buffer. -/
abbrev slotR (j : Fin 32) : Rect S512x512 := Rect.unit (s := S512x512) ![16 * j.val, 0] S16x512.size (slot_inb j)
/-- The sixteen-row slot `j` of a 512-row scratch buffer. -/
abbrev slot (M : Memref sig .tc .vmem S512x512 .bf16) (j : Fin 32) : Memref sig .tc .vmem S16x512 .bf16 :=
  M.slice (slotR j) (fun _ => rfl)

/-- A half lies within the buffer. -/
theorem half_inb (b : Fin 2) : ∀ a, (![256 * b.val, 0] : Fin 2 → ℕ) a + S256x512.size a ≤ S512x512.size a := by
  revert b; decide
abbrev halfR (b : Fin 2) : Rect S512x512 := Rect.unit (s := S512x512) ![256 * b.val, 0] S256x512.size (half_inb b)

/-- A device's slice lies within the cache. -/
theorem src_inb (c : Dev nD) (b : Fin 2) : ∀ a, (![b.val, 0, 4 * c.val, 0] : Fin 4 → ℕ) a + S1x256x4x64.size a ≤ S2x256x128x64.size a := by
  revert c b; decide
abbrev srcR (c : Dev nD) (b : Fin 2) : Rect S2x256x128x64 := Rect.unit (s := S2x256x128x64) ![b.val, 0, 4 * c.val, 0] S1x256x4x64.size (src_inb c b)
/-- Batch `b`'s slice of K or V at device `c`'s four heads. -/
abbrev srcS (A : Memref sig .tc .hbm S2x256x128x64 .f32) (c : Dev nD) (b : Fin 2) : Memref sig .tc .hbm S256x4x64 .f32 :=
  (A.slice (srcR c b) (fun _ => rfl)).squeeze S256x4x64 squeezes_S1x256x4x64_S256x4x64

/-- A slab lies within the buffer. -/
theorem slab_inb (b : Fin 2) : ∀ a, (![b.val, 0, 0, 0] : Fin 4 → ℕ) a + S1x256x4x64.size a ≤ S2x256x4x64.size a := by
  revert b; decide
abbrev slabR (b : Fin 2) : Rect S2x256x4x64 := Rect.unit (s := S2x256x4x64) ![b.val, 0, 0, 0] S1x256x4x64.size (slab_inb b)
/-- Batch `b`'s slab of the four-head buffer. -/
abbrev slab (M : Memref sig .tc .vmem S2x256x4x64 .f32) (b : Fin 2) : Memref sig .tc .vmem S256x4x64 .f32 :=
  (M.slice (slabR b) (fun _ => rfl)).squeeze S256x4x64 squeezes_S1x256x4x64_S256x4x64

/-- A head's column lies within the buffer. -/
theorem col_inb (b : Fin 2) (h : Fin 4) : ∀ a, (![b.val, 0, h.val, 0] : Fin 4 → ℕ) a + S1x256x1x64.size a ≤ S2x256x4x64.size a := by
  revert b h; decide
abbrev colR (b : Fin 2) (h : Fin 4) : Rect S2x256x4x64 := Rect.unit (s := S2x256x4x64) ![b.val, 0, h.val, 0] S1x256x1x64.size (col_inb b h)
/-- Head `h` of batch `b`'s slab. -/
abbrev col (M : Memref sig .tc .vmem S2x256x4x64 .f32) (b : Fin 2) (h : Fin 4) : Memref sig .tc .vmem S256x64 .f32 :=
  (M.slice (colR b h) (fun _ => rfl)).squeeze S256x64 squeezes_S1x256x1x64_S256x64

/-- A head lies within the buffer. -/
theorem head_inb (i : Fin 8) : ∀ a, (![i.val, 0, 0] : Fin 3 → ℕ) a + S1x256x64.size a ≤ S8x256x64.size a := by
  revert i; decide
abbrev headR (i : Fin 8) : Rect S8x256x64 := Rect.unit (s := S8x256x64) ![i.val, 0, 0] S1x256x64.size (head_inb i)
/-- Slab `i` (batch `i / 4`, head `i % 4`) of the head-major buffer. -/
abbrev head (M : Memref sig .tc .vmem S8x256x64 .f32) (i : Fin 8) : Memref sig .tc .vmem S256x64 .f32 :=
  (M.slice (headR i) (fun _ => rfl)).squeeze S256x64 squeezes_S1x256x64_S256x64

abbrev bOf (i : Fin 8) : Fin 2 := ⟨i.val / 4, by omega⟩
abbrev hOf (i : Fin 8) : Fin 4 := ⟨i.val % 4, by omega⟩

/-- A head's rows lie within the output weights. -/
theorem wo_inb (h : Fin 4) : ∀ a, (![64 * h.val, 0] : Fin 2 → ℕ) a + S64x512.size a ≤ S256x512.size a := by
  revert h; decide
abbrev woR (h : Fin 4) : Rect S256x512 := Rect.unit (s := S256x512) ![64 * h.val, 0] S64x512.size (wo_inb h)

/-! ## The values -/

section Vals
variable (m : (ℓ : Loc nD τ sig) → Buf (Elt F) ℓ)

/-- The staged operands of device `c`: the input, its block of the query weights, its block of the output weights. -/
def xv (c : Dev nD) : (cc0_stg0_0 : Ref sig .tc).ty.Contents (Elt F) :=
  (win0_0.blk (0 : Fin 1)).view.read (Elt F) (m ((c : Thread nD τ).loc main_arg0))
def wqv (c : Dev nD) : (cc0_stg1_0 : Ref sig .tc).ty.Contents (Elt F) :=
  (win0_1.blk (0 : Fin 1)).view.read (Elt F) (m ((c : Thread nD τ).loc main_arg1))
def wov (c : Dev nD) : (cc0_stg2_0 : Ref sig .tc).ty.Contents (Elt F) :=
  (win0_2.blk (0 : Fin 1)).view.read (Elt F) (m ((c : Thread nD τ).loc main_arg4))

/-- Batch `b`'s slice of K (of V) at device `c`'s heads. -/
def kSlab (c : Dev nD) (b : Fin 2) : Vec F S256x4x64 .f32 := (srcS kA c b).view.read (Elt F) (m ((c : Thread nD τ).loc main_arg2))
def vSlab (c : Dev nD) (b : Fin 2) : Vec F S256x4x64 .f32 := (srcS vA c b).view.read (Elt F) (m ((c : Thread nD τ).loc main_arg3))
/-- One head of a slab. -/
def colOf (w : Vec F S256x4x64 .f32) (h : Fin 4) : Vec F S256x64 .f32 := fun x => w (ValueIdx.ix3 (x 0) h (x 1))
def kHead (c : Dev nD) (i : Fin 8) : Vec F S256x64 .f32 := colOf (kSlab m c (bOf i)) (hOf i)
def vHead (c : Dev nD) (i : Fin 8) : Vec F S256x64 .f32 := colOf (vSlab m c (bOf i)) (hOf i)
/-- A head as the load of its slab reads it, with a leading unit axis. -/
def unsq (w : Vec F S256x64 .f32) : Vec F S1x256x64 .f32 :=
  fun y => w ((Shape.reshapeEquiv (squeezes_S1x256x64_S256x64).numel_eq).symm y)
def kv (c : Dev nD) (i : Fin 8) : Vec F S1x256x64 .f32 := unsq (kHead m c i)
def vv (c : Dev nD) (i : Fin 8) : Vec F S1x256x64 .f32 := unsq (vHead m c i)
/-- Head `h`'s rows of the output weights. -/
def woH (c : Dev nD) (h : Fin 4) : Vec F S64x512 .f32 := woM.view.readAt (Elt F) (woR h).toLoadRect (wov m c)

/-- The queries of the device's four heads. -/
def qv (c : Dev nD) : FVec F S512x256 .f32 := k0_pay1 (xv m c) (wqv m c)

def iotaV : IVec S256x256 32 := iota .tc S256x256 32 [0] iota_S256x256_d0_w32
def sgnV : BitVec 32 := Scalar.extui (Scalar.cmpi .sgt 64#32 0#32)
def modV : BitVec 32 := Scalar.select (Scalar.cmpi .eq 3#32 0#32) 1#32 3#32
/-- The block mask. -/
def maskV : IVec S256x256 1 :=
  k0_pay9 (k0_pay6 iotaV 64#32 k0_pay2 k0_pay3 sgnV) (k0_pay7 iotaV 64#32 k0_pay2 k0_pay3 sgnV) modV k0_pay8

/-- The running partial products of batch 0 and what is carried between them, in program order. -/
def acc0a (c : Dev nD) : FVec F S256x512 .f32 := k0_pay11 maskV (k0_pay10 (qv m c) (kv m c 0)) (vv m c 0) (woH m c 0)
def acc0b (c : Dev nD) : FVec F S256x512 .f32 :=
  k0_pay14 (acc0a m c) (k0_pay12 (qv m c) maskV (kv m c 1)) (k0_pay13 (qv m c) maskV (kv m c 1)) (vv m c 1) (woH m c 1)
def ctx0c (c : Dev nD) : FVec F S256x64 .f32 := k0_pay15 (qv m c) maskV (kv m c 2) (vv m c 2)
/-- Batch 0's partial product, as stored. -/
def pb0 (c : Dev nD) : FVec F S256x512 .bf16 :=
  k0_pay20 (k0_pay19 (qv m c) maskV (acc0b m c) (ctx0c m c) (k0_pay16 (woH m c 2)) (kv m c 3) (vv m c 3) (woH m c 3))
/-- The running partial products of batch 1. -/
def acc1a (c : Dev nD) : FVec F S256x512 .f32 := k0_pay21 (qv m c) maskV (kv m c 4) (vv m c 4) (woH m c 0)
def acc1b (c : Dev nD) : FVec F S256x512 .f32 :=
  k0_pay24 maskV (acc1a m c) (k0_pay22 (qv m c)) (k0_pay23 (kv m c 5)) (vv m c 5) (woH m c 1)
def acc1c (c : Dev nD) : FVec F S256x512 .f32 :=
  k0_pay26 (acc1b m c) (k0_pay25 (qv m c) maskV (kv m c 6)) (vv m c 6) (woH m c 2)
/-- Batch 1's partial product, as stored. -/
def pb1 (c : Dev nD) : FVec F S256x512 .bf16 := k0_pay30 (acc1c m c) (k0_pay27 (qv m c) maskV (kv m c 7) (vv m c 7)) (woH m c 3)

def pbHalf (c : Dev nD) (b : Fin 2) : FVec F S256x512 .bf16 := if b = 0 then pb0 m c else pb1 m c

abbrev halfOf (j : Fin 32) : Fin 2 := ⟨j.val / 16, by omega⟩
/-- Rows `16 j …` of a device's partial product: what it sends device `j`. -/
def pbRow (c : Dev nD) (j : Fin 32) : Vec F S16x512 .bf16 := fun x =>
  pbHalf m c (halfOf j) (ValueIdx.ix2 (⟨16 * (j.val % 16) + (x 0).val, by have : (x 0).val < 16 := (x 0).isLt; omega⟩ : Fin 256) (x 1))

/-- What slot `j` of device `c`'s landing buffer holds: device `j`'s rows for `c`. -/
def rsRow (c : Dev nD) (j : Fin 32) : Vec F S16x512 .bf16 := pbRow m j c

/-- The running sums of the 32 slots and the rows as stored. -/
def sum0 (c : Dev nD) : FVec F S16x512 .f32 := k0_pay32 (rsRow m c 0) (rsRow m c 1) (rsRow m c 2) (rsRow m c 3) (rsRow m c 4)
def sum1 (c : Dev nD) : FVec F S16x512 .f32 :=
  k0_pay33 (sum0 m c) (rsRow m c 5) (rsRow m c 6) (rsRow m c 7) (rsRow m c 8) (rsRow m c 9) (rsRow m c 10) (rsRow m c 11)
    (rsRow m c 12) (rsRow m c 13) (rsRow m c 14) (rsRow m c 15) (rsRow m c 16)
def sum2 (c : Dev nD) : FVec F S16x512 .f32 :=
  k0_pay34 (sum1 m c) (rsRow m c 17) (rsRow m c 18) (rsRow m c 19) (rsRow m c 20) (rsRow m c 21) (rsRow m c 22) (rsRow m c 23)
    (rsRow m c 24) (rsRow m c 25) (rsRow m c 26) (rsRow m c 27) (rsRow m c 28)
/-- The sixteen rows device `c` reduces. -/
def redV (c : Dev nD) : (cc0_scratch7 : Ref sig .tc).ty.Contents (Elt F) :=
  k0_pay35 (sum2 m c) (rsRow m c 29) (rsRow m c 30) (rsRow m c 31)

/-- The gathered rows: slot `j` is device `j`'s. -/
def agV : Vec F S512x512 .bf16 := fun i =>
  redV m (⟨(i 0).val / 16, by have : (i 0).val < 512 := (i 0).isLt; show _ < 32; omega⟩ : Dev nD)
    (ValueIdx.ix2 (⟨(i 0).val % 16, Nat.mod_lt _ (by decide)⟩ : Fin 16) (i 1))
/-- The result, the same on every device. -/
def outV : (cc0_stg3_0 : Ref sig .tc).ty.Contents (Elt F) := k0_pay37 (agV m)

end Vals

end Cert.Attn
-- ==== Proof.Proto.lean ====
/-
# The protocol of the kernel's semaphores

Every semaphore the body touches is a cell of one schedule of one round: the barrier semaphore, with one unit from each
other device, which hands over that device's two landing slots; the cells of the local copies; and the four families of
cells of the two exchanges, each of 32 cells, one per peer.
-/
module

public import proofs.«01_k».proof.Proof.Vals

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Memrefs held at a value -/

/-- The elements of a memref on device `c`, read as `v`. -/
def holds {sp : Space} {s : Shape} {e : EltTy} (M : Memref sig .tc sp s e) (c : Dev nD) (v : Vec F s e) : sProp 𝕄 :=
  iprop(∃ f : Buf (Elt F) (M.view.loc (c : Thread nD τ)), ⌜M.view.read (Elt F) f = v⌝ ∗ (M.view.loc (c : Thread nD τ) ↦[M.view.set]{fullShare} f))
/-- The elements of a memref on device `c`, at any contents. -/
def anyOf {sp : Space} {s : Shape} {e : EltTy} (M : Memref sig .tc sp s e) (c : Dev nD) : sProp 𝕄 :=
  iprop(∃ f : Buf (Elt F) (M.view.loc (c : Thread nD τ)), (M.view.loc (c : Thread nD τ) ↦[M.view.set]{fullShare} f))

omit [FloatOps F] in
/-- A part holding a value holds something. -/
theorem holds_any {sp : Space} {s : Shape} {e : EltTy} (M : Memref sig .tc sp s e) (c : Dev nD) (v : Vec F s e) :
    (holds M c v : sProp 𝕄) ⊢ anyOf M c := by
  unfold holds anyOf
  iintro ⟨%f, -, H⟩
  iexists f; iexact H

omit [FloatOps F] in
instance holds_storable {sp : Space} {s : Shape} {e : EltTy} (M : Memref sig .tc sp s e) (c : Dev nD) (v : Vec F s e) :
    BI.Storable (upEmb : UEmb _ 𝕄) (holds (F := F) M c v) := by unfold holds; infer_instance
omit [FloatOps F] in
instance anyOf_storable {sp : Space} {s : Shape} {e : EltTy} (M : Memref sig .tc sp s e) (c : Dev nD) :
    BI.Storable (upEmb : UEmb _ 𝕄) (anyOf (F := F) M c) := by unfold anyOf; infer_instance

/-! ## The cells -/

abbrev barS : Sem sig := (SemArray.scalar (sig.barrier 0 rfl) : Sems sig S_).sem
abbrev barCell (c : Dev nD) : GSem nD τ sig := ((c : Thread nD τ), .reg barS)
/-- DMA semaphore number `n`. -/
abbrev dsem (n : ℕ) (h : n < 152) : DmaSem sig := (⟨n, h⟩ : Fin 152)
abbrev dcell (c : Dev nD) (n : ℕ) (h : n < 152) : GSem nD τ sig := ((c : Thread nD τ), .dma (dsem n h))

/-- The four cell families of the exchanges start at semaphores 24, 56, 88 and 120. -/
abbrev s1Cell (c : Dev nD) (j : Fin 32) : GSem nD τ sig := dcell c (24 + j.val) (by omega)
abbrev r1Cell (c : Dev nD) (j : Fin 32) : GSem nD τ sig := dcell c (56 + j.val) (by omega)
abbrev s2Cell (c : Dev nD) (j : Fin 32) : GSem nD τ sig := dcell c (88 + j.val) (by omega)
abbrev r2Cell (c : Dev nD) (j : Fin 32) : GSem nD τ sig := dcell c (120 + j.val) (by omega)

/-- The semaphore indexed for a send of the first exchange is 24 and the place. -/
theorem s1_sem (o : Fin 1 → ℕ) (j : Fin 32) (ho : o = ![j.val]) (inb) (h) :
    ((cc0_scratch11.slice (Rect.unit (s := S32) o S1.size inb)).squeeze S_ h).sem = dsem (24 + j.val) (by omega) := by
  subst ho; revert inb; revert j; decide
/-- The semaphore indexed for an arrival of the first exchange is 56 and the place. -/
theorem r1_sem (o : Fin 1 → ℕ) (j : Fin 32) (ho : o = ![j.val]) (inb) (h) :
    ((cc0_scratch12.slice (Rect.unit (s := S32) o S1.size inb)).squeeze S_ h).sem = dsem (56 + j.val) (by omega) := by
  subst ho; revert inb; revert j; decide
/-- The semaphore indexed for a send of the second exchange is 88 and the place. -/
theorem s2_sem (o : Fin 1 → ℕ) (j : Fin 32) (ho : o = ![j.val]) (inb) (h) :
    ((cc0_scratch13.slice (Rect.unit (s := S32) o S1.size inb)).squeeze S_ h).sem = dsem (88 + j.val) (by omega) := by
  subst ho; revert inb; revert j; decide
/-- The semaphore indexed for an arrival of the second exchange is 120 and the place. -/
theorem r2_sem (o : Fin 1 → ℕ) (j : Fin 32) (ho : o = ![j.val]) (inb) (h) :
    ((cc0_scratch14.slice (Rect.unit (s := S32) o S1.size inb)).squeeze S_ h).sem = dsem (120 + j.val) (by omega) := by
  subst ho; revert inb; revert j; decide
/-- The semaphore indexed for a slab copy is 4 and its number. -/
theorem kv_sem (o : Fin 1 → ℕ) (j : Fin 4) (ho : o = ![j.val]) (inb) (h) :
    ((cc0_scratch9.slice (Rect.unit (s := S4) o S1.size inb)).squeeze S_ h).sem = dsem (4 + j.val) (by omega) := by
  subst ho; revert inb; revert j; decide
/-- The semaphore indexed for a head copy is 8 and its number. -/
theorem tr_sem (o : Fin 1 → ℕ) (j : Fin 16) (ho : o = ![j.val]) (inb) (h) :
    ((cc0_scratch10.slice (Rect.unit (s := S16) o S1.size inb)).squeeze S_ h).sem = dsem (8 + j.val) (by omega) := by
  subst ho; revert inb; revert j; decide

/-- What a copy of one slab, one head and one slot credits. -/
abbrev Nkv : ℕ := (slab k4M 0).view.dmaCredit
abbrev Ntr : ℕ := (head ktM 0).view.dmaCredit
abbrev Nx : ℕ := (slot rsM 0).view.dmaCredit
/-- A slab copy credits something. -/
theorem Nkv_pos : 0 < Nkv := View.dmaCredit_pos _ (by decide)
/-- A head copy credits something. -/
theorem Ntr_pos : 0 < Ntr := View.dmaCredit_pos _ (by decide)
/-- A send of a slot credits something. -/
theorem Nx_pos : 0 < Nx := View.dmaCredit_pos _ (by decide)

/-! ## The schedule -/

section Sched
variable (m : (ℓ : Loc nD τ sig) → Buf (Elt F) ℓ)

/-- Device `d`'s unit on `c`'s barrier cell hands over `d`'s two landing slots for `c`'s rows. -/
def barPay (c d : Dev nD) : sProp 𝕄 := iprop(anyOf (slot rsM c) d ∗ anyOf (slot agM c) d)
/-- Device `c`'s slice of K (of V) in its array. -/
def kSrc (c : Dev nD) (b : Fin 2) : sProp 𝕄 :=
  ((c : Thread nD τ).loc main_arg2) ↦[(srcS kA c b).view.set]{fullShare} m ((c : Thread nD τ).loc main_arg2)
def vSrc (c : Dev nD) (b : Fin 2) : sProp 𝕄 :=
  ((c : Thread nD τ).loc main_arg3) ↦[(srcS vA c b).view.set]{fullShare} m ((c : Thread nD τ).loc main_arg3)
/-- A slab copy: the slab at the array's slice, and the slice back. -/
def kvPay (c : Dev nD) (i : Fin 4) : sProp 𝕄 :=
  if i.val % 2 = 0 then iprop(holds (slab k4M ⟨i.val / 2, by omega⟩) c (kSlab m c ⟨i.val / 2, by omega⟩) ∗ kSrc m c ⟨i.val / 2, by omega⟩)
  else iprop(holds (slab v4M ⟨i.val / 2, by omega⟩) c (vSlab m c ⟨i.val / 2, by omega⟩) ∗ vSrc m c ⟨i.val / 2, by omega⟩)
/-- A head copy: the head's slab, and the column it was read from back. -/
def trPay (c : Dev nD) (i : Fin 16) : sProp 𝕄 :=
  if h : i.val < 8 then
    iprop(holds (head ktM ⟨i.val, h⟩) c (kHead m c ⟨i.val, h⟩) ∗ anyOf (col k4M (bOf ⟨i.val, h⟩) (hOf ⟨i.val, h⟩)) c)
  else
    iprop(holds (head vtM ⟨i.val - 8, by omega⟩) c (vHead m c ⟨i.val - 8, by omega⟩)
      ∗ anyOf (col v4M (bOf ⟨i.val - 8, by omega⟩) (hOf ⟨i.val - 8, by omega⟩)) c)
/-- First exchange: the sender's rows back; device `j`'s rows in slot `j`. -/
def s1Pay (c : Dev nD) (j : Fin 32) : sProp 𝕄 := anyOf (slot pbM j) c
def r1Pay (c : Dev nD) (j : Fin 32) : sProp 𝕄 := holds (slot rsM j) c (rsRow m c j)
/-- Second exchange: the share of the reduced rows back; device `j`'s reduced rows in slot `j`. -/
def s2Pay (c : Dev nD) (j : Fin 32) : sProp 𝕄 :=
  ((c : Thread nD τ).loc cc0_scratch7) ↦{Transfers.shareTok fullShare 32 j} redV m c
def r2Pay (c : Dev nD) (j : Fin 32) : sProp 𝕄 := holds (slot agM j) c (redV m j)

def dmaPay (c : Dev nD) (n : ℕ) : sProp 𝕄 :=
  if h : 4 ≤ n ∧ n < 8 then kvPay m c ⟨n - 4, by omega⟩
  else if h : 8 ≤ n ∧ n < 24 then trPay m c ⟨n - 8, by omega⟩
  else if h : 24 ≤ n ∧ n < 56 then s1Pay c ⟨n - 24, by omega⟩
  else if h : 56 ≤ n ∧ n < 88 then r1Pay m c ⟨n - 56, by omega⟩
  else if h : 88 ≤ n ∧ n < 120 then s2Pay m c ⟨n - 88, by omega⟩
  else if h : 120 ≤ n ∧ n < 152 then r2Pay m c ⟨n - 120, by omega⟩
  else iprop(emp)

def dmaAmt (n : ℕ) : ℕ := if n < 8 then Nkv else if n < 24 then Ntr else Nx

/-- Semaphore `n` of device `c` is credited: a copy's, or an exchange's whose peer is another device. -/
def dmaUsed (c : Dev nD) (n : ℕ) : Prop := 4 ≤ n ∧ (24 ≤ n → (n - 24) % 32 ≠ c.val)
instance (c : Dev nD) (n : ℕ) : Decidable (dmaUsed c n) := by unfold dmaUsed; infer_instance

def dutiesOf (c : Dev nD) : SemLoc sig → Finset (Fin 32)
  | .reg s => if s = barS then Finset.univ.filter (fun d => d ≠ c) else ∅
  | .dma q => if dmaUsed c q.val then {0} else ∅
def amountOf' : SemLoc sig → ℕ
  | .reg _ => 1
  | .dma q => dmaAmt q.val
def payOf (c : Dev nD) (d : Fin 32) : SemLoc sig → sProp 𝕄
  | .reg s => barPay c d
  | .dma q => dmaPay m c q.val

/-- Every DMA cell's duty credits something. -/
theorem dmaAmt_pos (n : ℕ) : 0 < dmaAmt n := by
  unfold dmaAmt; split_ifs
  · exact Nkv_pos
  · exact Ntr_pos
  · exact Nx_pos

/-- One round. -/
def Rd : Rounds.Schedule (GSem nD τ sig) (Fin 32) 𝕄 where
  duties g r := if r = 0 ∧ g.1.2 = .tc then dutiesOf g.1.1 g.2 else ∅
  unitless _ := False
  amount g _ _ := amountOf' g.2
  payload g _ d := payOf m g.1.1 d g.2
  amount_pos g _ _ _ := by
    show 0 < amountOf' g.2
    cases g.2 with
    | reg _ => exact Nat.one_pos
    | dma q => exact dmaAmt_pos _

instance dmaPay_storable (c : Dev nD) (n : ℕ) : BI.Storable (upEmb : UEmb _ 𝕄) (dmaPay m c n) := by
  unfold dmaPay kvPay kSrc vSrc trPay s1Pay r1Pay s2Pay r2Pay
  (repeat' split) <;> infer_instance

instance Rd_storable (g : GSem nD τ sig) (r : ℕ) (d : Fin 32) : BI.Storable (upEmb : UEmb _ 𝕄) ((Rd m).payload g r d) := by
  show BI.Storable upEmb (payOf m g.1.1 d g.2)
  cases g.2 with
  | reg _ => show BI.Storable upEmb (barPay g.1.1 d); unfold barPay; infer_instance
  | dma q => exact dmaPay_storable m g.1.1 q.val

/-- The duties of a cell's first round are those of its semaphore. -/
theorem duties_zero (c : Dev nD) (sm : SemLoc sig) : (Rd m).duties ((c : Thread nD τ), sm) 0 = dutiesOf c sm := by
  dsimp only [Rd]; exact if_pos ⟨rfl, rfl⟩
/-- A barrier has one duty for each peer. -/
theorem duties_bar (c : Dev nD) : (Rd m).duties (barCell c) 0 = Finset.univ.filter (fun d => d ≠ c) := by
  rw [duties_zero]; dsimp only [dutiesOf]; rw [if_pos rfl]
/-- A DMA cell in use has one duty. -/
theorem duties_dma (c : Dev nD) (n : ℕ) (h : n < 152) (hu : dmaUsed c n) : (Rd m).duties (dcell c n h) 0 = {0} := by
  rw [duties_zero]; dsimp only [dutiesOf]; rw [if_pos hu]
/-- No cell has duties after its first round. -/
theorem duties_later (g : GSem nD τ sig) : ∀ r, 1 ≤ r → (Rd m).duties g r = ∅ :=
  fun r hr => if_neg fun h => by have := h.1; omega
/-- A DMA cell not in use has no duties. -/
theorem duties_unused (c : Dev nD) (n : ℕ) (h : n < 152) (hu : ¬ dmaUsed c n) (r : ℕ) : (Rd m).duties (dcell c n h) r = ∅ := by
  by_cases hr : r = 0 ∧ ((c : Thread nD τ)).2 = .tc
  · exact (if_pos hr).trans (if_neg hu)
  · exact if_neg hr

/-- A barrier's duty credits one unit. -/
theorem amount_bar (c : Dev nD) (d : Fin 32) : (Rd m).amount (barCell c) 0 d = 1 := rfl
/-- A DMA cell's duty credits its copy's size. -/
theorem amount_dma (c : Dev nD) (n : ℕ) (h : n < 152) (d : Fin 32) : (Rd m).amount (dcell c n h) 0 d = dmaAmt n := rfl
/-- A barrier's duty hands over the landing slots its peer gives. -/
theorem payload_bar (c : Dev nD) (d : Fin 32) : (Rd m).payload (barCell c) 0 d = barPay c d := rfl
/-- A DMA cell's duty hands over its copy's payload. -/
theorem payload_dma (c : Dev nD) (n : ℕ) (h : n < 152) (d : Fin 32) : (Rd m).payload (dcell c n h) 0 d = dmaPay m c n := rfl

/-- A barrier awaits 31 units. -/
theorem expect_bar (c : Dev nD) : (Rd m).expect (barCell c) 0 = 31 := by
  unfold Schedule.expect Schedule.amountOf
  rw [duties_bar, Finset.sum_congr rfl fun d _ => amount_bar m c d, Finset.sum_const, smul_eq_mul, mul_one]
  revert c; decide
/-- A DMA cell in use awaits its copy's size. -/
theorem expect_dma (c : Dev nD) (n : ℕ) (h : n < 152) (hu : dmaUsed c n) : (Rd m).expect (dcell c n h) 0 = dmaAmt n := by
  unfold Schedule.expect Schedule.amountOf; rw [duties_dma m c n h hu, Finset.sum_singleton, amount_dma]

/-- A barrier's wait receives the landing slots on every peer. -/
theorem rest_bar (c : Dev nD) : bigSep ((Rd m).duties (barCell c) 0 \ ∅) (fun d => (Rd m).payload (barCell c) 0 d)
    = bigSep (Finset.univ.filter (fun d : Dev nD => d ≠ c)) (fun d => barPay c d) := by
  rw [Finset.sdiff_empty, duties_bar]; rfl
/-- A DMA cell's wait receives its copy's payload. -/
theorem rest_dma (c : Dev nD) (n : ℕ) (h : n < 152) (hu : dmaUsed c n) :
    bigSep ((Rd m).duties (dcell c n h) 0 \ ∅) (fun d => (Rd m).payload (dcell c n h) 0 d) = dmaPay m c n := by
  rw [Finset.sdiff_empty, duties_dma m c n h hu, bigSep_singleton, payload_dma]

end Sched

end Cert.Attn
-- ==== Proof.Ghost.lean ====
/-
# What each device owes, the levels, and the shared context of the proof
-/
module

public import proofs.«01_k».proof.Proof.Proto

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Peers -/

/-- The peers of `c` numbered from `a` up to `b`. -/
def seg (c : Dev nD) (a b : ℕ) : Finset (Fin 32) := Finset.univ.filter (fun j => (a ≤ j.val ∧ j.val < b) ∧ j ≠ c)

/-- A place is in a range of peers when it is in the range and not the device's own. -/
theorem mem_seg {c : Dev nD} {a b : ℕ} {j : Fin 32} : j ∈ seg c a b ↔ (a ≤ j.val ∧ j.val < b) ∧ j ≠ c := by
  unfold seg; rw [Finset.mem_filter]; exact and_iff_right (Finset.mem_univ _)
/-- A peer is not the device itself. -/
theorem ne_of_seg {c : Dev nD} {a b : ℕ} {j : Fin 32} (h : j ∈ seg c a b) : j ≠ c := (mem_seg.mp h).2

/-- A range of peers is its first peer and those after. -/
theorem seg_pop {c : Dev nD} {k e : ℕ} (j : Fin 32) (hj : j.val = k) (he : k < e) (hc : c ≠ j) :
    seg c k e = insert j (seg c (k + 1) e) := by
  ext i; rw [Finset.mem_insert, mem_seg, mem_seg, Fin.ext_iff]
  constructor
  · rintro ⟨⟨h1, h2⟩, h3⟩
    by_cases h : i.val = j.val
    · exact .inl h
    · exact .inr ⟨⟨by omega, h2⟩, h3⟩
  · rintro (h | ⟨⟨h1, h2⟩, h3⟩)
    · have : i = j := Fin.ext h
      subst this; exact ⟨⟨by omega, by omega⟩, Ne.symm hc⟩
    · exact ⟨⟨by omega, h2⟩, h3⟩
/-- A range of peers starting at the device itself starts one later. -/
theorem seg_pop_self {c : Dev nD} {k : ℕ} (e : ℕ) (hj : c.val = k) : seg c k e = seg c (k + 1) e := by
  ext i; rw [mem_seg, mem_seg]
  constructor
  · rintro ⟨⟨h1, h2⟩, h3⟩
    refine ⟨⟨?_, h2⟩, h3⟩
    have : i.val ≠ c.val := fun h => h3 (Fin.ext h)
    omega
  · rintro ⟨⟨h1, h2⟩, h3⟩
    exact ⟨⟨by omega, h2⟩, h3⟩
/-- A place is not in the range after it. -/
theorem not_mem_seg_succ {c : Dev nD} {k e : ℕ} (j : Fin 32) (hj : j.val = k) : j ∉ seg c (k + 1) e := by
  rw [mem_seg]; omega
/-- A range of peers extended by a peer gains that peer. -/
theorem seg_push {c : Dev nD} {s k : ℕ} (j : Fin 32) (hj : j.val = k) (hs : s ≤ k) (hc : c ≠ j) :
    seg c s (k + 1) = insert j (seg c s k) := by
  ext i; rw [Finset.mem_insert, mem_seg, mem_seg, Fin.ext_iff]
  constructor
  · rintro ⟨⟨h1, h2⟩, h3⟩
    by_cases h : i.val = j.val
    · exact .inl h
    · exact .inr ⟨⟨h1, by omega⟩, h3⟩
  · rintro (h | ⟨⟨h1, h2⟩, h3⟩)
    · have : i = j := Fin.ext h
      subst this; exact ⟨⟨by omega, by omega⟩, Ne.symm hc⟩
    · exact ⟨⟨by omega, by omega⟩, h3⟩
/-- A range of peers extended by the device itself gains nothing. -/
theorem seg_push_self {c : Dev nD} {k : ℕ} (s : ℕ) (hj : c.val = k) : seg c s (k + 1) = seg c s k := by
  ext i; rw [mem_seg, mem_seg]
  constructor
  · rintro ⟨⟨h1, h2⟩, h3⟩
    refine ⟨⟨h1, ?_⟩, h3⟩
    have : i.val ≠ c.val := fun h => h3 (Fin.ext h)
    omega
  · rintro ⟨⟨h1, h2⟩, h3⟩
    exact ⟨⟨h1, by omega⟩, h3⟩
/-- A place is not in the range that ends before it. -/
theorem not_mem_seg_end {c : Dev nD} {s k : ℕ} (j : Fin 32) (hj : j.val = k) : j ∉ seg c s k := by
  rw [mem_seg]; omega
/-- A range of peers from a place to itself is empty. -/
theorem seg_empty (c : Dev nD) (k : ℕ) : seg c k k = ∅ := by
  ext i; rw [mem_seg]; constructor
  · omega
  · exact fun h => absurd h (Finset.notMem_empty _)
/-- The full range is all the places but the device's own. -/
theorem seg_full (c : Dev nD) : seg c 0 32 = Finset.univ.filter (fun j : Fin 32 => j ≠ c) := by
  ext i; rw [mem_seg, Finset.mem_filter]
  exact ⟨fun h => ⟨Finset.mem_univ _, h.2⟩, fun h => ⟨⟨Nat.zero_le _, i.isLt⟩, h.2⟩⟩
/-- The full range is every place with the device's own erased. -/
theorem seg_full' (c : Dev nD) : seg c 0 32 = Finset.univ.erase (c : Fin 32) := by
  rw [seg_full]; ext i; rw [Finset.mem_filter, Finset.mem_erase]; exact and_comm
/-- A range of peers is the union of its parts before and after a place. -/
theorem seg_split (c : Dev nD) (a k b : ℕ) (h1 : a ≤ k) (h2 : k ≤ b) : seg c a b = seg c a k ∪ seg c k b := by
  ext i; rw [Finset.mem_union, mem_seg, mem_seg, mem_seg]
  constructor
  · rintro ⟨⟨h3, h4⟩, h5⟩
    by_cases h : i.val < k
    · exact .inl ⟨⟨h3, h⟩, h5⟩
    · exact .inr ⟨⟨by omega, h4⟩, h5⟩
  · rintro (⟨⟨h3, h4⟩, h5⟩ | ⟨⟨h3, h4⟩, h5⟩)
    · exact ⟨⟨h3, by omega⟩, h5⟩
    · exact ⟨⟨by omega, h4⟩, h5⟩
/-- A range's parts before and after a place are disjoint. -/
theorem seg_disjoint (c : Dev nD) (a k b : ℕ) : Disjoint (seg c a k) (seg c k b) :=
  Finset.disjoint_left.mpr fun i h1 h2 => by rw [mem_seg] at h1 h2; omega

/-! ## What a device owes -/

/-- The units device `c` owes the barrier cells of its peers from `k` on, and the rows it owes their cells in the two
    exchanges. -/
def owB (c : Dev nD) (k : ℕ) : CellTallies nD τ sig Unit := ∑ j ∈ seg c k 32, tallyAt (barCell j) () 1
def ow1 (c : Dev nD) (k : ℕ) : CellTallies nD τ sig Unit := ∑ j ∈ seg c k 32, tallyAt (r1Cell j c) () Nx
def ow2 (c : Dev nD) (k : ℕ) : CellTallies nD τ sig Unit := ∑ j ∈ seg c k 32, tallyAt (r2Cell j c) () Nx

/-- What is owed from a peer on is what is owed after it and its own tally. -/
theorem ow_pop (f : Fin 32 → GSem nD τ sig) (n : ℕ) {c : Dev nD} {k : ℕ} (j : Fin 32) (hj : j.val = k) (hc : c ≠ j) :
    (∑ i ∈ seg c k 32, tallyAt (f i) () n : CellTallies nD τ sig Unit) = (∑ i ∈ seg c (k + 1) 32, tallyAt (f i) () n) + tallyAt (f j) () n := by
  rw [seg_pop j hj (by omega) hc, Finset.sum_insert (not_mem_seg_succ j hj), add_comm]
/-- Past the last peer nothing is owed. -/
theorem ow_last (f : Fin 32 → GSem nD τ sig) (n : ℕ) {c : Dev nD} : (∑ i ∈ seg c 32 32, tallyAt (f i) () n : CellTallies nD τ sig Unit) = 0 := by
  rw [seg_empty, Finset.sum_empty]

/-- A cell owed something by a sum of tallies is named by one of them. -/
theorem ow_pos {f : Fin 32 → GSem nD τ sig} {n : ℕ} {S : Finset (Fin 32)} {g : GSem nD τ sig} {u : Unit}
    (h : 0 < (∑ i ∈ S, tallyAt (f i) () n : CellTallies nD τ sig Unit) g u) : ∃ j ∈ S, g = f j := by
  induction S using Finset.induction_on with
  | empty => exact absurd h (Nat.lt_irrefl 0)
  | insert a s ha ih =>
    rw [Finset.sum_insert ha, Pi.add_apply, Finsupp.add_apply, tallyAt_apply] at h
    by_cases hg : g = f a ∧ u = ()
    · exact ⟨a, Finset.mem_insert_self _ _, hg.1⟩
    · rw [if_neg hg, Nat.zero_add] at h
      obtain ⟨j, hj, e⟩ := ih h
      exact ⟨j, Finset.mem_insert_of_mem hj, e⟩

def L (g : GSem nD τ sig) : Finset Unit := if g.1.2 = .tc then {()} else ∅
/-- No cell off the tensor cores has a level. -/
theorem L_of_ne (g : GSem nD τ sig) (h : g.1.2 ≠ .tc) : L g = ∅ := if_neg h
/-- Every cell of a tensor core has a level. -/
theorem L_tc (c : Dev nD) (sm : SemLoc sig) : L ((c : Thread nD τ), sm) = {()} := if_pos rfl

/-- The level of a cell: the barrier's 1, the first exchange's landings 2, the second's 3, all others 0. -/
def lvOf : SemLoc sig → ℕ
  | .reg s => if s = barS then 1 else 0
  | .dma q => if 56 ≤ q.val ∧ q.val < 88 then 2 else if 120 ≤ q.val then 3 else 0
def lv (g : GSem nD τ sig) (_ : Unit) : ℕ := lvOf g.2

/-- The barrier's level is 1. -/
theorem lvOf_bar : lvOf (.reg barS) = 1 := by dsimp only [lvOf]; exact if_pos rfl
/-- The level of the first exchange's landings is 2. -/
theorem lvOf_r1 (j : Fin 32) : lvOf (.dma (dsem (56 + j.val) (by omega))) = 2 := by
  dsimp only [lvOf]; exact if_pos ⟨by omega, by omega⟩
/-- The level of the second exchange's landings is 3. -/
theorem lvOf_r2 (j : Fin 32) : lvOf (.dma (dsem (120 + j.val) (by omega))) = 3 := by
  dsimp only [lvOf]; rw [if_neg (by omega)]; exact if_pos (by omega)
/-- The level of the local copies' and the sends' cells is 0. -/
theorem lvOf_low (n : ℕ) (h : n < 152) (hn : n < 56 ∨ (88 ≤ n ∧ n < 120)) : lvOf (.dma (dsem n h)) = 0 := by
  dsimp only [lvOf]; rw [if_neg (by omega)]; exact if_neg (by omega)

omit [FloatOps F] in
/-- A wait on a cell below every cell owed. -/
theorem mayWait (c : Dev nD) (sm : SemLoc sig) (n : ℕ) (O : CellTallies nD τ sig Unit) (hsm : lvOf sm ≤ n)
    (hO : ∀ g u, 0 < O g u → ∃ (d : Dev nD) (s : SemLoc sig), g = ((d : Thread nD τ), s) ∧ n < lvOf s) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, s, rfl, _⟩ := hO g u hg; rw [L_tc]; exact Finset.mem_singleton_self _)
    (fun p hp => by rw [Finset.mem_singleton.mp hp]; exact hsm)
    (fun g u hg => by obtain ⟨d, s, rfl, h⟩ := hO g u hg; exact h)

/-- Everything owed in the first exchange is above level 1. -/
theorem ow1_above (c : Dev nD) (k n : ℕ) (hn : n < 2) (g : GSem nD τ sig) (u : Unit) (h : 0 < ow1 c k g u) :
    ∃ (d : Dev nD) (s : SemLoc sig), g = ((d : Thread nD τ), s) ∧ n < lvOf s := by
  obtain ⟨j, _, rfl⟩ := ow_pos h
  exact ⟨j, _, rfl, by rw [lvOf_r1]; exact hn⟩
/-- Everything owed in the second exchange is above level 2. -/
theorem ow2_above (c : Dev nD) (k n : ℕ) (hn : n < 3) (g : GSem nD τ sig) (u : Unit) (h : 0 < ow2 c k g u) :
    ∃ (d : Dev nD) (s : SemLoc sig), g = ((d : Thread nD τ), s) ∧ n < lvOf s := by
  obtain ⟨j, _, rfl⟩ := ow_pos h
  exact ⟨j, _, rfl, by rw [lvOf_r2]; exact hn⟩
/-- Everything owed to the barriers is above level 0. -/
theorem owB_above (c : Dev nD) (k n : ℕ) (hn : n < 1) (g : GSem nD τ sig) (u : Unit) (h : 0 < owB c k g u) :
    ∃ (d : Dev nD) (s : SemLoc sig), g = ((d : Thread nD τ), s) ∧ n < lvOf s := by
  obtain ⟨j, _, rfl⟩ := ow_pos h
  exact ⟨j, _, rfl, by rw [lvOf_bar]; exact hn⟩
/-- If two debts are above a level, so is their sum. -/
theorem add_above {n : ℕ} {A B : CellTallies nD τ sig Unit}
    (hA : ∀ g u, 0 < A g u → ∃ (d : Dev nD) (s : SemLoc sig), g = ((d : Thread nD τ), s) ∧ n < lvOf s)
    (hB : ∀ g u, 0 < B g u → ∃ (d : Dev nD) (s : SemLoc sig), g = ((d : Thread nD τ), s) ∧ n < lvOf s) :
    ∀ g u, 0 < (A + B) g u → ∃ (d : Dev nD) (s : SemLoc sig), g = ((d : Thread nD τ), s) ∧ n < lvOf s := by
  intro g u h
  rw [Pi.add_apply, Finsupp.add_apply] at h
  rcases Nat.eq_zero_or_pos (A g u) with h0 | h0
  · exact hB g u (by omega)
  · exact hA g u h0

omit [FloatOps F] in
/-- A device that owes nothing may wait on any cell. -/
theorem mayWait_zero (c : Dev nD) (sm : SemLoc sig) : (levAts L lv : sProp 𝕄) ⊢ MayWait (c : Thread nD τ) sm () 0 := by
  rw [MayWait_zero]; iintro -; iempintro

omit [FloatOps F] in
/-- Waits on the barrier and on the cells below level 2 while the two exchanges are owed; -/
theorem mayWait_12 (c : Dev nD) (sm : SemLoc sig) (k k' : ℕ) (h : lvOf sm ≤ 1) :
    (levAts L lv : sProp 𝕄) ⊢ MayWait (c : Thread nD τ) sm () (ow2 c k + ow1 c k') :=
  mayWait c sm 1 _ h (add_above (ow2_above c k 1 (by decide)) (ow1_above c k' 1 (by decide)))
omit [FloatOps F] in
/-- waits below level 3 while the second exchange is owed. -/
theorem mayWait_2 (c : Dev nD) (sm : SemLoc sig) (k : ℕ) (h : lvOf sm ≤ 2) :
    (levAts L lv : sProp 𝕄) ⊢ MayWait (c : Thread nD τ) sm () (ow2 c k) :=
  mayWait c sm 2 _ h (ow2_above c k 2 (by decide))

/-! ## The shared context -/

section Ctx
variable (m : (ℓ : Loc nD τ sig) → Buf (Elt F) ℓ)

/-- The semaphores of a device: the barrier first, then the body's own in order. -/
def csem (k : Fin 149) : SemLoc sig := if h : k.val = 0 then .reg barS else .dma (dsem (k.val + 3) (by omega))
abbrev kcell (ck : Dev nD × Fin 149) : GSem nD τ sig := ((ck.1 : Thread nD τ), csem ck.2)
/-- A device's cell 0 is its barrier. -/
theorem kcell_bar (c : Dev nD) : kcell (c, 0) = barCell c := rfl
/-- A device's other cells are its DMA cells, in order. -/
theorem kcell_dma (c : Dev nD) (n : ℕ) (h : n < 152) (h4 : 4 ≤ n) : kcell (c, ⟨n - 3, by omega⟩) = dcell c n h := by
  show ((c : Thread nD τ), csem _) = _
  unfold csem
  rw [dif_neg (by dsimp only; omega)]
  have : n - 3 + 3 = n := by omega
  simp only [this]

/-- Every device's cells' invariants and that each is at round 0, and the levels. -/
def ctx (K : Dev nD × Fin 149 → ℕ) : sProp 𝕄 :=
  iprop((bigSep Finset.univ fun ck : Dev nD × Fin 149 => cellInv ER (Rd m) (K ck) (kcell ck))
    ∗ (bigSep Finset.univ fun ck : Dev nD × Fin 149 => reached ER (kcell ck) 0) ∗ levAts L lv)

instance ctx_persistent (K : Dev nD × Fin 149 → ℕ) : BI.Persistent (ctx m K) := by unfold ctx; infer_instance

variable (K : Dev nD × Fin 149 → ℕ)

/-- The context has every cell's invariant. -/
theorem ctx_inv (ck : Dev nD × Fin 149) : ctx m K ⊢ iprop(cellInv ER (Rd m) (K ck) (kcell ck) ∗ reached ER (kcell ck) 0) := by
  unfold ctx
  iintro ⟨#H1, #H2, -⟩
  isplitl
  · iapply (show (bigSep Finset.univ fun ck : Dev nD × Fin 149 => (cellInv ER (Rd m) (K ck) (kcell ck) : sProp 𝕄)) ⊢ cellInv ER (Rd m) (K ck) (kcell ck) from bigSep_elim (Finset.mem_univ ck)); iexact H1
  · iapply (show (bigSep Finset.univ fun ck : Dev nD × Fin 149 => (reached ER (kcell ck) 0 : sProp 𝕄)) ⊢ reached ER (kcell ck) 0 from bigSep_elim (Finset.mem_univ ck)); iexact H2
/-- The context has every barrier's invariant. -/
theorem ctx_bar (c : Dev nD) : ctx m K ⊢ iprop(cellInv ER (Rd m) (K (c, 0)) (barCell c) ∗ reached ER (barCell c) 0) := ctx_inv m K (c, 0)
/-- The context has every DMA cell's invariant. -/
theorem ctx_dma (c : Dev nD) (n : ℕ) (h : n < 152) (h4 : 4 ≤ n) :
    ctx m K ⊢ iprop(cellInv ER (Rd m) (K (c, ⟨n - 3, by omega⟩)) (dcell c n h) ∗ reached ER (dcell c n h) 0) := by
  rw [← kcell_dma c n h h4]; exact ctx_inv m K (c, ⟨n - 3, by omega⟩)
/-- The context has the levels of the cells. -/
theorem ctx_lev : ctx m K ⊢ (levAts L lv : sProp 𝕄) := by
  unfold ctx; iintro ⟨-, -, H⟩; iexact H

end Ctx

/-- What device `c` owes, after some waits. -/
def Ow (c : Dev nD) (O : CellTallies nD τ sig Unit) : sProp 𝕄 := iprop(∃ W, owes (c : Thread nD τ) O W)

end Cert.Attn
-- ==== Proof.Steps.lean ====
/-
# One rule per kind of effect of the body

Each rule takes what one effect consumes and gives what it produces, beside anything else held; the conditional effects
of the exchanges are walked one peer at a time over the families of resources indexed by the peers.
-/
module

public import proofs.«01_k».proof.Proof.Ghost

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The body's programs, and their weakest preconditions on device `c`. -/
abbrev Pg (F : FTy → Type) [FloatOps F] (α : Type) : Type 1 := Prog (TpuEff nD τ sig (Elt F) Λ₀ .tc) α
def wpc (c : Dev nD) {α : Type} (p : Pg F α) (Q : α → sProp 𝕄) : sProp 𝕄 :=
  wp frame (wpE (defs₀ (F := F)) 𝒱₀ (c : Thread nD τ) none) Set.univ p Q

section Steps
variable (m : (ℓ : Loc nD τ sig) → Buf (Elt F) ℓ) (K : Dev nD × Fin 149 → ℕ)

/-! ## The payloads by family -/

/-- What a slab copy's cell hands over. -/
theorem dmaPay_kv (c : Dev nD) (i : Fin 4) : dmaPay m c (4 + i.val) = kvPay m c i := by
  unfold dmaPay; rw [dif_pos (by omega)]; congr 1; exact Fin.ext (by dsimp only; omega)
/-- What a head copy's cell hands over. -/
theorem dmaPay_tr (c : Dev nD) (i : Fin 16) : dmaPay m c (8 + i.val) = trPay m c i := by
  unfold dmaPay; rw [dif_neg (by omega), dif_pos (by omega)]; congr 1; exact Fin.ext (by dsimp only; omega)
/-- What a send of the first exchange hands back. -/
theorem dmaPay_s1 (c : Dev nD) (j : Fin 32) : dmaPay m c (24 + j.val) = s1Pay c j := by
  unfold dmaPay; rw [dif_neg (by omega), dif_neg (by omega), dif_pos (by omega)]; congr 1; exact Fin.ext (by dsimp only; omega)
/-- What an arrival of the first exchange hands over. -/
theorem dmaPay_r1 (c : Dev nD) (j : Fin 32) : dmaPay m c (56 + j.val) = r1Pay m c j := by
  unfold dmaPay; rw [dif_neg (by omega), dif_neg (by omega), dif_neg (by omega), dif_pos (by omega)]; congr 1; exact Fin.ext (by dsimp only; omega)
/-- What a send of the second exchange hands back. -/
theorem dmaPay_s2 (c : Dev nD) (j : Fin 32) : dmaPay m c (88 + j.val) = s2Pay m c j := by
  unfold dmaPay; rw [dif_neg (by omega), dif_neg (by omega), dif_neg (by omega), dif_neg (by omega), dif_pos (by omega)]; congr 1
  exact Fin.ext (by dsimp only; omega)
/-- What an arrival of the second exchange hands over. -/
theorem dmaPay_r2 (c : Dev nD) (j : Fin 32) : dmaPay m c (120 + j.val) = r2Pay m c j := by
  unfold dmaPay
  rw [dif_neg (by omega), dif_neg (by omega), dif_neg (by omega), dif_neg (by omega), dif_neg (by omega), dif_pos (by omega)]; congr 1
  exact Fin.ext (by dsimp only; omega)

/-- The cells of the slab and head copies are all in use. -/
theorem used_low (c : Dev nD) (n : ℕ) (h4 : 4 ≤ n) (h : n < 24) : dmaUsed c n := ⟨h4, fun h' => by omega⟩
/-- A peer's place in an exchange is in use. -/
theorem used_fam (c : Dev nD) (j : Fin 32) (b : ℕ) (hb : b = 24 ∨ b = 56 ∨ b = 88 ∨ b = 120) (h : c ≠ j) : dmaUsed c (b + j.val) :=
  ⟨by omega, fun _ h' => h (Fin.ext (by have := j.isLt; rcases hb with rfl | rfl | rfl | rfl <;> omega))⟩
/-- A device's own place in an exchange is not in use. -/
theorem unused_fam (c : Dev nD) (b : ℕ) (hb : b = 24 ∨ b = 56 ∨ b = 88 ∨ b = 120) : ¬ dmaUsed c (b + c.val) :=
  fun h => h.2 (by omega) (by have : c.val < 32 := c.isLt; rcases hb with rfl | rfl | rfl | rfl <;> omega)
/-- The cells of the exchanges await a slot's size. -/
theorem dmaAmt_x (n : ℕ) (h : 24 ≤ n) : dmaAmt n = Nx := by
  unfold dmaAmt; rw [if_neg (by omega), if_neg (by omega)]

/-! ## Single effects -/

/-- A unit to device `j`'s barrier cell. -/
theorem signal_one (c j : Dev nD) (hne : c ≠ j) (O : CellTallies nD τ sig Unit) {R : sProp 𝕄} {α : Type} {Q : α → sProp 𝕄} {rest : Pg F α}
    (h : iprop(ctx m K ∗ Ow c O ∗ R) ⊢ wpc c rest Q) :
    iprop(ctx m K ∗ Ow c (O + tallyAt (barCell j) () 1) ∗ (dutyTok ER (barCell j) 0 c ∗ barPay j c) ∗ R)
      ⊢ wpc c ((semSignalWord j barS 1#32 : Pg F PUnit) >>= fun _ => rest) Q := by
  unfold wpc at *
  simp only [semSignalWord, Prog.lift, Prog.bind_op, Prog.bind_ret]
  unfold Ow at *
  iintro ⟨#HC, ⟨%W, HO⟩, ⟨Ht, Hp⟩, HR⟩
  ihave HI := (ctx_bar m K j) $$ HC
  icases HI with ⟨#HI, #Hr⟩
  iapply (Rounds.wp_signal 𝒱₀ ER (Rd m) (c : Thread nD τ) none (dst := (j : Thread nD τ)) (κ := K (j, 0)) (r := 0)
      (d := c) (by rw [duties_bar]; exact Finset.mem_filter.mpr ⟨Finset.mem_univ _, hne⟩) ((amount_bar m j c).trans (by decide)) () O rfl)
    $$ [HO Ht Hp]
  · isplitr; · iexact HI
    isplitl [HO]; · iexact HO
    isplitl [Ht]; · iexact Ht
    isplitl [Hp]; · rw [payload_bar]; iexact Hp
    iexact Hr
  iintro HO
  iapply h
  isplitr; · iexact HC
  isplitl [HO]; · iexists W; iexact HO
  iexact HR

/-- The wait for the peers' 31 units: the two landing slots of every peer. -/
theorem wait_bar (c : Dev nD) (O : CellTallies nD τ sig Unit) (hmw : (levAts L lv : sProp 𝕄) ⊢ MayWait (c : Thread nD τ) (.reg barS) () O)
    {R : sProp 𝕄} {α : Type} {Q : α → sProp 𝕄} {rest : Pg F α}
    (h : iprop(ctx m K ∗ Ow c O ∗ (atPos ER (barCell c) 1 ∅ 0 ∗ bigSep (seg c 0 32) (fun d => barPay c d)) ∗ R) ⊢ wpc c rest Q) :
    iprop(ctx m K ∗ Ow c O ∗ (cred (tallyAt (barCell c) () 31) ∗ atPos ER (barCell c) 0 ∅ 0) ∗ R)
      ⊢ wpc c ((semWaitWord barS 31#32 : Pg F PUnit) >>= fun _ => rest) Q := by
  unfold wpc at *
  simp only [semWaitWord, Prog.lift, Prog.bind_op, Prog.bind_ret]
  unfold Ow at *
  iintro ⟨#HC, ⟨%W, HO⟩, ⟨Hc, Ha⟩, HR⟩
  ihave HI := (ctx_bar m K c) $$ HC
  icases HI with ⟨#HI, -⟩
  have hl : ctx m K ⊢ (levAts L lv : sProp 𝕄) := ctx_lev m K
  ihave #Hlev := hl $$ HC
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [Hc HO Ha]
  · isplitr; · iexact HI
    isplitl [Hc]; · iexact Hc
    isplitl [HO]; · iexact HO
    isplitr; · iapply hmw; iexact Hlev
    iexact Ha
  iintro ⟨HO, Ha, -, Hp⟩
  ihave Hp := (Entails.of_eq (rest_bar m c)) $$ Hp
  iapply h
  isplitr; · iexact HC
  isplitl [HO]; · iexists (insert (SemLoc.reg barS, ()) W); iexact HO
  isplitl [Ha Hp]
  · isplitl [Ha]; · iexact Ha
    rw [seg_full]; iexact Hp
  iexact HR

/-- A wait on an own DMA cell for all its copy credits: what the copy delivers. -/
theorem wait_one (c : Dev nD) (n : ℕ) (hn : n < 152) (hu : dmaUsed c n) (q : DmaSem sig) (hq : q = dsem n hn)
    (O : CellTallies nD τ sig Unit) (hmw : (levAts L lv : sProp 𝕄) ⊢ MayWait (c : Thread nD τ) (.dma (dsem n hn)) () O)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = dmaAmt n)
    {R : sProp 𝕄} {α : Type} {Q : α → sProp 𝕄} {rest : Pg F α}
    (h : iprop(ctx m K ∗ Ow c O ∗ (atPos ER (dcell c n hn) 1 ∅ 0 ∗ dmaPay m c n) ∗ R) ⊢ wpc c rest Q) :
    iprop(ctx m K ∗ Ow c O ∗ (cred (tallyAt (dcell c n hn) () (dmaAmt n)) ∗ atPos ER (dcell c n hn) 0 ∅ 0) ∗ R)
      ⊢ wpc c ((Prog.lift (.waitDma2 q src dst hsrc hdst) : Pg F PUnit) >>= fun _ => rest) Q := by
  subst hq
  unfold wpc at *
  simp only [Prog.lift, Prog.bind_op, Prog.bind_ret]
  unfold Ow at *
  iintro ⟨#HC, ⟨%W, HO⟩, ⟨Hc, Ha⟩, HR⟩
  ihave HI := (ctx_dma m K c n hn hu.1) $$ HC
  icases HI with ⟨#HI, -⟩
  have hl : ctx m K ⊢ (levAts L lv : sProp 𝕄) := ctx_lev m K
  ihave #Hlev := hl $$ HC
  iapply (Rounds.wp_wait_rest_token 𝒱₀ ER (Rd m) (c : Thread nD τ) none (κ := K (c, ⟨n - 3, by omega⟩)) (k' := dmaAmt n)
      (fun X => (wpE_waitDma2_eq 𝒱₀ (c : Thread nD τ) none Set.univ X).trans (by rw [hN])) (Set.mem_univ _) () (O := O) (W := W) (R := 0) (m := 0) (T := ∅)
      (by rw [Nat.zero_add, expect_dma m c n hn hu])) $$ [Hc HO Ha]
  · isplitr; · iexact HI
    isplitl [Hc]; · iexact Hc
    isplitl [HO]; · iexact HO
    isplitr; · iapply hmw; iexact Hlev
    iexact Ha
  iintro ⟨HO, Ha, -, Hp⟩
  ihave Hp := (Entails.of_eq (rest_dma m c n hn hu)) $$ Hp
  iapply h
  isplitr; · iexact HC
  isplitl [HO]; · iexists (insert (SemLoc.dma (dsem n hn), ()) W); iexact HO
  isplitl [Ha Hp]
  · isplitl [Ha] <;> iassumption
  iexact HR

/-- A memref written whole holds what was written. -/
theorem landed_holds {sp : Space} {s : Shape} {e : EltTy} (M : Memref sig .tc sp s e) (d : Dev nD)
    (fd : Buf (Elt F) (M.view.loc (d : Thread nD τ))) (w : Vec F s e) :
    (M.view.loc (d : Thread nD τ) ↦[M.view.set]{fullShare} (M.view.write (Elt F) fd w Finset.univ) : sProp 𝕄) ⊢ holds M d w := by
  unfold holds
  iintro H; iexists (M.view.write (Elt F) fd w Finset.univ); isplitr
  · ipureintro; exact View.read_write_univ fd w
  iexact H

/-- A local copy on an own DMA cell, from a source held at contents `fs` whatever the destination holds. -/
theorem copy_one (c : Dev nD) (n : ℕ) (hn : n < 152) (hu : dmaUsed c n) (q : DmaSem sig) (hq : q = dsem n hn)
    {sp sp' : Space} {s : Shape} {e : EltTy} {src : Memref sig .tc sp s e} {dst : Memref sig .tc sp' s e}
    {hsrc : src.view.WordExact} {hdst : dst.view.WordExact} {hsem : DmaTarget.Typed (nD := nD) sp (.dma q) (.here (p := (Proc.tc : Proc τ)) dst)}
    (hN : dst.view.dmaCredit = dmaAmt n) (fs : Buf (Elt F) (src.view.loc (c : Thread nD τ)))
    (hpay : iprop(holds dst c (src.view.read (Elt F) fs) ∗ (src.view.loc (c : Thread nD τ) ↦[src.view.set]{fullShare} fs)) ⊢ dmaPay m c n)
    {R : sProp 𝕄} {α : Type} {Q : α → sProp 𝕄} {rest : Pg F α}
    (h : iprop(ctx m K ∗ cred (tallyAt (dcell c n hn) () (dmaAmt n)) ∗ R) ⊢ wpc c rest Q) :
    iprop(ctx m K ∗ ((src.view.loc (c : Thread nD τ) ↦[src.view.set]{fullShare} fs) ∗ anyOf dst c ∗ dutyTok ER (dcell c n hn) 0 0) ∗ R)
      ⊢ wpc c ((Prog.lift (.enqueueDma src (.here dst) (.dma q) hsrc hdst hsem) : Pg F PUnit) >>= fun _ => rest) Q := by
  subst hq
  unfold wpc at *
  simp only [Prog.lift, Prog.bind_op, Prog.bind_ret]
  unfold anyOf
  iintro ⟨#HC, ⟨Hs, ⟨%fd, Hd⟩, Ht⟩, HR⟩
  ihave HI := (ctx_dma m K c n hn hu.1) $$ HC
  icases HI with ⟨#HI, #Hr⟩
  iapply (Rounds.wp_copy_pointsTo 𝒱₀ ER (Rd m) (c : Thread nD τ) none (κ := K (c, ⟨n - 3, by omega⟩)) (sem := .dma (dsem n hn)) (r := 0) (d := (0 : Fin 32)) (fs := fs) (fd := fd)
      (by rw [duties_dma m c n hn hu]; exact Finset.mem_singleton_self _) () (dmaAmt n) hN (amount_dma m c n hn 0)
      (by
        rw [payload_dma]
        exact (sep_mono_left (landed_holds dst c fd _)).trans hpay)) $$ [Hs Hd Ht]
  · isplitr; · iexact HI
    isplitl [Hs]; · iexact Hs
    isplitl [Hd]; · iexact Hd
    isplitl [Ht]; · iexact Ht
    iexact Hr
  iintro Hc
  iapply h
  isplitr; · iexact HC
  isplitl [Hc]; · iexact Hc
  iexact HR

/-- A copy to device `j`, paying its own cell `n` and `j`'s cell `n'`, from a source held at any share. -/
theorem send_one (c j : Dev nD) (n n' : ℕ) (hn : n < 152) (hn' : n' < 152) (hu : dmaUsed c n) (hu' : dmaUsed j n')
    (hx : dmaAmt n = Nx) (hx' : dmaAmt n' = Nx)
    (q q' : DmaSem sig) (hq : q = dsem n hn) (hq' : q' = dsem n' hn')
    {sp sp' : Space} {s : Shape} {e : EltTy} {src : Memref sig .tc sp s e} {dst : Memref sig (Dev.tc j : Thread nD τ).2.kind sp' s e}
    {hsc : dst.view.ref.isScScratch = false} {hsrc : src.view.WordExact} {hdst : dst.view.WordExact}
    {hsem : DmaTarget.Typed sp (.dma q') (.remote (Dev.tc j : Thread nD τ) dst (.dma q) hsc)}
    (hN : dst.view.dmaCredit = Nx) (O : CellTallies nD τ sig Unit)
    {sh : PosShare TreeShare} (fs : Buf (Elt F) (src.view.loc (c : Thread nD τ)))
    (hpay : (src.view.loc (c : Thread nD τ) ↦[src.view.set]{sh} fs) ⊢ dmaPay m c n)
    (hpay' : (holds (sp := sp') (s := s) (e := e) dst j (src.view.read (Elt F) fs) : sProp 𝕄) ⊢ dmaPay m j n')
    {R : sProp 𝕄} {α : Type} {Q : α → sProp 𝕄} {rest : Pg F α}
    (h : iprop(ctx m K ∗ Ow c O ∗ cred (tallyAt (dcell c n hn) () (dmaAmt n)) ∗ R) ⊢ wpc c rest Q) :
    iprop(ctx m K ∗ Ow c (O + tallyAt (dcell j n' hn') () Nx)
        ∗ ((src.view.loc (c : Thread nD τ) ↦[src.view.set]{sh} fs) ∗ anyOf (sp := sp') (s := s) (e := e) dst j
          ∗ dutyTok ER (dcell c n hn) 0 0 ∗ dutyTok ER (dcell j n' hn') 0 0) ∗ R)
      ⊢ wpc c ((Prog.lift (.enqueueDma src (.remote (Dev.tc j : Thread nD τ) dst (.dma q) hsc) (.dma q') hsrc hdst hsem) : Pg F PUnit) >>= fun _ => rest) Q := by
  subst hq; subst hq'
  unfold wpc at *
  simp only [Prog.lift, Prog.bind_op, Prog.bind_ret]
  unfold anyOf
  unfold Ow at *
  iintro ⟨#HC, ⟨%W, HO⟩, ⟨Hs, ⟨%fd, Hd⟩, Ht, Ht'⟩, HR⟩
  ihave HI := (ctx_dma m K c n hn hu.1) $$ HC
  icases HI with ⟨#HI, #Hr⟩
  ihave HI' := (ctx_dma m K j n' hn' hu'.1) $$ HC
  icases HI' with ⟨#HI', #Hr'⟩
  iapply (Rounds.wp_send_pointsTo 𝒱₀ ER (Rd m) (c : Thread nD τ) none (κ₁ := K (c, ⟨n - 3, by omega⟩)) (κ₂ := K (j, ⟨n' - 3, by omega⟩))
      (sem := .dma (dsem n' hn')) (sS := .dma (dsem n hn)) (r₁ := 0) (r₂ := 0) (d₁ := (0 : Fin 32)) (d₂ := (0 : Fin 32)) (fs := fs) (fd := fd) (q := sh)
      (by rw [duties_dma m c n hn hu]; exact Finset.mem_singleton_self _) (by rw [duties_dma m j n' hn' hu']; exact Finset.mem_singleton_self _)
      () () Nx hN ((amount_dma m c n hn 0).trans hx) ((amount_dma m j n' hn' 0).trans hx') O rfl (W := W)
      (by rw [payload_dma]; exact hpay)
      (by
        rw [payload_dma]
        exact (landed_holds (sp := sp') (s := s) (e := e) dst j fd _).trans hpay')) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply h
  isplitr; · iexact HC
  isplitl [HO]; · iexists W; iexact HO
  isplitl [Hc]; · rw [hx]; iexact Hc
  iexact HR

/-- A part of the program, then the rest. -/
theorem wpc_bind (c : Dev nD) {α β : Type} (p : Pg F α) (k : α → Pg F β) (Q : β → sProp 𝕄) :
    wpc c (p >>= k) Q = wpc c p (fun a => wpc c (k a) Q) := wp_bind _ _ _ _ _ _

/-- A program that returns a value meets any postcondition true of the value. -/
theorem wpc_ret (c : Dev nD) {α : Type} (a : α) (Q : α → sProp 𝕄) : Q a ⊢ wpc c (pure a) Q := by
  unfold wpc
  show Q a ⊢ wp frame (wpE defs₀ 𝒱₀ c none) Set.univ (.ret a) Q
  rw [wp_ret]
  iintro H; imodintro; iexact H

/-- What a load reads, and that the resource it is read from is kept. -/
def Reads (c : Dev nD) (X : sProp 𝕄) {cs : CoreSpace} {s : Shape} {e : EltTy} (M : Memref sig .tc cs s e) (r : LoadRect s) (v : r.shape.Idx → Elt F e) : Prop :=
  X ⊢ iprop(∃ (S : Finset (Idx (M.view.loc (c : Thread nD τ)))) (q : PosShare TreeShare) (f : Buf (Elt F) (M.view.loc (c : Thread nD τ))),
    ⌜M.view.setOn r.set ⊆ S⌝ ∗ ⌜M.view.readAt (Elt F) r f = v⌝ ∗ (M.view.loc (c : Thread nD τ) ↦[S]{q} f) ∗ ((M.view.loc (c : Thread nD τ) ↦[S]{q} f) -∗ X))

/-- A load of a known value. -/
theorem load_one (c : Dev nD) {X : sProp 𝕄} {cs : CoreSpace} {s : Shape} {e : EltTy} {M : Memref sig .tc cs s e} {r : LoadRect s} {v : r.shape.Idx → Elt F e}
    {hl : M.view.LoadsAt r} (hX : Reads c X M r v) {G R : sProp 𝕄} {α : Type} {Q : α → sProp 𝕄} {rest : (r.shape.Idx → Elt F e) → Pg F α}
    (h : iprop(G ∗ X ∗ R) ⊢ wpc c (rest v) Q) :
    iprop(G ∗ X ∗ R) ⊢ wpc c ((Prog.lift (.load M r hl) : Pg F _) >>= rest) Q := by
  unfold wpc at *
  unfold Reads at hX
  simp only [Prog.lift, Prog.bind_op, Prog.bind_ret]
  iintro ⟨HG, HX, HR⟩
  ihave HX := hX $$ HX
  icases HX with ⟨%S, %q, %f, %hS, %hv, Hf, Hb⟩
  iapply (wp_load 𝒱₀ (c : Thread nD τ) none Set.univ hS) $$ Hf
  iintro Hf
  rw [hv]
  iapply h
  isplitl [HG]; · iexact HG
  isplitl [Hf Hb]; · iapply Hb; iexact Hf
  iexact HR

/-- A load whose value is never used. -/
theorem load_dead (c : Dev nD) {X : sProp 𝕄} {cs : CoreSpace} {s : Shape} {e : EltTy} {M : Memref sig .tc cs s e} {r : LoadRect s}
    {hl : M.view.LoadsAt r} (hX : X ⊢ iprop(∃ (S : Finset (Idx (M.view.loc (c : Thread nD τ)))) (q : PosShare TreeShare) (f : Buf (Elt F) (M.view.loc (c : Thread nD τ))),
    ⌜M.view.setOn r.set ⊆ S⌝ ∗ (M.view.loc (c : Thread nD τ) ↦[S]{q} f) ∗ ((M.view.loc (c : Thread nD τ) ↦[S]{q} f) -∗ X)))
    {G R : sProp 𝕄} {α : Type} {Q : α → sProp 𝕄} {rest : (r.shape.Idx → Elt F e) → Pg F α}
    (h : ∀ v, iprop(G ∗ X ∗ R) ⊢ wpc c (rest v) Q) :
    iprop(G ∗ X ∗ R) ⊢ wpc c ((Prog.lift (.load M r hl) : Pg F _) >>= rest) Q := by
  unfold wpc at *
  simp only [Prog.lift, Prog.bind_op, Prog.bind_ret]
  iintro ⟨HG, HX, HR⟩
  ihave HX := hX $$ HX
  icases HX with ⟨%S, %q, %f, %hS, Hf, Hb⟩
  iapply (wp_load 𝒱₀ (c : Thread nD τ) none Set.univ hS) $$ Hf
  iintro Hf
  iapply (h _)
  isplitl [HG]; · iexact HG
  isplitl [Hf Hb]; · iapply Hb; iexact Hf
  iexact HR

/-- A store over the whole of the access. -/
theorem store_one (c : Dev nD) {X Y : sProp 𝕄} {cs : CoreSpace} {s : Shape} {e : EltTy} {M : Memref sig .tc cs s e} {r : Rect s} {w : r.shape.Idx → Elt F e}
    {hx : (M.access r).Stores Finset.univ} {hm}
    (hX : X ⊢ iprop(∃ (S : Finset (Idx ((M.access r).loc (c : Thread nD τ)))) (f : Buf (Elt F) ((M.access r).loc (c : Thread nD τ))),
      ⌜(M.access r).set ⊆ S⌝ ∗ ((M.access r).loc (c : Thread nD τ) ↦[S]{fullShare} f)
        ∗ (((M.access r).loc (c : Thread nD τ) ↦[S]{fullShare} ((M.access r).write (Elt F) f w Finset.univ)) -∗ Y)))
    {G R : sProp 𝕄} {α : Type} {Q : α → sProp 𝕄} {rest : PUnit → Pg F α}
    (h : iprop(G ∗ Y ∗ R) ⊢ wpc c (rest ⟨⟩) Q) :
    iprop(G ∗ X ∗ R) ⊢ wpc c ((Prog.lift (.store M r w Finset.univ hx hm) : Pg F _) >>= rest) Q := by
  unfold wpc at *
  simp only [Prog.lift, Prog.bind_op, Prog.bind_ret]
  iintro ⟨HG, HX, HR⟩
  ihave HX := hX $$ HX
  icases HX with ⟨%S, %f, %hS, Hf, Hb⟩
  iapply (wp_store 𝒱₀ (c : Thread nD τ) none Set.univ hS) $$ Hf
  iintro Hf
  iapply h
  isplitl [HG]; · iexact HG
  isplitl [Hf Hb]; · iapply Hb; iexact Hf
  iexact HR

/-- The device number at the head. -/
theorem devid_one (c : Dev nD) {G : sProp 𝕄} {α : Type} {Q : α → sProp 𝕄} {rest : Dev nD → Pg F α} (h : G ⊢ wpc c (rest c) Q) :
    G ⊢ wpc c ((Prog.lift .deviceId : Pg F _) >>= rest) Q := by
  unfold wpc at *
  simp only [Prog.lift, Prog.bind_op, Prog.bind_ret, wp_deviceId]
  exact h

attribute [irreducible] wpc

end Steps

end Cert.Attn
-- ==== Proof.Peers.lean ====
/-
# Walking the peers

The conditional effects of the body come in runs over the peers, in order; one rule per run takes the step at one peer,
whether the peer is the device itself (nothing) or another.
-/
module

public import proofs.«01_k».proof.Proof.Steps

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The conditions -/

/-- The device number as the body computes it. -/
abbrev v2c (c : Dev nD) : BitVec 32 := Scalar.remsi (Scalar.divsi (Dev.word c) 1#32) 32#32
/-- The body's test of a place passes when the place is not the device's own. -/
theorem cond_iff (c : Dev nD) (j : Fin 32) :
    (Scalar.cmpi .ne (Scalar.extui (Scalar.cmpi .ne (v2c c) (BitVec.ofNat 32 j.val)) : BitVec 32) 0#32 = 1#1) ↔ c ≠ j := by
  revert c j; decide

section Peers
variable (m : (ℓ : Loc nD τ sig) → Buf (Elt F) ℓ) (K : Dev nD × Fin 149 → ℕ)

/-- In the middle of a run over the peers from `s` to `e`, the peers below `k` served. -/
def st (c : Dev nD) (O : ℕ → CellTallies nD τ sig Unit) (A B : Fin 32 → sProp 𝕄) (s k e : ℕ) : sProp 𝕄 :=
  iprop(Ow c (O k) ∗ bigSep (seg c k e) A ∗ bigSep (seg c s k) B)

/-- Entailment is transitive. -/
theorem ent {A B D : sProp 𝕄} (h₁ : A ⊢ B) (h₂ : B ⊢ D) : A ⊢ D := h₁.trans h₂

/-- A place of a run over the peers: its own skipped, a peer's served. -/
theorem cond_step {C : Prop} [Decidable C] (c : Dev nD) (j : Fin 32) {k s e : ℕ} (hk : j.val = k) (hs : s ≤ k) (he : k < e) (hC : C ↔ c ≠ j)
    (O : ℕ → CellTallies nD τ sig Unit) (A B : Fin 32 → sProp 𝕄) {R : sProp 𝕄} {α : Type} {Q : α → sProp 𝕄} {p : C → Pg F PUnit} {rest : Pg F α}
    (hO : c = j → O k = O (k + 1))
    (hp : ∀ (hc : C) (hne : c ≠ j) (R' : sProp 𝕄), (iprop(ctx m K ∗ Ow c (O (k + 1)) ∗ B j ∗ R') ⊢ wpc c rest Q) →
      iprop(ctx m K ∗ Ow c (O k) ∗ A j ∗ R') ⊢ wpc c (p hc >>= fun _ => rest) Q)
    (h : iprop(ctx m K ∗ st c O A B s (k + 1) e ∗ R) ⊢ wpc c rest Q) :
    iprop(ctx m K ∗ st c O A B s k e ∗ R) ⊢ wpc c (dite C (fun hc => p hc >>= fun _ => rest) (fun _ => rest)) Q := by
  by_cases hne : c = j
  · rw [dif_neg (fun hc => hC.mp hc hne)]
    refine ent (Entails.of_eq ?_) h
    unfold st
    have hj : c.val = k := by rw [hne]; exact hk
    rw [hO hne, seg_pop_self e hj, seg_push_self s hj]
  · rw [dif_pos (hC.mpr hne)]
    unfold st
    rw [seg_pop j hk he hne, show bigSep (insert j (seg c (k + 1) e)) A = iprop(A j ∗ bigSep (seg c (k + 1) e) A) from bigSep_insert (not_mem_seg_succ j hk)]
    refine ent ?_ (hp (hC.mpr hne) hne (iprop(bigSep (seg c (k + 1) e) A ∗ bigSep (seg c s k) B ∗ R)) ?_)
    · iintro ⟨#HC, ⟨HO, ⟨HA, HAs⟩, HB⟩, HR⟩
      isplitr; · iexact HC
      isplitl [HO]; · iexact HO
      isplitl [HA]; · iexact HA
      isplitl [HAs]; · iexact HAs
      isplitl [HB]; · iexact HB
      iexact HR
    · refine ent ?_ h
      unfold st
      rw [seg_push j hk hs hne, show bigSep (insert j (seg c s k)) B = iprop(B j ∗ bigSep (seg c s k) B) from bigSep_insert (not_mem_seg_end j hk)]
      iintro ⟨#HC, HO, HB, HAs, HBs, HR⟩
      isplitr; · iexact HC
      isplitl [HO HAs HB HBs]
      · isplitl [HO]; · iexact HO
        isplitl [HAs]; · iexact HAs
        isplitl [HB]; · iexact HB
        iexact HBs
      iexact HR

/-! ## The runs -/

/-- Signalling the peers: a duty token of each peer's barrier cell and the two landing slots it is given. -/
abbrev sigA (c : Dev nD) (j : Fin 32) : sProp 𝕄 := iprop(dutyTok ER (barCell j) 0 c ∗ barPay j c)
abbrev sigO (c : Dev nD) (k : ℕ) : CellTallies nD τ sig Unit := (ow2 c 0 + ow1 c 0) + owB c k
abbrev sigSt (c : Dev nD) (k : ℕ) : sProp 𝕄 := st c (sigO c) (sigA c) (fun _ => iprop(emp)) 0 k 32

/-- A place of the signals: a peer's barrier is signalled, with the slots it is given. -/
theorem sig_step (c : Dev nD) (j : Fin 32) {C : Prop} [Decidable C] {k : ℕ} (hk : j.val = k) (hC : C ↔ c ≠ j) (d : Dev nD) (hd : d = j)
    {R : sProp 𝕄} {α : Type} {Q : α → sProp 𝕄} {rest : Pg F α}
    (h : iprop(ctx m K ∗ sigSt c (k + 1) ∗ R) ⊢ wpc c rest Q) :
    iprop(ctx m K ∗ sigSt c k ∗ R)
      ⊢ wpc c (dite C (fun _ => (semSignalWord d barS 1#32 : Pg F PUnit) >>= fun _ => rest) (fun _ => rest)) Q := by
  subst hd
  refine cond_step m K c d (p := fun _ => semSignalWord d barS 1#32) hk (Nat.zero_le _) (by omega) hC (sigO c) (sigA c) (fun _ => iprop(emp)) (fun e => ?_) (fun _ hne R' hr => ?_) h
  · unfold sigO owB; rw [seg_pop_self 32 (by rw [e]; exact hk)]
  · unfold sigO owB
    rw [ow_pop barCell 1 d hk hne, ← add_assoc]
    refine signal_one m K c d hne _ (ent ?_ hr)
    iintro ⟨#HC, HO, HR⟩
    isplitr; · iexact HC
    isplitl [HO]; · iexact HO
    isplitr; · iempintro
    iexact HR

/-- Waiting on the cells of a family, one per peer. -/
abbrev famCell (c : Dev nD) (b : ℕ) (hb : b ≤ 120) (j : Fin 32) : GSem nD τ sig := dcell c (b + j.val) (by omega)
abbrev wtA (c : Dev nD) (b : ℕ) (hb : b ≤ 120) (j : Fin 32) : sProp 𝕄 :=
  iprop(cred (tallyAt (famCell c b hb j) () Nx) ∗ atPos ER (famCell c b hb j) 0 ∅ 0)
abbrev wtB (c : Dev nD) (b : ℕ) (hb : b ≤ 120) (j : Fin 32) : sProp 𝕄 :=
  iprop(atPos ER (famCell c b hb j) 1 ∅ 0 ∗ dmaPay m c (b + j.val))
abbrev wtSt (c : Dev nD) (b : ℕ) (hb : b ≤ 120) (O : CellTallies nD τ sig Unit) (k : ℕ) : sProp 𝕄 :=
  st c (fun _ => O) (wtA c b hb) (wtB m c b hb) 0 k 32

/-- A place of a run of waits: a peer's cell is awaited and its payload taken. -/
theorem wt_step (c : Dev nD) (j : Fin 32) {C : Prop} [Decidable C] {k : ℕ} (hk : j.val = k) (hC : C ↔ c ≠ j)
    (b : ℕ) (hb : b ≤ 120) (hf : b = 24 ∨ b = 56 ∨ b = 88 ∨ b = 120) {q : DmaSem sig} (hq : q = dsem (b + j.val) (by omega))
    (O : CellTallies nD τ sig Unit) (hmw : (levAts L lv : sProp 𝕄) ⊢ MayWait (c : Thread nD τ) (.dma (dsem (b + j.val) (by omega))) () O)
    {sp sp' : Space} {s s' : Shape} {e e' : EltTy} {src : C → Memref sig .tc sp' s' e'} {κ' : Kind} {dst : Memref sig κ' sp s e}
    {hsrc : ∀ h, (src h).view.WordExact} {hdst : dst.view.WordExact} (hN : dst.view.dmaCredit = Nx)
    {R : sProp 𝕄} {α : Type} {Q : α → sProp 𝕄} {rest : Pg F α}
    (h : iprop(ctx m K ∗ wtSt m c b hb O (k + 1) ∗ R) ⊢ wpc c rest Q) :
    iprop(ctx m K ∗ wtSt m c b hb O k ∗ R)
      ⊢ wpc c (dite C (fun hc => (Prog.lift (.waitDma2 q (src hc) dst (hsrc hc) hdst) : Pg F PUnit) >>= fun _ => rest) (fun _ => rest)) Q := by
  refine cond_step m K c j (p := fun hc => Prog.lift (.waitDma2 q (src hc) dst (hsrc hc) hdst)) hk (Nat.zero_le _) (by omega) hC _ (wtA c b hb) (wtB m c b hb) (fun e => rfl) (fun hc hne R' hr => ?_) h
  have hx : dmaAmt (b + j.val) = Nx := dmaAmt_x _ (by omega)
  have := wait_one m K c (b + j.val) (by omega) (used_fam c j b hf hne) q hq O hmw (hsrc := hsrc hc) (hdst := hdst) (hN.trans hx.symm) hr
  rw [hx] at this
  exact this

/-- The first exchange's sends: the rows for the peer, the landing slot on it, and the two cells' tokens. -/
abbrev sndD (c : Dev nD) (j : Fin 32) : sProp 𝕄 :=
  iprop(anyOf (slot rsM c) j ∗ dutyTok ER (s1Cell c j) 0 0 ∗ dutyTok ER (r1Cell j c) 0 0)
abbrev sndA (c : Dev nD) (j : Fin 32) : sProp 𝕄 := iprop(holds (slot pbM j) c (pbRow m c j) ∗ sndD c j)
abbrev sndB (c : Dev nD) (j : Fin 32) : sProp 𝕄 := cred (tallyAt (s1Cell c j) () Nx)
abbrev sndO (c : Dev nD) (k : ℕ) : CellTallies nD τ sig Unit := ow2 c 0 + ow1 c k
abbrev sndSt (c : Dev nD) (s k e : ℕ) : sProp 𝕄 := st c (sndO c) (sndA m c) (sndB c) s k e

/-- A send of the first exchange: the peer's rows to the device's slot on it. -/
theorem snd_one (c j : Dev nD) (hne : c ≠ j) (k : ℕ) {q q' : DmaSem sig}
    (hq : q = dsem (24 + j.val) (by have : j.val < 32 := j.isLt; omega)) (hq' : q' = dsem (56 + c.val) (by have : c.val < 32 := c.isLt; omega))
    {src : Memref sig .tc .vmem S16x512 .bf16} (hs : src = slot pbM j)
    {dst : Memref sig .tc .vmem S16x512 .bf16} (hd : dst = slot rsM c)
    {hsc : dst.view.ref.isScScratch = false} {hsrc : src.view.WordExact} {hdst : dst.view.WordExact}
    {hsem : DmaTarget.Typed Space.vmem (.dma q') (.remote (Dev.tc j : Thread nD τ) dst (.dma q) hsc)}
    {R : sProp 𝕄} {α : Type} {Q : α → sProp 𝕄} {rest : Pg F α}
    (h : iprop(ctx m K ∗ Ow c (ow2 c 0 + ow1 c k) ∗ sndB c j ∗ R) ⊢ wpc c rest Q) :
    iprop(ctx m K ∗ Ow c (ow2 c 0 + ow1 c k + tallyAt (r1Cell j c) () Nx) ∗ sndA m c j ∗ R)
      ⊢ wpc c ((Prog.lift (.enqueueDma src (.remote (Dev.tc j : Thread nD τ) dst (.dma q) hsc) (.dma q') hsrc hdst hsem) : Pg F PUnit) >>= fun _ => rest) Q := by
  subst hs; subst hd
  have hx : dmaAmt (24 + j.val) = Nx := dmaAmt_x _ (by omega)
  have hx' : dmaAmt (56 + c.val) = Nx := dmaAmt_x _ (by omega)
  unfold sndA holds sndD
  iintro ⟨#HC, HO, ⟨⟨%f, %hf, Hs⟩, Hd, Ht, Ht'⟩, HR⟩
  have key := send_one m K c j (24 + j.val) (56 + c.val) (by have : j.val < 32 := j.isLt; omega) (by have : c.val < 32 := c.isLt; omega)
    (used_fam c j 24 (.inl rfl) hne) (used_fam j c 56 (.inr (.inl rfl)) (Ne.symm hne)) hx hx' q q' hq hq'
    (dst := slot rsM c) (hsc := hsc) (hsrc := hsrc) (hdst := hdst) (hsem := hsem)
    rfl (ow2 c 0 + ow1 c k) (sh := fullShare) f
    (by
      rw [dmaPay_s1]; unfold s1Pay anyOf
      iintro H; iexists f; iexact H)
    (by rw [dmaPay_r1, hf]; unfold r1Pay rsRow; iintro H; iexact H)
    (R := R) (rest := rest) (Q := Q) (by rw [hx]; exact h)
  iapply key
  isplitr; · iexact HC
  isplitl [HO]; · iexact HO
  isplitl [Hs Hd Ht Ht']
  · isplitl [Hs]; · iexact Hs
    isplitl [Hd]; · iexact Hd
    isplitl [Ht] <;> iassumption
  iexact HR

/-- A place of the first exchange's sends: a peer's rows are sent. -/
theorem snd_step (c : Dev nD) (j : Fin 32) {C : Prop} [Decidable C] {k s e : ℕ} (hk : j.val = k) (hs : s ≤ k) (he : k < e) (hC : C ↔ c ≠ j) (d : Dev nD) (hd : d = j)
    {q q' : C → DmaSem sig} (hq : ∀ h, q h = dsem (24 + j.val) (by omega)) (hq' : ∀ h, q' h = dsem (56 + c.val) (by have : c.val < 32 := c.isLt; omega))
    {src : C → Memref sig .tc .vmem S16x512 .bf16} (hsr : ∀ h, src h = slot pbM j)
    {dst : C → Memref sig .tc .vmem S16x512 .bf16} (hds : ∀ h, dst h = slot rsM c)
    {hsc : ∀ h, (dst h).view.ref.isScScratch = false} {hsrc : ∀ h, (src h).view.WordExact} {hdst : ∀ h, (dst h).view.WordExact}
    {hsem : ∀ h, DmaTarget.Typed Space.vmem (.dma (q' h)) (.remote (Dev.tc d : Thread nD τ) (dst h) (.dma (q h)) (hsc h))}
    {R : sProp 𝕄} {α : Type} {Q : α → sProp 𝕄} {rest : Pg F α}
    (h : iprop(ctx m K ∗ sndSt m c s (k + 1) e ∗ R) ⊢ wpc c rest Q) :
    iprop(ctx m K ∗ sndSt m c s k e ∗ R)
      ⊢ wpc c (dite C (fun hc => (Prog.lift (.enqueueDma (src hc) (.remote (Dev.tc d : Thread nD τ) (dst hc) (.dma (q hc)) (hsc hc))
            (.dma (q' hc)) (hsrc hc) (hdst hc) (hsem hc)) : Pg F PUnit) >>= fun _ => rest) (fun _ => rest)) Q := by
  subst hd
  refine cond_step m K c d (p := fun hc => Prog.lift (.enqueueDma (src hc) (.remote (Dev.tc d : Thread nD τ) (dst hc) (.dma (q hc)) (hsc hc))
            (.dma (q' hc)) (hsrc hc) (hdst hc) (hsem hc))) hk hs he hC (sndO c) (sndA m c) (sndB c) (fun e => ?_) (fun hc hne R' hr => ?_) h
  · unfold sndO ow1; rw [seg_pop_self 32 (by rw [e]; exact hk)]
  · unfold sndO
    rw [show ow1 c k = ow1 c (k + 1) + tallyAt (r1Cell d c) () Nx from ow_pop (fun j => r1Cell j c) Nx d hk hne, ← add_assoc]
    exact snd_one m K c d hne (k + 1) (hq hc) (hq' hc) (hsr hc) (hds hc) hr

/-- The second exchange's sends. -/
abbrev agD (c : Dev nD) (j : Fin 32) : sProp 𝕄 :=
  iprop(anyOf (slot agM c) j ∗ dutyTok ER (s2Cell c j) 0 0 ∗ dutyTok ER (r2Cell j c) 0 0)
abbrev agA (c : Dev nD) (j : Fin 32) : sProp 𝕄 := iprop(s2Pay m c j ∗ agD c j)
abbrev agB (c : Dev nD) (j : Fin 32) : sProp 𝕄 := cred (tallyAt (s2Cell c j) () Nx)
abbrev agSt (c : Dev nD) (k : ℕ) : sProp 𝕄 := st c (ow2 c) (agA m c) (agB c) 0 k 32

/-- The whole of the reduced rows as the sends slice it. -/
abbrev redS : Memref sig .tc .vmem S16x512 .bf16 := redM.slice (Rect.unit (s := S16x512) ![0, 0] S16x512.size inb_S16x512_S16x512_0_0) (fun _ => rfl)
/-- Two zero offsets are the zero function. -/
theorem zz : (![0, 0] : Fin 2 → Nat) = fun _ => 0 := funext fun a => by fin_cases a <;> rfl
omit [FloatOps F] in
/-- The reduced rows' buffer reads as its contents. -/
theorem redS_read (f : (cc0_scratch7 : Ref sig .tc).ty.Contents (Elt F)) : redS.view.read (Elt F) f = f :=
  Memref.readAt_unit_zero (Elt F) cc0_scratch7 zz _ f
/-- The reduced rows' buffer is read whole. -/
theorem redS_set : redS.view.set = Finset.univ := by
  refine (View.set_slice_whole cc0_scratch7 _).trans ?_
  ext i
  rw [Rect.mem_set_unit]
  simp only [Finset.mem_univ, iff_true, zz]
  exact fun a => ⟨Nat.zero_le _, by rw [Nat.zero_add]; exact (i a).isLt⟩

/-- A send of the second exchange: the reduced rows to the device's slot on a peer. -/
theorem ag_one (c j : Dev nD) (hne : c ≠ j) (k : ℕ) {q q' : DmaSem sig}
    (hq : q = dsem (88 + j.val) (by have : j.val < 32 := j.isLt; omega)) (hq' : q' = dsem (120 + c.val) (by have : c.val < 32 := c.isLt; omega))
    {dst : Memref sig .tc .vmem S16x512 .bf16} (hd : dst = slot agM c)
    {hsc : dst.view.ref.isScScratch = false} {hsrc : redS.view.WordExact} {hdst : dst.view.WordExact}
    {hsem : DmaTarget.Typed Space.vmem (.dma q') (.remote (Dev.tc j : Thread nD τ) dst (.dma q) hsc)}
    {R : sProp 𝕄} {α : Type} {Q : α → sProp 𝕄} {rest : Pg F α}
    (h : iprop(ctx m K ∗ Ow c (ow2 c k) ∗ agB c j ∗ R) ⊢ wpc c rest Q) :
    iprop(ctx m K ∗ Ow c (ow2 c k + tallyAt (r2Cell j c) () Nx) ∗ agA m c j ∗ R)
      ⊢ wpc c ((Prog.lift (.enqueueDma redS (.remote (Dev.tc j : Thread nD τ) dst (.dma q) hsc) (.dma q') hsrc hdst hsem) : Pg F PUnit) >>= fun _ => rest) Q := by
  subst hd
  have hx : dmaAmt (88 + j.val) = Nx := dmaAmt_x _ (by omega)
  have hx' : dmaAmt (120 + c.val) = Nx := dmaAmt_x _ (by omega)
  have hset : (s2Pay m c j : sProp 𝕄) = (redS.view.loc (c : Thread nD τ) ↦[redS.view.set]{Transfers.shareTok fullShare 32 j} redV m c) := by
    rw [redS_set]; rfl
  unfold agA agD
  rw [hset]
  iintro ⟨#HC, HO, ⟨Hs, Hd, Ht, Ht'⟩, HR⟩
  have key := send_one m K c j (88 + j.val) (120 + c.val) (by have : j.val < 32 := j.isLt; omega) (by have : c.val < 32 := c.isLt; omega)
    (used_fam c j 88 (.inr (.inr (.inl rfl))) hne) (used_fam j c 120 (.inr (.inr (.inr rfl))) (Ne.symm hne)) hx hx' q q' hq hq'
    (src := redS) (dst := slot agM c) (hsc := hsc) (hsrc := hsrc) (hdst := hdst) (hsem := hsem)
    rfl (ow2 c k) (sh := Transfers.shareTok fullShare 32 j) (redV m c)
    (by rw [dmaPay_s2, hset])
    (by rw [dmaPay_r2, redS_read]; unfold r2Pay; iintro H; iexact H)
    (R := R) (rest := rest) (Q := Q) (by rw [hx]; exact h)
  iapply key
  isplitr; · iexact HC
  isplitl [HO]; · iexact HO
  isplitl [Hs Hd Ht Ht']
  · isplitl [Hs]; · iexact Hs
    isplitl [Hd]; · iexact Hd
    isplitl [Ht] <;> iassumption
  iexact HR

/-- A place of the second exchange's sends: the reduced rows are sent to a peer. -/
theorem ag_step (c : Dev nD) (j : Fin 32) {C : Prop} [Decidable C] {k : ℕ} (hk : j.val = k) (hC : C ↔ c ≠ j) (d : Dev nD) (hd : d = j)
    {q q' : C → DmaSem sig} (hq : ∀ h, q h = dsem (88 + j.val) (by omega)) (hq' : ∀ h, q' h = dsem (120 + c.val) (by have : c.val < 32 := c.isLt; omega))
    {dst : C → Memref sig .tc .vmem S16x512 .bf16} (hds : ∀ h, dst h = slot agM c)
    {hsc : ∀ h, (dst h).view.ref.isScScratch = false} {hsrc : C → redS.view.WordExact} {hdst : ∀ h, (dst h).view.WordExact}
    {hsem : ∀ h, DmaTarget.Typed Space.vmem (.dma (q' h)) (.remote (Dev.tc d : Thread nD τ) (dst h) (.dma (q h)) (hsc h))}
    {R : sProp 𝕄} {α : Type} {Q : α → sProp 𝕄} {rest : Pg F α}
    (h : iprop(ctx m K ∗ agSt m c (k + 1) ∗ R) ⊢ wpc c rest Q) :
    iprop(ctx m K ∗ agSt m c k ∗ R)
      ⊢ wpc c (dite C (fun hc => (Prog.lift (.enqueueDma redS (.remote (Dev.tc d : Thread nD τ) (dst hc) (.dma (q hc)) (hsc hc))
            (.dma (q' hc)) (hsrc hc) (hdst hc) (hsem hc)) : Pg F PUnit) >>= fun _ => rest) (fun _ => rest)) Q := by
  subst hd
  refine cond_step m K c d (p := fun hc => Prog.lift (.enqueueDma redS (.remote (Dev.tc d : Thread nD τ) (dst hc) (.dma (q hc)) (hsc hc))
            (.dma (q' hc)) (hsrc hc) (hdst hc) (hsem hc))) hk (Nat.zero_le _) (by omega) hC (ow2 c) (agA m c) (agB c) (fun e => ?_) (fun hc hne R' hr => ?_) h
  · unfold ow2; rw [seg_pop_self 32 (by rw [e]; exact hk)]
  · rw [show ow2 c k = ow2 c (k + 1) + tallyAt (r2Cell d c) () Nx from ow_pop (fun j => r2Cell j c) Nx d hk hne]
    exact ag_one m K c d hne (k + 1) (hq hc) (hq' hc) (hds hc) hr

end Peers

end Cert.Attn
-- ==== Proof.Runs.lean ====
/-
# Runs of local copies, loads and stores, step by step
-/
module

public import proofs.«01_k».proof.Proof.Peers

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Ranges of positions -/

/-- The positions from `a` up to `b`. -/
def rng {N : ℕ} (a b : ℕ) : Finset (Fin N) := Finset.univ.filter (fun p => a ≤ p.val ∧ p.val < b)
/-- A position is in a range when it is between its ends. -/
theorem mem_rng {N : ℕ} {a b : ℕ} {p : Fin N} : p ∈ rng a b ↔ a ≤ p.val ∧ p.val < b := by
  unfold rng; rw [Finset.mem_filter]; exact and_iff_right (Finset.mem_univ _)
/-- A range from a position to itself is empty. -/
theorem rng_empty {N : ℕ} (a : ℕ) : (rng a a : Finset (Fin N)) = ∅ := by
  ext p; rw [mem_rng]; constructor
  · rintro ⟨h1, h2⟩; omega
  · intro h; exact absurd h (Finset.notMem_empty _)
/-- The full range is every position. -/
theorem rng_full {N : ℕ} : (rng 0 N : Finset (Fin N)) = Finset.univ := by
  ext p; rw [mem_rng]; exact ⟨fun _ => Finset.mem_univ _, fun _ => ⟨Nat.zero_le _, p.isLt⟩⟩
/-- A range is its first position and those after. -/
theorem rng_pop {N : ℕ} {k e : ℕ} (p : Fin N) (hk : p.val = k) (he : k < e) : (rng k e : Finset (Fin N)) = insert p (rng (k + 1) e) := by
  ext i; rw [Finset.mem_insert, mem_rng, mem_rng, Fin.ext_iff]; omega
/-- A position is not in the range after it. -/
theorem rng_pop' {N : ℕ} {k e : ℕ} (p : Fin N) (hk : p.val = k) : p ∉ (rng (k + 1) e : Finset (Fin N)) := by rw [mem_rng]; omega
/-- A range extended by a position gains it. -/
theorem rng_push {N : ℕ} {s k : ℕ} (p : Fin N) (hk : p.val = k) (hs : s ≤ k) : (rng s (k + 1) : Finset (Fin N)) = insert p (rng s k) := by
  ext i; rw [Finset.mem_insert, mem_rng, mem_rng, Fin.ext_iff]; omega
/-- A position is not in the range that ends before it. -/
theorem rng_push' {N : ℕ} {s k : ℕ} (p : Fin N) (hk : p.val = k) : p ∉ (rng s k : Finset (Fin N)) := by rw [mem_rng]; omega
/-- A range is the union of its parts before and after a position. -/
theorem rng_union {N : ℕ} {a b e : ℕ} (h : a ≤ b) (h' : b ≤ e) : (rng a e : Finset (Fin N)) = rng a b ∪ rng b e := by
  ext i; rw [Finset.mem_union, mem_rng, mem_rng, mem_rng]; omega
/-- A range's parts before and after a position are disjoint. -/
theorem rng_disj {N : ℕ} {a b e : ℕ} : Disjoint (rng a b : Finset (Fin N)) (rng b e) := by
  rw [Finset.disjoint_left]; intro i h1 h2; rw [mem_rng] at h1 h2; omega

section Runs
variable (m : (ℓ : Loc nD τ sig) → Buf (Elt F) ℓ) (K : Dev nD × Fin 149 → ℕ)

/-- In the middle of a run over the positions from `s` to `e`, those below `k` done. -/
def lst {N : ℕ} (c : Dev nD) (O : CellTallies nD τ sig Unit) (A B : Fin N → sProp 𝕄) (s k e : ℕ) : sProp 𝕄 :=
  iprop(Ow c O ∗ bigSep (rng k e) A ∗ bigSep (rng s k) B)

/-- A position of a run is served, and the run goes on. -/
theorem lst_step {N : ℕ} (c : Dev nD) (O : CellTallies nD τ sig Unit) {A B : Fin N → sProp 𝕄} {s k e : ℕ} (p : Fin N) (hk : p.val = k) (hs : s ≤ k) (he : k < e)
    {R : sProp 𝕄} {α : Type} {Q : α → sProp 𝕄} {pr rest : Pg F α}
    (hp : ∀ R' : sProp 𝕄, (iprop(ctx m K ∗ Ow c O ∗ B p ∗ R') ⊢ wpc c rest Q) → iprop(ctx m K ∗ Ow c O ∗ A p ∗ R') ⊢ wpc c pr Q)
    (h : iprop(ctx m K ∗ lst c O A B s (k + 1) e ∗ R) ⊢ wpc c rest Q) :
    iprop(ctx m K ∗ lst c O A B s k e ∗ R) ⊢ wpc c pr Q := by
  unfold lst at *
  rw [rng_pop p hk he, show bigSep (insert p (rng (k + 1) e)) A = iprop(A p ∗ bigSep (rng (k + 1) e) A) from bigSep_insert (rng_pop' p hk)]
  refine ent ?_ (hp iprop(bigSep (rng (k + 1) e) A ∗ bigSep (rng s k) B ∗ R) (ent ?_ h))
  · iintro ⟨#HC, ⟨HO, ⟨HA, HAs⟩, HB⟩, HR⟩
    isplitr; · iexact HC
    isplitl [HO]; · iexact HO
    isplitl [HA]; · iexact HA
    isplitl [HAs]; · iexact HAs
    isplitl [HB]; · iexact HB
    iexact HR
  · rw [rng_push p hk hs, show bigSep (insert p (rng s k)) B = iprop(B p ∗ bigSep (rng s k) B) from bigSep_insert (rng_push' p hk)]
    iintro ⟨#HC, HO, HB, HAs, HBs, HR⟩
    isplitr; · iexact HC
    isplitl [HO HAs HB HBs]
    · isplitl [HO]; · iexact HO
      isplitl [HAs]; · iexact HAs
      isplitl [HB]; · iexact HB
      iexact HBs
    iexact HR

/-! ## The slab copies -/

/-- What slab copy `i` needs, and the wait's credit and position. -/
def kvD (c : Dev nD) (i : Fin 4) : sProp 𝕄 :=
  if i.val % 2 = 0 then iprop(kSrc m c ⟨i.val / 2, by omega⟩ ∗ anyOf (slab k4M ⟨i.val / 2, by omega⟩) c ∗ dutyTok ER (dcell c (4 + i.val) (by omega)) 0 0)
  else iprop(vSrc m c ⟨i.val / 2, by omega⟩ ∗ anyOf (slab v4M ⟨i.val / 2, by omega⟩) c ∗ dutyTok ER (dcell c (4 + i.val) (by omega)) 0 0)
def kvC (c : Dev nD) (i : Fin 4) : sProp 𝕄 := cred (tallyAt (dcell c (4 + i.val) (by omega)) () Nkv)
def kvW (c : Dev nD) (i : Fin 4) : sProp 𝕄 := iprop(kvC c i ∗ atPos ER (dcell c (4 + i.val) (by omega)) 0 ∅ 0)
def kvX (c : Dev nD) (i : Fin 4) : sProp 𝕄 := iprop(atPos ER (dcell c (4 + i.val) (by omega)) 1 ∅ 0 ∗ kvPay m c i)
/-- A slab copy's cell awaits a slab's size. -/
theorem amt_kv (i : Fin 4) : dmaAmt (4 + i.val) = Nkv := by unfold dmaAmt; rw [if_pos (by omega)]

/-- A copy of a K slab from the device's slice of the cache is started. -/
theorem kvK_copy (c : Dev nD) (O : CellTallies nD τ sig Unit) {s k e : ℕ} (i : Fin 4) (hk : i.val = k) (hs : s ≤ k) (he : k < e) (b : Fin 2) (hb : i.val = 2 * b.val)
    {q : DmaSem sig} (hq : q = dsem (4 + i.val) (by omega))
    {src : Memref sig .tc .hbm S256x4x64 .f32} (hsr : src = srcS kA c b) {dst : Memref sig .tc .vmem S256x4x64 .f32} (hds : dst = slab k4M b)
    {hsrc : src.view.WordExact} {hdst : dst.view.WordExact} {hsem : DmaTarget.Typed (nD := nD) Space.hbm (.dma q) (.here (p := (Proc.tc : Proc τ)) dst)}
    {R : sProp 𝕄} {α : Type} {Q : α → sProp 𝕄} {rest : Pg F α}
    (h : iprop(ctx m K ∗ lst c O (kvD m c) (kvC c) s (k + 1) e ∗ R) ⊢ wpc c rest Q) :
    iprop(ctx m K ∗ lst c O (kvD m c) (kvC c) s k e ∗ R)
      ⊢ wpc c ((Prog.lift (.enqueueDma src (.here dst) (.dma q) hsrc hdst hsem) : Pg F PUnit) >>= fun _ => rest) Q := by
  subst hsr; subst hds
  refine lst_step m K c O i hk hs he (fun R' hr => ?_) h
  have e0 : (⟨i.val / 2, by omega⟩ : Fin 2) = b := Fin.ext (by show i.val / 2 = b.val; omega)
  have hD : (kvD m c i : sProp 𝕄) = iprop(kSrc m c b ∗ anyOf (slab k4M b) c ∗ dutyTok ER (dcell c (4 + i.val) (by omega)) 0 0) := by
    unfold kvD; rw [if_pos (by omega), e0]
  have hP : (dmaPay m c (4 + i.val) : sProp 𝕄) = iprop(holds (slab k4M b) c (kSlab m c b) ∗ kSrc m c b) := by
    rw [dmaPay_kv]; unfold kvPay; rw [if_pos (by omega), e0]
  rw [hD]
  have key := copy_one m K c (4 + i.val) (by omega) (used_low c _ (by omega) (by omega)) q hq (src := srcS kA c b) (dst := slab k4M b)
    (hsrc := hsrc) (hdst := hdst) (hsem := hsem) (show _ = dmaAmt (4 + i.val) by rw [amt_kv]) (m ((c : Thread nD τ).loc main_arg2))
    (by rw [hP]; unfold kSrc kSlab; exact .rfl) (R := iprop(Ow c O ∗ R')) (rest := rest) (Q := Q)
    (ent (by
      unfold kvC; rw [amt_kv]
      iintro ⟨#HC, HB, HO, HR⟩
      isplitr; · iexact HC
      isplitl [HO]; · iexact HO
      isplitl [HB]; · iexact HB
      iexact HR) hr)
  refine ent ?_ key
  unfold kSrc
  iintro ⟨#HC, HO, HA, HR⟩
  isplitr; · iexact HC
  isplitl [HA]; · iexact HA
  isplitl [HO]; · iexact HO
  iexact HR

/-- A copy of a V slab from the device's slice of the cache is started. -/
theorem kvV_copy (c : Dev nD) (O : CellTallies nD τ sig Unit) {s k e : ℕ} (i : Fin 4) (hk : i.val = k) (hs : s ≤ k) (he : k < e) (b : Fin 2) (hb : i.val = 2 * b.val + 1)
    {q : DmaSem sig} (hq : q = dsem (4 + i.val) (by omega))
    {src : Memref sig .tc .hbm S256x4x64 .f32} (hsr : src = srcS vA c b) {dst : Memref sig .tc .vmem S256x4x64 .f32} (hds : dst = slab v4M b)
    {hsrc : src.view.WordExact} {hdst : dst.view.WordExact} {hsem : DmaTarget.Typed (nD := nD) Space.hbm (.dma q) (.here (p := (Proc.tc : Proc τ)) dst)}
    {R : sProp 𝕄} {α : Type} {Q : α → sProp 𝕄} {rest : Pg F α}
    (h : iprop(ctx m K ∗ lst c O (kvD m c) (kvC c) s (k + 1) e ∗ R) ⊢ wpc c rest Q) :
    iprop(ctx m K ∗ lst c O (kvD m c) (kvC c) s k e ∗ R)
      ⊢ wpc c ((Prog.lift (.enqueueDma src (.here dst) (.dma q) hsrc hdst hsem) : Pg F PUnit) >>= fun _ => rest) Q := by
  subst hsr; subst hds
  refine lst_step m K c O i hk hs he (fun R' hr => ?_) h
  have e0 : (⟨i.val / 2, by omega⟩ : Fin 2) = b := Fin.ext (by show i.val / 2 = b.val; omega)
  have hD : (kvD m c i : sProp 𝕄) = iprop(vSrc m c b ∗ anyOf (slab v4M b) c ∗ dutyTok ER (dcell c (4 + i.val) (by omega)) 0 0) := by
    unfold kvD; rw [if_neg (by omega), e0]
  have hP : (dmaPay m c (4 + i.val) : sProp 𝕄) = iprop(holds (slab v4M b) c (vSlab m c b) ∗ vSrc m c b) := by
    rw [dmaPay_kv]; unfold kvPay; rw [if_neg (by omega), e0]
  rw [hD]
  have key := copy_one m K c (4 + i.val) (by omega) (used_low c _ (by omega) (by omega)) q hq (src := srcS vA c b) (dst := slab v4M b)
    (hsrc := hsrc) (hdst := hdst) (hsem := hsem) (show _ = dmaAmt (4 + i.val) by rw [amt_kv]) (m ((c : Thread nD τ).loc main_arg3))
    (by rw [hP]; unfold vSrc vSlab; exact .rfl) (R := iprop(Ow c O ∗ R')) (rest := rest) (Q := Q)
    (ent (by
      unfold kvC; rw [amt_kv]
      iintro ⟨#HC, HB, HO, HR⟩
      isplitr; · iexact HC
      isplitl [HO]; · iexact HO
      isplitl [HB]; · iexact HB
      iexact HR) hr)
  refine ent ?_ key
  unfold vSrc
  iintro ⟨#HC, HO, HA, HR⟩
  isplitr; · iexact HC
  isplitl [HA]; · iexact HA
  isplitl [HO]; · iexact HO
  iexact HR

/-- A slab copy is awaited: the slab and the slice it was read from are given back. -/
theorem kv_wait (c : Dev nD) (O : CellTallies nD τ sig Unit) {s k e : ℕ} (i : Fin 4) (hk : i.val = k) (hs : s ≤ k) (he : k < e)
    (hmw : (levAts L lv : sProp 𝕄) ⊢ MayWait (c : Thread nD τ) (.dma (dsem (4 + i.val) (by omega))) () O)
    {q : DmaSem sig} (hq : q = dsem (4 + i.val) (by omega))
    {sp' : Space} {s' : Shape} {e' : EltTy} {src : Memref sig .tc sp' s' e'} {dst : Memref sig .tc .vmem S256x4x64 .f32}
    {hsrc : src.view.WordExact} {hdst : dst.view.WordExact} (hN : dst.view.dmaCredit = Nkv)
    {R : sProp 𝕄} {α : Type} {Q : α → sProp 𝕄} {rest : Pg F α}
    (h : iprop(ctx m K ∗ lst c O (kvW c) (kvX m c) s (k + 1) e ∗ R) ⊢ wpc c rest Q) :
    iprop(ctx m K ∗ lst c O (kvW c) (kvX m c) s k e ∗ R)
      ⊢ wpc c ((Prog.lift (.waitDma2 q src dst hsrc hdst) : Pg F PUnit) >>= fun _ => rest) Q := by
  refine lst_step m K c O i hk hs he (fun R' hr => ?_) h
  have := wait_one m K c (4 + i.val) (by omega) (used_low c _ (by omega) (by omega)) q hq O hmw (hsrc := hsrc) (hdst := hdst) (hN.trans (amt_kv i).symm) (R := R') (rest := rest) (Q := Q)
    (by rw [dmaPay_kv]; exact hr)
  rw [amt_kv] at this
  exact this

/-! ## The head copies -/

/-- The order in which the heads are copied: four of K and four of V for each batch. -/
abbrev perm (p : Fin 16) : Fin 16 := ⟨8 * (p.val / 4 % 2) + 4 * (p.val / 8) + p.val % 4, by omega⟩

def trD (c : Dev nD) (p : Fin 16) : sProp 𝕄 :=
  if h : (perm p).val < 8 then
    iprop(holds (col k4M (bOf ⟨(perm p).val, h⟩) (hOf ⟨(perm p).val, h⟩)) c (kHead m c ⟨(perm p).val, h⟩) ∗ anyOf (head ktM ⟨(perm p).val, h⟩) c
      ∗ dutyTok ER (dcell c (8 + (perm p).val) (by omega)) 0 0)
  else
    iprop(holds (col v4M (bOf ⟨(perm p).val - 8, by omega⟩) (hOf ⟨(perm p).val - 8, by omega⟩)) c (vHead m c ⟨(perm p).val - 8, by omega⟩)
      ∗ anyOf (head vtM ⟨(perm p).val - 8, by omega⟩) c ∗ dutyTok ER (dcell c (8 + (perm p).val) (by omega)) 0 0)
def trC (c : Dev nD) (p : Fin 16) : sProp 𝕄 := cred (tallyAt (dcell c (8 + (perm p).val) (by omega)) () Ntr)
def trW (c : Dev nD) (p : Fin 16) : sProp 𝕄 := iprop(trC c p ∗ atPos ER (dcell c (8 + (perm p).val) (by omega)) 0 ∅ 0)
def trX (c : Dev nD) (p : Fin 16) : sProp 𝕄 := iprop(atPos ER (dcell c (8 + (perm p).val) (by omega)) 1 ∅ 0 ∗ trPay m c (perm p))
/-- A head copy's cell awaits a head's size. -/
theorem amt_tr (i : Fin 16) : dmaAmt (8 + i.val) = Ntr := by unfold dmaAmt; rw [if_neg (by omega), if_pos (by omega)]

/-- A copy of a K head from its slab's column is started. -/
theorem trK_copy (c : Dev nD) (O : CellTallies nD τ sig Unit) {s k e : ℕ} (p : Fin 16) (hk : p.val = k) (hs : s ≤ k) (he : k < e) (i : Fin 8) (hi : i.val = (perm p).val)
    {q : DmaSem sig} (hq : q = dsem (8 + (perm p).val) (by omega))
    {src : Memref sig .tc .vmem S256x64 .f32} (hsr : src = col k4M (bOf i) (hOf i)) {dst : Memref sig .tc .vmem S256x64 .f32} (hds : dst = head ktM i)
    {hsrc : src.view.WordExact} {hdst : dst.view.WordExact} {hsem : DmaTarget.Typed (nD := nD) Space.vmem (.dma q) (.here (p := (Proc.tc : Proc τ)) dst)}
    {R : sProp 𝕄} {α : Type} {Q : α → sProp 𝕄} {rest : Pg F α}
    (h : iprop(ctx m K ∗ lst c O (trD m c) (trC c) s (k + 1) e ∗ R) ⊢ wpc c rest Q) :
    iprop(ctx m K ∗ lst c O (trD m c) (trC c) s k e ∗ R)
      ⊢ wpc c ((Prog.lift (.enqueueDma src (.here dst) (.dma q) hsrc hdst hsem) : Pg F PUnit) >>= fun _ => rest) Q := by
  subst hsr; subst hds
  refine lst_step m K c O p hk hs he (fun R' hr => ?_) h
  have hlt : (perm p).val < 8 := by omega
  have e0 : (⟨(perm p).val, hlt⟩ : Fin 8) = i := Fin.ext hi.symm
  have hD : (trD m c p : sProp 𝕄) = iprop(holds (col k4M (bOf i) (hOf i)) c (kHead m c i) ∗ anyOf (head ktM i) c ∗ dutyTok ER (dcell c (8 + (perm p).val) (by omega)) 0 0) := by
    unfold trD; rw [dif_pos hlt, e0]
  have hP : (dmaPay m c (8 + (perm p).val) : sProp 𝕄) = iprop(holds (head ktM i) c (kHead m c i) ∗ anyOf (col k4M (bOf i) (hOf i)) c) := by
    rw [dmaPay_tr]; unfold trPay; rw [dif_pos hlt, e0]
  rw [hD]
  unfold holds
  iintro ⟨#HC, HO, ⟨⟨%f, %hf, Hf⟩, Hd, Ht⟩, HR⟩
  have key := copy_one m K c (8 + (perm p).val) (by omega) (used_low c _ (by omega) (by omega)) q hq (src := col k4M (bOf i) (hOf i)) (dst := head ktM i)
    (hsrc := hsrc) (hdst := hdst) (hsem := hsem) (show _ = dmaAmt (8 + (perm p).val) by rw [amt_tr]) f
    (by
      rw [hP, hf]; unfold anyOf
      iintro ⟨H1, H2⟩
      isplitl [H1]; · iexact H1
      iexists f; iexact H2) (R := iprop(Ow c O ∗ R')) (rest := rest) (Q := Q)
    (ent (by
      unfold trC; rw [amt_tr]
      iintro ⟨#HC, HB, HO, HR⟩
      isplitr; · iexact HC
      isplitl [HO]; · iexact HO
      isplitl [HB]; · iexact HB
      iexact HR) hr)
  iapply key
  isplitr; · iexact HC
  isplitl [Hf Hd Ht]
  · isplitl [Hf]; · iexact Hf
    isplitl [Hd] <;> iassumption
  isplitl [HO]; · iexact HO
  iexact HR

/-- A copy of a V head from its slab's column is started. -/
theorem trV_copy (c : Dev nD) (O : CellTallies nD τ sig Unit) {s k e : ℕ} (p : Fin 16) (hk : p.val = k) (hs : s ≤ k) (he : k < e) (i : Fin 8) (hi : i.val + 8 = (perm p).val)
    {q : DmaSem sig} (hq : q = dsem (8 + (perm p).val) (by omega))
    {src : Memref sig .tc .vmem S256x64 .f32} (hsr : src = col v4M (bOf i) (hOf i)) {dst : Memref sig .tc .vmem S256x64 .f32} (hds : dst = head vtM i)
    {hsrc : src.view.WordExact} {hdst : dst.view.WordExact} {hsem : DmaTarget.Typed (nD := nD) Space.vmem (.dma q) (.here (p := (Proc.tc : Proc τ)) dst)}
    {R : sProp 𝕄} {α : Type} {Q : α → sProp 𝕄} {rest : Pg F α}
    (h : iprop(ctx m K ∗ lst c O (trD m c) (trC c) s (k + 1) e ∗ R) ⊢ wpc c rest Q) :
    iprop(ctx m K ∗ lst c O (trD m c) (trC c) s k e ∗ R)
      ⊢ wpc c ((Prog.lift (.enqueueDma src (.here dst) (.dma q) hsrc hdst hsem) : Pg F PUnit) >>= fun _ => rest) Q := by
  subst hsr; subst hds
  refine lst_step m K c O p hk hs he (fun R' hr => ?_) h
  have hlt : ¬ (perm p).val < 8 := by omega
  have e0 : (⟨(perm p).val - 8, by omega⟩ : Fin 8) = i := Fin.ext (by show (perm p).val - 8 = i.val; omega)
  have hD : (trD m c p : sProp 𝕄) = iprop(holds (col v4M (bOf i) (hOf i)) c (vHead m c i) ∗ anyOf (head vtM i) c ∗ dutyTok ER (dcell c (8 + (perm p).val) (by omega)) 0 0) := by
    unfold trD; rw [dif_neg hlt, e0]
  have hP : (dmaPay m c (8 + (perm p).val) : sProp 𝕄) = iprop(holds (head vtM i) c (vHead m c i) ∗ anyOf (col v4M (bOf i) (hOf i)) c) := by
    rw [dmaPay_tr]; unfold trPay; rw [dif_neg hlt, e0]
  rw [hD]
  unfold holds
  iintro ⟨#HC, HO, ⟨⟨%f, %hf, Hf⟩, Hd, Ht⟩, HR⟩
  have key := copy_one m K c (8 + (perm p).val) (by omega) (used_low c _ (by omega) (by omega)) q hq (src := col v4M (bOf i) (hOf i)) (dst := head vtM i)
    (hsrc := hsrc) (hdst := hdst) (hsem := hsem) (show _ = dmaAmt (8 + (perm p).val) by rw [amt_tr]) f
    (by
      rw [hP, hf]; unfold anyOf
      iintro ⟨H1, H2⟩
      isplitl [H1]; · iexact H1
      iexists f; iexact H2) (R := iprop(Ow c O ∗ R')) (rest := rest) (Q := Q)
    (ent (by
      unfold trC; rw [amt_tr]
      iintro ⟨#HC, HB, HO, HR⟩
      isplitr; · iexact HC
      isplitl [HO]; · iexact HO
      isplitl [HB]; · iexact HB
      iexact HR) hr)
  iapply key
  isplitr; · iexact HC
  isplitl [Hf Hd Ht]
  · isplitl [Hf]; · iexact Hf
    isplitl [Hd] <;> iassumption
  isplitl [HO]; · iexact HO
  iexact HR

/-- A head copy is awaited: the head and the column it was read from are given back. -/
theorem tr_wait (c : Dev nD) (O : CellTallies nD τ sig Unit) {s k e : ℕ} (p : Fin 16) (hk : p.val = k) (hs : s ≤ k) (he : k < e)
    (hmw : (levAts L lv : sProp 𝕄) ⊢ MayWait (c : Thread nD τ) (.dma (dsem (8 + (perm p).val) (by omega))) () O)
    {q : DmaSem sig} (hq : q = dsem (8 + (perm p).val) (by omega))
    {sp' : Space} {s' : Shape} {e' : EltTy} {src : Memref sig .tc sp' s' e'} {dst : Memref sig .tc .vmem S256x64 .f32}
    {hsrc : src.view.WordExact} {hdst : dst.view.WordExact} (hN : dst.view.dmaCredit = Ntr)
    {R : sProp 𝕄} {α : Type} {Q : α → sProp 𝕄} {rest : Pg F α}
    (h : iprop(ctx m K ∗ lst c O (trW c) (trX m c) s (k + 1) e ∗ R) ⊢ wpc c rest Q) :
    iprop(ctx m K ∗ lst c O (trW c) (trX m c) s k e ∗ R)
      ⊢ wpc c ((Prog.lift (.waitDma2 q src dst hsrc hdst) : Pg F PUnit) >>= fun _ => rest) Q := by
  refine lst_step m K c O p hk hs he (fun R' hr => ?_) h
  have := wait_one m K c (8 + (perm p).val) (by omega) (used_low c _ (by omega) (by omega)) q hq O hmw (hsrc := hsrc) (hdst := hdst) (hN.trans (amt_tr (perm p)).symm) (R := R') (rest := rest) (Q := Q)
    (by rw [dmaPay_tr]; exact hr)
  rw [amt_tr] at this
  exact this

end Runs

/-! ## What loads read -/

section Reads

omit [FloatOps F] in
/-- What a load reads from a resource, it reads from the resource with another beside it. -/
theorem reads_sep_left {c : Dev nD} {X Y : sProp 𝕄} {cs : CoreSpace} {s : Shape} {e : EltTy} {M : Memref sig .tc cs s e} {r : LoadRect s} {v : r.shape.Idx → Elt F e}
    (h : Reads c X M r v) : Reads c iprop(X ∗ Y) M r v := by
  unfold Reads at *
  iintro ⟨HX, HY⟩
  ihave HX := h $$ HX
  icases HX with ⟨%S, %q, %f, %hS, %hv, Hf, Hb⟩
  iexists S, q, f
  isplitr; · ipureintro; exact hS
  isplitr; · ipureintro; exact hv
  isplitl [Hf]; · iexact Hf
  iintro Hf
  isplitl [Hb Hf]; · iapply Hb; iexact Hf
  iexact HY

omit [FloatOps F] in
/-- What a load reads from a resource, it reads from an equivalent one. -/
theorem reads_eqv {c : Dev nD} {X Y : sProp 𝕄} {cs : CoreSpace} {s : Shape} {e : EltTy} {M : Memref sig .tc cs s e} {r : LoadRect s} {v : r.shape.Idx → Elt F e}
    (h₁ : Y ⊢ X) (h₂ : X ⊢ Y) (h : Reads c X M r v) : Reads c Y M r v := by
  unfold Reads at *
  iintro HX
  ihave HX := h₁ $$ HX
  ihave HX := h $$ HX
  icases HX with ⟨%S, %q, %f, %hS, %hv, Hf, Hb⟩
  iexists S, q, f
  isplitr; · ipureintro; exact hS
  isplitr; · ipureintro; exact hv
  isplitl [Hf]; · iexact Hf
  iintro Hf
  iapply h₂
  iapply Hb; iexact Hf

omit [FloatOps F] in
/-- What a load reads from a resource, it reads from the resource with another before it. -/
theorem reads_sep_right {c : Dev nD} {X Y : sProp 𝕄} {cs : CoreSpace} {s : Shape} {e : EltTy} {M : Memref sig .tc cs s e} {r : LoadRect s} {v : r.shape.Idx → Elt F e}
    (h : Reads c Y M r v) : Reads c iprop(X ∗ Y) M r v :=
  reads_eqv (X := iprop(Y ∗ X)) (by iintro ⟨H1, H2⟩; isplitl [H2] <;> iassumption) (by iintro ⟨H1, H2⟩; isplitl [H2] <;> iassumption) (reads_sep_left h)

omit [FloatOps F] in
/-- What a load reads from a member of a family, it reads from the family. -/
theorem reads_bigSep {c : Dev nD} {N : ℕ} {S : Finset (Fin N)} {Φ : Fin N → sProp 𝕄} (i : Fin N) (hi : i ∈ S)
    {cs : CoreSpace} {s : Shape} {e : EltTy} {M : Memref sig .tc cs s e} {r : LoadRect s} {v : r.shape.Idx → Elt F e}
    (h : Reads c (Φ i) M r v) : Reads c (bigSep S Φ) M r v := by
  have he : bigSep S Φ = iprop(Φ i ∗ bigSep (S.erase i) Φ) := by
    conv_lhs => rw [← Finset.insert_erase hi]
    exact bigSep_insert (Finset.notMem_erase i S)
  rw [he]
  exact reads_sep_left h

/-- A slice's elements, read by a load of the slice's rectangle. -/
theorem reads_slice {c : Dev nD} {cs : CoreSpace} {s : Shape} {e : EltTy} (M : Memref sig .tc cs s e) (r : Rect s) (hr : ∀ a, r.stride a = 1)
    (w : r.shape.Idx → Elt F e) : Reads c (holds (M.slice r hr) c w) M r.toLoadRect w := by
  unfold Reads holds
  iintro ⟨%f, %hf, Hf⟩
  iexists (M.view.slice r).set, fullShare, f
  isplitr; · ipureintro; rw [View.set_slice]; exact Finset.Subset.refl _
  isplitr; · ipureintro; exact hf
  isplitl [Hf]; · iexact Hf
  iintro Hf
  iexists f
  isplitr; · ipureintro; exact hf
  iexact Hf

/-- A whole buffer's contents at a known value, read anywhere. -/
theorem reads_pts {c : Dev nD} {cs : CoreSpace} {s : Shape} {e : EltTy} (M : Memref sig .tc cs s e) (r : LoadRect s) (q : PosShare TreeShare)
    (f : Buf (Elt F) (M.view.loc (c : Thread nD τ))) : Reads c (M.view.loc (c : Thread nD τ) ↦{q} f) M r (M.view.readAt (Elt F) r f) := by
  unfold Reads
  iintro Hf
  iexists Finset.univ, q, f
  isplitr; · ipureintro; exact Finset.subset_univ _
  isplitr; · ipureintro; rfl
  isplitl [Hf]; · iexact Hf
  iintro Hf; iexact Hf

/-- A head's slab, read with its leading unit axis. -/
theorem reads_head {c : Dev nD} (M : Memref sig .tc .vmem S8x256x64 .f32) (i : Fin 8) (w : Vec F S256x64 .f32) :
    Reads c (holds (head M i) c w) M (headR i).toLoadRect (unsq w) := by
  unfold Reads holds
  iintro ⟨%f, %hf, Hf⟩
  have hs : (head M i).view.set = (M.view.slice (headR i)).set := View.set_reshape _ _
  rw [hs]
  iexists (M.view.slice (headR i)).set, fullShare, f
  isplitr; · ipureintro; rw [View.set_slice]; exact Finset.Subset.refl _
  isplitr
  · ipureintro; rw [← hf]; funext y; unfold unsq
    exact congrArg ((M.view.slice (headR i)).read (Elt F) f) ((Shape.reshapeEquiv (squeezes_S1x256x64_S256x64).numel_eq).apply_symm_apply y).symm
  isplitl [Hf]; · iexact Hf
  iintro Hf
  iexists f
  isplitr; · ipureintro; exact hf
  iexact Hf

/-- A load whose value is dropped, from a slice at any contents. -/
theorem dead_slice {c : Dev nD} {cs : CoreSpace} {s : Shape} {e : EltTy} (M : Memref sig .tc cs s e) (r : Rect s) (hr : ∀ a, r.stride a = 1) :
    (anyOf (M.slice r hr) c : sProp 𝕄) ⊢ iprop(∃ (S : Finset (Idx (M.view.loc (c : Thread nD τ)))) (q : PosShare TreeShare) (f : Buf (Elt F) (M.view.loc (c : Thread nD τ))),
    ⌜M.view.setOn r.toLoadRect.set ⊆ S⌝ ∗ (M.view.loc (c : Thread nD τ) ↦[S]{q} f) ∗ ((M.view.loc (c : Thread nD τ) ↦[S]{q} f) -∗ anyOf (M.slice r hr) c)) := by
  unfold anyOf
  iintro ⟨%f, Hf⟩
  iexists (M.view.slice r).set, fullShare, f
  isplitr; · ipureintro; rw [View.set_slice]; exact Finset.Subset.refl _
  isplitl [Hf]; · iexact Hf
  iintro Hf; iexists f; iexact Hf

/-- A store over a slice held at any contents. -/
theorem store_slice {c : Dev nD} {cs : CoreSpace} {s : Shape} {e : EltTy} (M : Memref sig .tc cs s e) (r : Rect s) (hr : ∀ a, r.stride a = 1) (w : r.shape.Idx → Elt F e) :
    (anyOf (M.slice r hr) c : sProp 𝕄) ⊢ iprop(∃ (S : Finset (Idx ((M.access r).loc (c : Thread nD τ)))) (f : Buf (Elt F) ((M.access r).loc (c : Thread nD τ))),
      ⌜(M.access r).set ⊆ S⌝ ∗ ((M.access r).loc (c : Thread nD τ) ↦[S]{fullShare} f)
        ∗ (((M.access r).loc (c : Thread nD τ) ↦[S]{fullShare} ((M.access r).write (Elt F) f w Finset.univ)) -∗ holds (M.slice r hr) c w)) := by
  unfold anyOf holds
  iintro ⟨%f, Hf⟩
  iexists (M.access r).set, f
  isplitr; · ipureintro; exact Finset.Subset.refl _
  isplitl [Hf]; · iexact Hf
  iintro Hf; iexists ((M.access r).write (Elt F) f w Finset.univ)
  isplitr; · ipureintro; exact View.read_write_univ (v := M.access r) f w
  iexact Hf

end Reads

end Cert.Attn
-- ==== Proof.PartsA.lean ====
/-
# The body up to the barrier: slab copies started, peers signalled, the queries computed
-/
module

public import proofs.«01_k».proof.Proof.Runs

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev hx : xM.IsWhole := Memref.isWhole_whole _
abbrev hwq : wqM.IsWhole := Memref.isWhole_whole _
abbrev hkA : kA.IsWhole := Memref.isWhole_whole _
abbrev hvA : vA.IsWhole := Memref.isWhole_whole _
abbrev hwo : woM.IsWhole := Memref.isWhole_whole _
abbrev hout : outM.IsWhole := Memref.isWhole_whole _
abbrev hk4 : k4M.IsWhole := Memref.isWhole_whole _
abbrev hv4 : v4M.IsWhole := Memref.isWhole_whole _
abbrev hkt : ktM.IsWhole := Memref.isWhole_whole _
abbrev hvt : vtM.IsWhole := Memref.isWhole_whole _
abbrev hp : pM.IsWhole := Memref.isWhole_whole _
abbrev hpb : pbM.IsWhole := Memref.isWhole_whole _
abbrev hrs : rsM.IsWhole := Memref.isWhole_whole _
abbrev hred : redM.IsWhole := Memref.isWhole_whole _
abbrev hag : agM.IsWhole := Memref.isWhole_whole _

section PartsA
variable (m : (ℓ : Loc nD τ sig) → Buf (Elt F) ℓ) (K : Dev nD × Fin 149 → ℕ)

/-- A cache's slice at the computed offset is the device's own. -/
theorem src_off (A : Memref sig .tc .hbm S2x256x128x64 .f32) (c : Dev nD) (b : Fin 2) {o : Fin 4 → ℕ} (ho : o = ![b.val, 0, 4 * c.val, 0]) {inb} {h} :
    (A.slice (Rect.unit (s := S2x256x128x64) o S1x256x4x64.size inb) (fun _ => rfl)).squeeze S256x4x64 h = srcS A c b := by subst ho; rfl
/-- A buffer's slice at the computed offset is its slot. -/
theorem slot_off (M : Memref sig .tc .vmem S512x512 .bf16) (j : Fin 32) {o : Fin 2 → ℕ} (ho : o = ![16 * j.val, 0]) {inb} :
    M.slice (Rect.unit (s := S512x512) o S16x512.size inb) (fun _ => rfl) = slot M j := by subst ho; rfl

/-- What a staged operand's buffer holds whole. -/
def xP (c : Dev nD) : sProp 𝕄 := (xM.view.loc (c : Thread nD τ)) ↦{fullShare} xv m c
def wqP (c : Dev nD) : sProp 𝕄 := (wqM.view.loc (c : Thread nD τ)) ↦{fullShare} wqv m c
def woP (c : Dev nD) : sProp 𝕄 := (woM.view.loc (c : Thread nD τ)) ↦{fullShare} wov m c

/-- Three zero offsets are the zero function. -/
theorem z3 : (![0, 0, 0] : Fin 3 → Nat) = fun _ => 0 := funext fun a => by fin_cases a <;> rfl
/-- A load of the whole input reads the input. -/
theorem reads_x (c : Dev nD) : Reads c (xP m c) xM (Rect.unit (s := S2x256x512) ![0, 0, 0] S2x256x512.size inb_S2x256x512_S2x256x512_0_0_0).toLoadRect (xv m c) := by
  have h := reads_pts (c := c) xM (Rect.unit (s := S2x256x512) ![0, 0, 0] S2x256x512.size inb_S2x256x512_S2x256x512_0_0_0).toLoadRect fullShare (xv m c)
  rw [show xM.view.readAt (Elt F) (Rect.unit (s := S2x256x512) ![0, 0, 0] S2x256x512.size inb_S2x256x512_S2x256x512_0_0_0).toLoadRect (xv m c) = xv m c from
    Memref.readAt_unit_zero (Elt F) cc0_stg0_0 z3 _ _] at h
  exact h
/-- A load of the whole query weights reads them. -/
theorem reads_wq (c : Dev nD) : Reads c (wqP m c) wqM (Rect.unit (s := S512x256) ![0, 0] S512x256.size inb_S512x256_S512x256_0_0).toLoadRect (wqv m c) := by
  have h := reads_pts (c := c) wqM (Rect.unit (s := S512x256) ![0, 0] S512x256.size inb_S512x256_S512x256_0_0).toLoadRect fullShare (wqv m c)
  rw [show wqM.view.readAt (Elt F) (Rect.unit (s := S512x256) ![0, 0] S512x256.size inb_S512x256_S512x256_0_0).toLoadRect (wqv m c) = wqv m c from
    Memref.readAt_unit_zero (Elt F) cc0_stg1_0 zz _ _] at h
  exact h
/-- A load of a head's rows of the output weights reads them. -/
theorem reads_wo (c : Dev nD) (h : Fin 4) : Reads c (woP m c) woM (woR h).toLoadRect (woH m c h) :=
  reads_pts (c := c) woM (woR h).toLoadRect fullShare (wov m c)

/-- The first three slab copies. -/
theorem p1 (c : Dev nD) (O : CellTallies nD τ sig Unit) {R : sProp 𝕄} {Q : (Σ' (d0 : Dev nD), BitVec 32) → sProp 𝕄}
    (h : iprop(ctx m K ∗ lst c O (kvD m c) (kvC c) 0 3 4 ∗ R) ⊢ Q ⟨c, v2c c⟩) :
    iprop(ctx m K ∗ lst c O (kvD m c) (kvC c) 0 0 4 ∗ R) ⊢ wpc c (k0_part1_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part1_skel
  refine devid_one c ?_
  refine kvK_copy m K c O 0 (k := 0) rfl (by decide) (by decide) 0 rfl (kv_sem _ 0 rfl _ _) (src_off kA c 0 (k0_off1_eq c)) rfl ?_
  refine kvV_copy m K c O 1 (k := 1) rfl (by decide) (by decide) 0 rfl (kv_sem _ 1 rfl _ _) (src_off vA c 0 (k0_off1_eq c)) rfl ?_
  refine kvK_copy m K c O 2 (k := 2) rfl (by decide) (by decide) 1 rfl (kv_sem _ 2 rfl _ _) (src_off kA c 1 (k0_off2_eq c)) rfl ?_
  exact ent h (wpc_ret c _ Q)

/-- The word carried to the next condition. -/
abbrev nxt (c : Dev nD) (j : BitVec 32) : BitVec 32 := Scalar.extui (Scalar.cmpi .ne (v2c c) j)

/-- The fourth slab copy, and the first seven peers signalled. -/
theorem p2 (c : Dev nD) {R : sProp 𝕄} {Q : (Σ' (v31 : Sems sig S_), BitVec 32) → sProp 𝕄}
    (h : iprop(ctx m K ∗ sigSt c 7 ∗ bigSep (rng 0 4) (kvC c) ∗ R) ⊢ Q ⟨SemArray.scalar (sig.barrier 0 rfl), nxt c 7#32⟩) :
    iprop(ctx m K ∗ lst c (sigO c 0) (kvD m c) (kvC c) 0 3 4 ∗ bigSep (seg c 0 32) (sigA c) ∗ R) ⊢ wpc c (k0_part2_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c)) Q := by
  unfold k0_part2_skel
  refine kvV_copy m K c _ 3 (k := 3) rfl (by decide) (by decide) 1 rfl (kv_sem _ 3 rfl _ _) (src_off vA c 1 (k0_off2_eq c)) rfl ?_
  refine ent (B := iprop(ctx m K ∗ sigSt c 0 ∗ bigSep (rng 0 4) (kvC c) ∗ R)) ?_ ?_
  · unfold lst sigSt st
    iintro ⟨#HC, ⟨HO, -, HB⟩, HS, HR⟩
    isplitr; · iexact HC
    isplitl [HO HS]
    · isplitl [HO]; · iexact HO
      isplitl [HS]; · iexact HS
      rw [seg_empty, bigSep_empty]; iempintro
    isplitl [HB]; · iexact HB
    iexact HR
  refine sig_step m K c 0 (k := 0) rfl (cond_iff c 0) ⟨0, hdev_0⟩ rfl ?_
  refine sig_step m K c 1 (k := 1) rfl (cond_iff c 1) ⟨1, hdev_1⟩ rfl ?_
  refine sig_step m K c 2 (k := 2) rfl (cond_iff c 2) ⟨2, hdev_2⟩ rfl ?_
  refine sig_step m K c 3 (k := 3) rfl (cond_iff c 3) ⟨3, hdev_3⟩ rfl ?_
  refine sig_step m K c 4 (k := 4) rfl (cond_iff c 4) ⟨4, hdev_4⟩ rfl ?_
  refine sig_step m K c 5 (k := 5) rfl (cond_iff c 5) ⟨5, hdev_5⟩ rfl ?_
  refine sig_step m K c 6 (k := 6) rfl (cond_iff c 6) ⟨6, hdev_6⟩ rfl ?_
  exact ent h (wpc_ret c _ Q)

/-- Ten more peers signalled. -/
theorem p3 (c : Dev nD) {R : sProp 𝕄} {Q : BitVec 32 → sProp 𝕄} (h : iprop(ctx m K ∗ sigSt c 17 ∗ R) ⊢ Q (nxt c 17#32)) :
    iprop(ctx m K ∗ sigSt c 7 ∗ R) ⊢ wpc c (k0_part3_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (SemArray.scalar (sig.barrier 0 rfl)) (nxt c 7#32)) Q := by
  unfold k0_part3_skel
  refine sig_step m K c 7 (k := 7) rfl (cond_iff c 7) ⟨7, hdev_7⟩ rfl ?_
  refine sig_step m K c 8 (k := 8) rfl (cond_iff c 8) ⟨8, hdev_8⟩ rfl ?_
  refine sig_step m K c 9 (k := 9) rfl (cond_iff c 9) ⟨9, hdev_9⟩ rfl ?_
  refine sig_step m K c 10 (k := 10) rfl (cond_iff c 10) ⟨10, hdev_10⟩ rfl ?_
  refine sig_step m K c 11 (k := 11) rfl (cond_iff c 11) ⟨11, hdev_11⟩ rfl ?_
  refine sig_step m K c 12 (k := 12) rfl (cond_iff c 12) ⟨12, hdev_12⟩ rfl ?_
  refine sig_step m K c 13 (k := 13) rfl (cond_iff c 13) ⟨13, hdev_13⟩ rfl ?_
  refine sig_step m K c 14 (k := 14) rfl (cond_iff c 14) ⟨14, hdev_14⟩ rfl ?_
  refine sig_step m K c 15 (k := 15) rfl (cond_iff c 15) ⟨15, hdev_15⟩ rfl ?_
  refine sig_step m K c 16 (k := 16) rfl (cond_iff c 16) ⟨16, hdev_16⟩ rfl ?_
  exact ent h (wpc_ret c _ Q)

/-- Ten more peers signalled. -/
theorem p4 (c : Dev nD) {R : sProp 𝕄} {Q : BitVec 32 → sProp 𝕄} (h : iprop(ctx m K ∗ sigSt c 27 ∗ R) ⊢ Q (nxt c 27#32)) :
    iprop(ctx m K ∗ sigSt c 17 ∗ R) ⊢ wpc c (k0_part4_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (SemArray.scalar (sig.barrier 0 rfl)) (nxt c 17#32)) Q := by
  unfold k0_part4_skel
  refine sig_step m K c 17 (k := 17) rfl (cond_iff c 17) ⟨17, hdev_17⟩ rfl ?_
  refine sig_step m K c 18 (k := 18) rfl (cond_iff c 18) ⟨18, hdev_18⟩ rfl ?_
  refine sig_step m K c 19 (k := 19) rfl (cond_iff c 19) ⟨19, hdev_19⟩ rfl ?_
  refine sig_step m K c 20 (k := 20) rfl (cond_iff c 20) ⟨20, hdev_20⟩ rfl ?_
  refine sig_step m K c 21 (k := 21) rfl (cond_iff c 21) ⟨21, hdev_21⟩ rfl ?_
  refine sig_step m K c 22 (k := 22) rfl (cond_iff c 22) ⟨22, hdev_22⟩ rfl ?_
  refine sig_step m K c 23 (k := 23) rfl (cond_iff c 23) ⟨23, hdev_23⟩ rfl ?_
  refine sig_step m K c 24 (k := 24) rfl (cond_iff c 24) ⟨24, hdev_24⟩ rfl ?_
  refine sig_step m K c 25 (k := 25) rfl (cond_iff c 25) ⟨25, hdev_25⟩ rfl ?_
  refine sig_step m K c 26 (k := 26) rfl (cond_iff c 26) ⟨26, hdev_26⟩ rfl ?_
  exact ent h (wpc_ret c _ Q)

/-- The last peers signalled, the peers' units awaited, and the queries computed. -/
theorem p5 (c : Dev nD) {R : sProp 𝕄} {Q : (Σ' (v135 : FVec F S512x256 .f32) (v136 : IVec S256x256 32) (c64_i32 : BitVec 32) (v138 : IVec S256x256 32) (v145 : IVec S256x256 32), BitVec 32) → sProp 𝕄}
    (h : iprop(ctx m K ∗ Ow c (sndO c 0) ∗ (atPos ER (barCell c) 1 ∅ 0 ∗ bigSep (seg c 0 32) (fun d => barPay c d)) ∗ xP m c ∗ wqP m c ∗ R)
      ⊢ Q ⟨qv m c, iotaV, 64#32, k0_pay2, k0_pay3, sgnV⟩) :
    iprop(ctx m K ∗ sigSt c 27 ∗ (cred (tallyAt (barCell c) () 31) ∗ atPos ER (barCell c) 0 ∅ 0) ∗ xP m c ∗ wqP m c ∗ R)
      ⊢ wpc c (k0_part5_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (SemArray.scalar (sig.barrier 0 rfl)) (nxt c 27#32)) Q := by
  unfold k0_part5_skel
  refine sig_step m K c 27 (k := 27) rfl (cond_iff c 27) ⟨27, hdev_27⟩ rfl ?_
  refine sig_step m K c 28 (k := 28) rfl (cond_iff c 28) ⟨28, hdev_28⟩ rfl ?_
  refine sig_step m K c 29 (k := 29) rfl (cond_iff c 29) ⟨29, hdev_29⟩ rfl ?_
  refine sig_step m K c 30 (k := 30) rfl (cond_iff c 30) ⟨30, hdev_30⟩ rfl ?_
  refine sig_step m K c 31 (k := 31) rfl (cond_iff c 31) ⟨31, hdev_31⟩ rfl ?_
  refine ent (B := iprop(ctx m K ∗ Ow c (sndO c 0) ∗ (cred (tallyAt (barCell c) () 31) ∗ atPos ER (barCell c) 0 ∅ 0) ∗ xP m c ∗ wqP m c ∗ R)) ?_ ?_
  · unfold sigSt st
    have e : sigO c (31 + 1) = sndO c 0 := by
      unfold sigO sndO owB; rw [show ((31 : ℕ) + 1) = 32 from rfl, ow_last, add_zero]
    iintro ⟨#HC, ⟨HO, -⟩, HR⟩
    isplitr; · iexact HC
    isplitl [HO]; · rw [← e]; iexact HO
    iexact HR
  refine wait_bar m K c (sndO c 0) (mayWait_12 c _ 0 0 (by rw [lvOf_bar])) ?_
  refine ent (B := iprop(iprop(ctx m K ∗ Ow c (sndO c 0) ∗ (atPos ER (barCell c) 1 ∅ 0 ∗ bigSep (seg c 0 32) (fun d => barPay c d))) ∗ iprop(xP m c ∗ wqP m c) ∗ R)) ?_ ?_
  · iintro ⟨#HC, HO, HP, Hx, Hq, HR⟩
    isplitl [HO HP]
    · isplitr; · iexact HC
      isplitl [HO]; · iexact HO
      iexact HP
    isplitl [Hx Hq]
    · isplitl [Hx]; · iexact Hx
      iexact Hq
    iexact HR
  refine load_one c (v := xv m c) (by exact reads_sep_left (reads_x m c)) ?_
  refine load_one c (v := wqv m c) (by exact reads_sep_right (reads_wq m c)) ?_
  refine ent ?_ (wpc_ret c _ Q)
  refine ent ?_ h
  iintro ⟨⟨#HC, HO, HP⟩, ⟨Hx, Hq⟩, HR⟩
  isplitr; · iexact HC
  isplitl [HO]; · iexact HO
  isplitl [HP]; · iexact HP
  isplitl [Hx]; · iexact Hx
  isplitl [Hq]; · iexact Hq
  iexact HR

/-- The mask's first half. -/
theorem p6 (c : Dev nD) {G : sProp 𝕄} {Q : (Σ' (v189 : IVec S256x256 1) (v190 : IVec S256x256 32) (v192 : BitVec 32), IVec S256x256 32) → sProp 𝕄}
    (h : G ⊢ Q ⟨k0_pay6 iotaV 64#32 k0_pay2 k0_pay3 sgnV, k0_pay7 iotaV 64#32 k0_pay2 k0_pay3 sgnV, modV, k0_pay8⟩) :
    G ⊢ wpc c (k0_part6_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 iotaV 64#32 k0_pay2 k0_pay3 sgnV) Q := by
  unfold k0_part6_skel
  exact ent h (wpc_ret c _ Q)

/-- The local copies' cells may be awaited while rows of both exchanges are owed. -/
theorem mwt (c : Dev nD) (k : ℕ) (n : ℕ) (hn : n < 152) (h : n < 56) : (levAts L lv : sProp 𝕄) ⊢ MayWait (c : Thread nD τ) (.dma (dsem n hn)) () (sndO c k) :=
  mayWait_12 c _ 0 k (by rw [lvOf_low n hn (.inl h)]; exact Nat.zero_le _)

/-- The waits for batch 0's slabs, and the mask. -/
theorem p7 (c : Dev nD) {R : sProp 𝕄} {Q : IVec S256x256 1 → sProp 𝕄}
    (h : iprop(ctx m K ∗ lst c (sndO c 0) (kvW c) (kvX m c) 0 2 4 ∗ R) ⊢ Q maskV) :
    iprop(ctx m K ∗ lst c (sndO c 0) (kvW c) (kvX m c) 0 0 4 ∗ R)
      ⊢ wpc c (k0_part7_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (k0_pay6 iotaV 64#32 k0_pay2 k0_pay3 sgnV) (k0_pay7 iotaV 64#32 k0_pay2 k0_pay3 sgnV) modV k0_pay8) Q := by
  unfold k0_part7_skel
  refine kv_wait m K c _ 0 (k := 0) rfl (by decide) (by decide) (mwt c 0 _ _ (by decide)) (kv_sem _ 0 rfl _ _) (by rfl) ?_
  refine kv_wait m K c _ 1 (k := 1) rfl (by decide) (by decide) (mwt c 0 _ _ (by decide)) (kv_sem _ 1 rfl _ _) (by rfl) ?_
  exact ent h (wpc_ret c _ Q)

/-- Batch 0's head copies of K, -/
theorem p8 (c : Dev nD) {R : sProp 𝕄} {Q : PUnit → sProp 𝕄} (h : iprop(ctx m K ∗ lst c (sndO c 0) (trD m c) (trC c) 0 4 8 ∗ R) ⊢ Q ⟨⟩) :
    iprop(ctx m K ∗ lst c (sndO c 0) (trD m c) (trC c) 0 0 8 ∗ R) ⊢ wpc c (k0_part8_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part8_skel
  refine trK_copy m K c _ 0 (k := 0) rfl (by decide) (by decide) 0 rfl (tr_sem _ 0 rfl _ _) rfl rfl ?_
  refine trK_copy m K c _ 1 (k := 1) rfl (by decide) (by decide) 1 rfl (tr_sem _ 1 rfl _ _) rfl rfl ?_
  refine trK_copy m K c _ 2 (k := 2) rfl (by decide) (by decide) 2 rfl (tr_sem _ 2 rfl _ _) rfl rfl ?_
  refine trK_copy m K c _ 3 (k := 3) rfl (by decide) (by decide) 3 rfl (tr_sem _ 3 rfl _ _) rfl rfl ?_
  exact ent h (wpc_ret c _ Q)

/-- and of V. -/
theorem p9 (c : Dev nD) {R : sProp 𝕄} {Q : PUnit → sProp 𝕄} (h : iprop(ctx m K ∗ lst c (sndO c 0) (trD m c) (trC c) 0 8 8 ∗ R) ⊢ Q ⟨⟩) :
    iprop(ctx m K ∗ lst c (sndO c 0) (trD m c) (trC c) 0 4 8 ∗ R) ⊢ wpc c (k0_part9_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part9_skel
  refine trV_copy m K c _ 4 (k := 4) rfl (by decide) (by decide) 0 rfl (tr_sem _ 8 rfl _ _) rfl rfl ?_
  refine trV_copy m K c _ 5 (k := 5) rfl (by decide) (by decide) 1 rfl (tr_sem _ 9 rfl _ _) rfl rfl ?_
  refine trV_copy m K c _ 6 (k := 6) rfl (by decide) (by decide) 2 rfl (tr_sem _ 10 rfl _ _) rfl rfl ?_
  refine trV_copy m K c _ 7 (k := 7) rfl (by decide) (by decide) 3 rfl (tr_sem _ 11 rfl _ _) rfl rfl ?_
  exact ent h (wpc_ret c _ Q)

/-- The waits for them. -/
theorem p10 (c : Dev nD) {R : sProp 𝕄} {Q : PUnit → sProp 𝕄} (h : iprop(ctx m K ∗ lst c (sndO c 0) (trW c) (trX m c) 0 4 8 ∗ R) ⊢ Q ⟨⟩) :
    iprop(ctx m K ∗ lst c (sndO c 0) (trW c) (trX m c) 0 0 8 ∗ R) ⊢ wpc c (k0_part10_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part10_skel
  refine tr_wait m K c _ 0 (k := 0) rfl (by decide) (by decide) (mwt c 0 _ _ (by decide)) (tr_sem _ 0 rfl _ _) (by rfl) ?_
  refine tr_wait m K c _ 1 (k := 1) rfl (by decide) (by decide) (mwt c 0 _ _ (by decide)) (tr_sem _ 1 rfl _ _) (by rfl) ?_
  refine tr_wait m K c _ 2 (k := 2) rfl (by decide) (by decide) (mwt c 0 _ _ (by decide)) (tr_sem _ 2 rfl _ _) (by rfl) ?_
  refine tr_wait m K c _ 3 (k := 3) rfl (by decide) (by decide) (mwt c 0 _ _ (by decide)) (tr_sem _ 3 rfl _ _) (by rfl) ?_
  exact ent h (wpc_ret c _ Q)

/-! ## Loads of the head slabs -/

/-- A load of a head of K reads what its finished copy put there. -/
theorem reads_trK (c : Dev nD) (O : CellTallies nD τ sig Unit) {s k e : ℕ} (p : Fin 16) (hp : s ≤ p.val ∧ p.val < k) (i : Fin 8) (hi : i.val = (perm p).val) :
    Reads c (lst c O (trW c) (trX m c) s k e) ktM (headR i).toLoadRect (kv m c i) := by
  unfold lst
  refine reads_sep_right (reads_sep_right (reads_bigSep p (mem_rng.mpr hp) ?_))
  have hlt : (perm p).val < 8 := by omega
  have e0 : (⟨(perm p).val, hlt⟩ : Fin 8) = i := Fin.ext hi.symm
  unfold trX trPay
  rw [dif_pos hlt, e0]
  exact reads_sep_right (reads_sep_left (reads_head ktM i _))
/-- A load of a head of V reads what its finished copy put there. -/
theorem reads_trV (c : Dev nD) (O : CellTallies nD τ sig Unit) {s k e : ℕ} (p : Fin 16) (hp : s ≤ p.val ∧ p.val < k) (i : Fin 8) (hi : i.val + 8 = (perm p).val) :
    Reads c (lst c O (trW c) (trX m c) s k e) vtM (headR i).toLoadRect (vv m c i) := by
  unfold lst
  refine reads_sep_right (reads_sep_right (reads_bigSep p (mem_rng.mpr hp) ?_))
  have hlt : ¬ (perm p).val < 8 := by omega
  have e0 : (⟨(perm p).val - 8, by omega⟩ : Fin 8) = i := Fin.ext (by show (perm p).val - 8 = i.val; omega)
  unfold trX trPay
  rw [dif_neg hlt, e0]
  exact reads_sep_right (reads_sep_left (reads_head vtM i _))

/-- The remaining waits for batch 0's head copies, and its first head's scores. -/
theorem p11 (c : Dev nD) {R : sProp 𝕄} {Q : FVec F S256x256 .f32 → sProp 𝕄}
    (h : iprop(ctx m K ∗ lst c (sndO c 0) (trW c) (trX m c) 0 8 8 ∗ R) ⊢ Q (k0_pay10 (qv m c) (kv m c 0))) :
    iprop(ctx m K ∗ lst c (sndO c 0) (trW c) (trX m c) 0 4 8 ∗ R) ⊢ wpc c (k0_part11_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c)) Q := by
  unfold k0_part11_skel
  refine tr_wait m K c _ 4 (k := 4) rfl (by decide) (by decide) (mwt c 0 _ _ (by decide)) (tr_sem _ 8 rfl _ _) (by rfl) ?_
  refine tr_wait m K c _ 5 (k := 5) rfl (by decide) (by decide) (mwt c 0 _ _ (by decide)) (tr_sem _ 9 rfl _ _) (by rfl) ?_
  refine tr_wait m K c _ 6 (k := 6) rfl (by decide) (by decide) (mwt c 0 _ _ (by decide)) (tr_sem _ 10 rfl _ _) (by rfl) ?_
  refine tr_wait m K c _ 7 (k := 7) rfl (by decide) (by decide) (mwt c 0 _ _ (by decide)) (tr_sem _ 11 rfl _ _) (by rfl) ?_
  refine load_one c (v := kv m c 0) (by exact reads_trK m c (sndO c 0) (s := 0) (k := 8) (e := 8) 0 (by decide) 0 rfl) ?_
  exact ent h (wpc_ret c _ Q)

/-- The output weights and the heads waited for. -/
abbrev WT (c : Dev nD) (k s : ℕ) : sProp 𝕄 := iprop(woP m c ∗ lst c (sndO c k) (trW c) (trX m c) s (s + 8) (s + 8))

/-- Batch 0's first head accumulated, and its second head begun. -/
theorem p12 (c : Dev nD) {R : sProp 𝕄} {Q : (Σ' (v346 : FVec F S256x512 .f32) (v361 : FVec F S256x256 .f32), FVec F S256x256 .f32) → sProp 𝕄}
    (h : iprop(ctx m K ∗ WT m c 0 0 ∗ R) ⊢ Q ⟨acc0a m c, k0_pay12 (qv m c) maskV (kv m c 1), k0_pay13 (qv m c) maskV (kv m c 1)⟩) :
    iprop(ctx m K ∗ WT m c 0 0 ∗ R) ⊢ wpc c (k0_part12_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c) maskV (k0_pay10 (qv m c) (kv m c 0))) Q := by
  unfold k0_part12_skel
  refine load_one c (v := vv m c 0) (by exact reads_sep_right (reads_trV m c (sndO c 0) (s := 0) (k := 8) (e := 8) 4 (by decide) 0 rfl)) ?_
  refine load_one c (v := woH m c 0) (by exact reads_sep_left (reads_wo m c 0)) ?_
  refine load_one c (v := kv m c 1) (by exact reads_sep_right (reads_trK m c (sndO c 0) (s := 0) (k := 8) (e := 8) 1 (by decide) 1 rfl)) ?_
  exact ent h (wpc_ret c _ Q)

/-- Batch 0's second head accumulated, and its third head's context. -/
theorem p13 (c : Dev nD) {R : sProp 𝕄} {Q : (Σ' (v376 : FVec F S256x512 .f32) (v400 : FVec F S256x64 .f32), FVec F S64x512 .bf16) → sProp 𝕄}
    (h : iprop(ctx m K ∗ WT m c 0 0 ∗ R) ⊢ Q ⟨acc0b m c, ctx0c m c, k0_pay16 (woH m c 2)⟩) :
    iprop(ctx m K ∗ WT m c 0 0 ∗ R)
      ⊢ wpc c (k0_part13_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c) maskV (acc0a m c) (k0_pay12 (qv m c) maskV (kv m c 1)) (k0_pay13 (qv m c) maskV (kv m c 1))) Q := by
  unfold k0_part13_skel
  refine load_one c (v := vv m c 1) (by exact reads_sep_right (reads_trV m c (sndO c 0) (s := 0) (k := 8) (e := 8) 5 (by decide) 1 rfl)) ?_
  refine load_one c (v := woH m c 1) (by exact reads_sep_left (reads_wo m c 1)) ?_
  refine load_one c (v := kv m c 2) (by exact reads_sep_right (reads_trK m c (sndO c 0) (s := 0) (k := 8) (e := 8) 2 (by decide) 2 rfl)) ?_
  refine load_one c (v := vv m c 2) (by exact reads_sep_right (reads_trV m c (sndO c 0) (s := 0) (k := 8) (e := 8) 6 (by decide) 2 rfl)) ?_
  refine load_one c (v := woH m c 2) (by exact reads_sep_left (reads_wo m c 2)) ?_
  exact ent h (wpc_ret c _ Q)

/-- Half `b` of a 512-row scratch buffer. -/
abbrev half {e : EltTy} (M : Memref sig .tc .vmem S512x512 e) (b : Fin 2) : Memref sig .tc .vmem S256x512 e := M.slice (halfR b) (fun _ => rfl)

/-- Batch 0's third and fourth heads accumulated. -/
theorem p14 (c : Dev nD) {R : sProp 𝕄} {Q : FVec F S256x512 .bf16 → sProp 𝕄}
    (h : iprop(iprop(ctx m K ∗ WT m c 0 0 ∗ anyOf (half pM 0) c) ∗ anyOf (half pbM 0) c ∗ R)
      ⊢ Q (k0_pay19 (qv m c) maskV (acc0b m c) (ctx0c m c) (k0_pay16 (woH m c 2)) (kv m c 3) (vv m c 3) (woH m c 3))) :
    iprop(ctx m K ∗ WT m c 0 0 ∗ anyOf (half pM 0) c ∗ anyOf (half pbM 0) c ∗ R)
      ⊢ wpc c (k0_part14_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c) maskV (acc0b m c) (ctx0c m c) (k0_pay16 (woH m c 2))) Q := by
  unfold k0_part14_skel
  refine load_one c (v := kv m c 3) (by exact reads_sep_right (reads_trK m c (sndO c 0) (s := 0) (k := 8) (e := 8) 3 (by decide) 3 rfl)) ?_
  refine load_one c (v := vv m c 3) (by exact reads_sep_right (reads_trV m c (sndO c 0) (s := 0) (k := 8) (e := 8) 7 (by decide) 3 rfl)) ?_
  refine load_one c (v := woH m c 3) (by exact reads_sep_left (reads_wo m c 3)) ?_
  refine ent (B := iprop(iprop(ctx m K ∗ WT m c 0 0) ∗ anyOf (half pM 0) c ∗ iprop(anyOf (half pbM 0) c ∗ R))) ?_ ?_
  · iintro ⟨#HC, HW, HP, HPB, HR⟩
    isplitl [HW]
    · isplitr; · iexact HC
      iexact HW
    isplitl [HP]; · iexact HP
    isplitl [HPB]; · iexact HPB
    iexact HR
  refine load_dead c (by exact dead_slice pM (halfR 0) (fun _ => rfl)) (fun _ => ?_)
  refine store_one c (by exact store_slice pM (halfR 0) (fun _ => rfl) _) ?_
  refine ent (B := iprop(iprop(ctx m K ∗ WT m c 0 0 ∗ anyOf (half pM 0) c) ∗ anyOf (half pbM 0) c ∗ R)) ?_ ?_
  · iintro ⟨⟨#HC, HW⟩, HP, HPB, HR⟩
    isplitl [HW HP]
    · isplitr; · iexact HC
      isplitl [HW]; · iexact HW
      iapply holds_any; iexact HP
    isplitl [HPB]; · iexact HPB
    iexact HR
  refine load_dead c (by exact dead_slice pbM (halfR 0) (fun _ => rfl)) (fun _ => ?_)
  exact ent h (wpc_ret c _ Q)

end PartsA

end Cert.Attn
-- ==== Proof.Cut.lean ====
/-
# Cutting a buffer into its slots, halves, heads, slabs and columns, and joining them again
-/
module

public import proofs.«01_k».proof.Proof.Runs
public import proofs.«01_k».proof.Proof.PartsA

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Cut

/-! ## Cutting by a key -/

variable {ℓ : Loc nD τ sig} {ι : Type} [DecidableEq ι] {K : Finset ι} {S : ι → Finset (Idx ℓ)} {T : Finset (Idx ℓ)}

/-- The pieces of `T` an index's key tells apart are disjoint and cover it. -/
theorem key_union (key : Idx ℓ → ι) (hS : ∀ i ∈ K, ∀ x, x ∈ S i ↔ x ∈ T ∧ key x = i) (hK : ∀ x ∈ T, key x ∈ K) : T = K.biUnion S := by
  ext x; rw [Finset.mem_biUnion]
  constructor
  · intro h; exact ⟨key x, hK x h, (hS _ (hK x h) x).mpr ⟨h, rfl⟩⟩
  · rintro ⟨i, hi, hx⟩; exact ((hS i hi x).mp hx).1
/-- The pieces of `T` that an index's key tells apart are pairwise disjoint. -/
theorem key_disj (key : Idx ℓ → ι) (hS : ∀ i ∈ K, ∀ x, x ∈ S i ↔ x ∈ T ∧ key x = i) :
    ∀ t ∈ K, ∀ t' ∈ K, t ≠ t' → Disjoint (S t) (S t') := by
  intro t ht t' ht' hne
  rw [Finset.disjoint_left]; intro x h1 h2
  exact hne (((hS t ht x).mp h1).2.symm.trans ((hS t' ht' x).mp h2).2)

/-- Contents of `T` are the contents of its pieces. -/
theorem key_at (key : Idx ℓ → ι) (hS : ∀ i ∈ K, ∀ x, x ∈ S i ↔ x ∈ T ∧ key x = i) (hK : ∀ x ∈ T, key x ∈ K) (f : Buf (Elt F) ℓ) :
    (ℓ ↦[T]{fullShare} f : sProp 𝕄) = bigSep K fun i => ℓ ↦[S i]{fullShare} f := by
  rw [key_union key hS hK]; exact pointsTo_biUnion K S (key_disj key hS)
/-- Pieces at any contents join. -/
theorem key_join (key : Idx ℓ → ι) (hS : ∀ i ∈ K, ∀ x, x ∈ S i ↔ x ∈ T ∧ key x = i) (hK : ∀ x ∈ T, key x ∈ K) [Nonempty (Buf (Elt F) ℓ)] :
    (bigSep K fun i => iprop(∃ f : Buf (Elt F) ℓ, ℓ ↦[S i]{fullShare} f) : sProp 𝕄) ⊢ iprop(∃ f : Buf (Elt F) ℓ, ℓ ↦[T]{fullShare} f) := by
  refine ent (bigSep_exists_pi K (fun i (f : Buf (Elt F) ℓ) => (ℓ ↦[S i]{fullShare} f : sProp 𝕄))) ?_
  iintro ⟨%fs, H⟩
  ihave H := (pointsTo_biUnion_join K S fs (Classical.choice inferInstance) (key_disj key hS)) $$ H
  icases H with ⟨%g, -, H⟩
  iexists g
  rw [key_union key hS hK]
  iexact H
/-- Elements at one contents are those elements at some contents. -/
theorem any_intro {I : Finset (Idx ℓ)} (f : Buf (Elt F) ℓ) : (ℓ ↦[I]{fullShare} f : sProp 𝕄) ⊢ iprop(∃ f : Buf (Elt F) ℓ, ℓ ↦[I]{fullShare} f) := by
  iintro H; iexists f; iexact H
/-- Any contents of `T` are some contents of its pieces. -/
theorem key_cut (key : Idx ℓ → ι) (hS : ∀ i ∈ K, ∀ x, x ∈ S i ↔ x ∈ T ∧ key x = i) (hK : ∀ x ∈ T, key x ∈ K) :
    (iprop(∃ f : Buf (Elt F) ℓ, ℓ ↦[T]{fullShare} f) : sProp 𝕄) ⊢ bigSep K fun i => iprop(∃ f : Buf (Elt F) ℓ, ℓ ↦[S i]{fullShare} f) := by
  have h : ∀ f : Buf (Elt F) ℓ, (ℓ ↦[T]{fullShare} f : sProp 𝕄) ⊢ bigSep K fun i => iprop(∃ f : Buf (Elt F) ℓ, ℓ ↦[S i]{fullShare} f) := fun f => by
    rw [key_at key hS hK f]
    exact bigSep_mono fun i _ => any_intro f
  iintro ⟨%f, H⟩
  iapply (h f); iexact H

end Cut

/-! ## The sets -/

section Sets
/-- An element lies in slot `j` when its row over 16 is `j`. -/
theorem slot_mem (j : Fin 32) (x : S512x512.Idx) : x ∈ (slotR j).set ↔ (x 0).val / 16 = j.val := by
  rw [Rect.mem_set_unit]
  constructor
  · intro h; have := h 0; change 16 * j.val ≤ (x 0).val ∧ (x 0).val < 16 * j.val + 16 at this; omega
  · intro h a
    match a with
    | ⟨0, _⟩ => show 16 * j.val ≤ (x 0).val ∧ (x 0).val < 16 * j.val + 16; omega
    | ⟨1, _⟩ => exact ⟨Nat.zero_le _, by have := (x 1).isLt; change (x 1).val < 512 at this; show (x 1).val < 0 + 512; omega⟩
/-- An element lies in half `b` when its row over 256 is `b`. -/
theorem half_mem (b : Fin 2) (x : S512x512.Idx) : x ∈ (halfR b).set ↔ (x 0).val / 256 = b.val := by
  rw [Rect.mem_set_unit]
  constructor
  · intro h; have := h 0; change 256 * b.val ≤ (x 0).val ∧ (x 0).val < 256 * b.val + 256 at this; omega
  · intro h a
    match a with
    | ⟨0, _⟩ => show 256 * b.val ≤ (x 0).val ∧ (x 0).val < 256 * b.val + 256; omega
    | ⟨1, _⟩ => exact ⟨Nat.zero_le _, by have := (x 1).isLt; change (x 1).val < 512 at this; show (x 1).val < 0 + 512; omega⟩
/-- An element lies in head `i` when its first index is `i`. -/
theorem head_mem (i : Fin 8) (x : S8x256x64.Idx) : x ∈ (headR i).set ↔ (x 0).val = i.val := by
  rw [Rect.mem_set_unit]
  constructor
  · intro h; have := h 0; change i.val ≤ (x 0).val ∧ (x 0).val < i.val + 1 at this; omega
  · intro h a
    match a with
    | ⟨0, _⟩ => show i.val ≤ (x 0).val ∧ (x 0).val < i.val + 1; omega
    | ⟨1, _⟩ => exact ⟨Nat.zero_le _, by have := (x 1).isLt; change (x 1).val < 256 at this; show (x 1).val < 0 + 256; omega⟩
    | ⟨2, _⟩ => exact ⟨Nat.zero_le _, by have := (x 2).isLt; change (x 2).val < 64 at this; show (x 2).val < 0 + 64; omega⟩
/-- An element lies in slab `b` when its batch is `b`. -/
theorem slab_mem (b : Fin 2) (x : S2x256x4x64.Idx) : x ∈ (slabR b).set ↔ (x 0).val = b.val := by
  rw [Rect.mem_set_unit]
  constructor
  · intro h; have := h 0; change b.val ≤ (x 0).val ∧ (x 0).val < b.val + 1 at this; omega
  · intro h a
    match a with
    | ⟨0, _⟩ => show b.val ≤ (x 0).val ∧ (x 0).val < b.val + 1; omega
    | ⟨1, _⟩ => exact ⟨Nat.zero_le _, by have := (x 1).isLt; change (x 1).val < 256 at this; show (x 1).val < 0 + 256; omega⟩
    | ⟨2, _⟩ => exact ⟨Nat.zero_le _, by have := (x 2).isLt; change (x 2).val < 4 at this; show (x 2).val < 0 + 4; omega⟩
    | ⟨3, _⟩ => exact ⟨Nat.zero_le _, by have := (x 3).isLt; change (x 3).val < 64 at this; show (x 3).val < 0 + 64; omega⟩
/-- An element lies in column `h` of slab `b` when its batch is `b` and its head is `h`. -/
theorem col_mem (b : Fin 2) (h : Fin 4) (x : S2x256x4x64.Idx) : x ∈ (colR b h).set ↔ (x 0).val = b.val ∧ (x 2).val = h.val := by
  rw [Rect.mem_set_unit]
  constructor
  · intro hh; have h0 := hh 0; have h2 := hh 2
    change b.val ≤ (x 0).val ∧ (x 0).val < b.val + 1 at h0; change h.val ≤ (x 2).val ∧ (x 2).val < h.val + 1 at h2; omega
  · intro hh a
    match a with
    | ⟨0, _⟩ => show b.val ≤ (x 0).val ∧ (x 0).val < b.val + 1; omega
    | ⟨1, _⟩ => exact ⟨Nat.zero_le _, by have := (x 1).isLt; change (x 1).val < 256 at this; show (x 1).val < 0 + 256; omega⟩
    | ⟨2, _⟩ => show h.val ≤ (x 2).val ∧ (x 2).val < h.val + 1; omega
    | ⟨3, _⟩ => exact ⟨Nat.zero_le _, by have := (x 3).isLt; change (x 3).val < 64 at this; show (x 3).val < 0 + 64; omega⟩
/-- An element of a cache lies in device `c`'s slice of batch `b` when its batch is `b` and its head over 4 is `c`. -/
theorem src_mem (c : Dev nD) (b : Fin 2) (x : S2x256x128x64.Idx) : x ∈ (srcR c b).set ↔ (x 0).val = b.val ∧ (x 2).val / 4 = c.val := by
  rw [Rect.mem_set_unit]
  constructor
  · intro hh; have h0 := hh 0; have h2 := hh 2
    change b.val ≤ (x 0).val ∧ (x 0).val < b.val + 1 at h0; change 4 * c.val ≤ (x 2).val ∧ (x 2).val < 4 * c.val + 4 at h2; omega
  · intro hh a
    match a with
    | ⟨0, _⟩ => show b.val ≤ (x 0).val ∧ (x 0).val < b.val + 1; omega
    | ⟨1, _⟩ => exact ⟨Nat.zero_le _, by have := (x 1).isLt; change (x 1).val < 256 at this; show (x 1).val < 0 + 256; omega⟩
    | ⟨2, _⟩ => show 4 * c.val ≤ (x 2).val ∧ (x 2).val < 4 * c.val + 4; omega
    | ⟨3, _⟩ => exact ⟨Nat.zero_le _, by have := (x 3).isLt; change (x 3).val < 64 at this; show (x 3).val < 0 + 64; omega⟩
end Sets

/-! ## Whole buffers and their pieces -/

section Bufs

/-- A scratch buffer whole, at any contents. -/
def whole (b : Ref sig .tc) (c : Dev nD) : sProp 𝕄 := iprop(∃ f : Buf (Elt F) ((c : Thread nD τ).loc b), ((c : Thread nD τ).loc b) ↦{fullShare} f)

/-- A row of a 512-row buffer lies in one of 32 slots. -/
theorem slotKey (x : S512x512.Idx) : (x 0).val / 16 < 32 := by have : (x 0).val < 512 := (x 0).isLt; omega
/-- A row of a 512-row buffer lies in one of two halves. -/
theorem halfKey (x : S512x512.Idx) : (x 0).val / 256 < 2 := by have : (x 0).val < 512 := (x 0).isLt; omega
/-- A slot of the first landing buffer is its rectangle's elements. -/
theorem rs_set (j : Fin 32) : (slot rsM j).view.set = (slotR j).set := View.set_slice_whole _ _
/-- A slot of the second landing buffer is its rectangle's elements. -/
theorem ag_set (j : Fin 32) : (slot agM j).view.set = (slotR j).set := View.set_slice_whole _ _
/-- A slot of the rounded partial products is its rectangle's elements. -/
theorem pb_set (j : Fin 32) : (slot pbM j).view.set = (slotR j).set := View.set_slice_whole _ _
/-- A half of the partial products is its rectangle's elements. -/
theorem p_hset (b : Fin 2) : (half pM b).view.set = (halfR b).set := View.set_slice_whole _ _
/-- A half of the rounded partial products is its rectangle's elements. -/
theorem pb_hset (b : Fin 2) : (half pbM b).view.set = (halfR b).set := View.set_slice_whole _ _
/-- A head of the transposed K buffer is its rectangle's elements. -/
theorem kt_set (i : Fin 8) : (head ktM i).view.set = (headR i).set := (View.set_reshape _ _).trans (View.set_slice_whole _ _)
/-- A head of the transposed V buffer is its rectangle's elements. -/
theorem vt_set (i : Fin 8) : (head vtM i).view.set = (headR i).set := (View.set_reshape _ _).trans (View.set_slice_whole _ _)
/-- A slab of the K buffer is its rectangle's elements. -/
theorem k4_set (b : Fin 2) : (slab k4M b).view.set = (slabR b).set := (View.set_reshape _ _).trans (View.set_slice_whole _ _)
/-- A slab of the V buffer is its rectangle's elements. -/
theorem v4_set (b : Fin 2) : (slab v4M b).view.set = (slabR b).set := (View.set_reshape _ _).trans (View.set_slice_whole _ _)
/-- A head's column of the K buffer is its rectangle's elements. -/
theorem k4_cset (b : Fin 2) (h : Fin 4) : (col k4M b h).view.set = (colR b h).set := (View.set_reshape _ _).trans (View.set_slice_whole _ _)
/-- A head's column of the V buffer is its rectangle's elements. -/
theorem v4_cset (b : Fin 2) (h : Fin 4) : (col v4M b h).view.set = (colR b h).set := (View.set_reshape _ _).trans (View.set_slice_whole _ _)
/-- A device's slice of the K cache is its rectangle's elements. -/
theorem k_sset (c : Dev nD) (b : Fin 2) : (srcS kA c b).view.set = (srcR c b).set := (View.set_reshape _ _).trans (View.set_slice_whole _ _)
/-- A device's slice of the V cache is its rectangle's elements. -/
theorem v_sset (c : Dev nD) (b : Fin 2) : (srcS vA c b).view.set = (srcR c b).set := (View.set_reshape _ _).trans (View.set_slice_whole _ _)

/-- The buffer whole, and in its pieces. -/
theorem rsW_cut (c : Dev nD) : (whole cc0_scratch6 c : sProp 𝕄) ⊢ bigSep Finset.univ fun i : Fin 32 => anyOf (slot rsM i) c :=
  key_cut (ℓ := (c : Thread nD τ).loc cc0_scratch6) (K := (Finset.univ : Finset (Fin 32))) (T := Finset.univ) (fun x : S512x512.Idx => (⟨(x 0).val / 16, slotKey x⟩ : Fin 32))
    (fun i _ x => by rw [rs_set]; exact (slot_mem i x).trans ⟨fun h => ⟨Finset.mem_univ _, Fin.ext h⟩, fun h => by have := h.2; subst this; rfl⟩) (fun _ _ => Finset.mem_univ _)
/-- The 32 slots of the first landing buffer join to the whole buffer. -/
theorem rsW_join (c : Dev nD) : (bigSep Finset.univ fun i : Fin 32 => anyOf (slot rsM i) c : sProp 𝕄) ⊢ whole cc0_scratch6 c :=
  key_join (ℓ := (c : Thread nD τ).loc cc0_scratch6) (K := (Finset.univ : Finset (Fin 32))) (T := Finset.univ) (fun x : S512x512.Idx => (⟨(x 0).val / 16, slotKey x⟩ : Fin 32))
    (fun i _ x => by rw [rs_set]; exact (slot_mem i x).trans ⟨fun h => ⟨Finset.mem_univ _, Fin.ext h⟩, fun h => by have := h.2; subst this; rfl⟩) (fun _ _ => Finset.mem_univ _)

/-- The buffer whole, and in its pieces. -/
theorem agW_cut (c : Dev nD) : (whole cc0_scratch8 c : sProp 𝕄) ⊢ bigSep Finset.univ fun i : Fin 32 => anyOf (slot agM i) c :=
  key_cut (ℓ := (c : Thread nD τ).loc cc0_scratch8) (K := (Finset.univ : Finset (Fin 32))) (T := Finset.univ) (fun x : S512x512.Idx => (⟨(x 0).val / 16, slotKey x⟩ : Fin 32))
    (fun i _ x => by rw [ag_set]; exact (slot_mem i x).trans ⟨fun h => ⟨Finset.mem_univ _, Fin.ext h⟩, fun h => by have := h.2; subst this; rfl⟩) (fun _ _ => Finset.mem_univ _)
/-- The 32 slots of the second landing buffer join to the whole buffer. -/
theorem agW_join (c : Dev nD) : (bigSep Finset.univ fun i : Fin 32 => anyOf (slot agM i) c : sProp 𝕄) ⊢ whole cc0_scratch8 c :=
  key_join (ℓ := (c : Thread nD τ).loc cc0_scratch8) (K := (Finset.univ : Finset (Fin 32))) (T := Finset.univ) (fun x : S512x512.Idx => (⟨(x 0).val / 16, slotKey x⟩ : Fin 32))
    (fun i _ x => by rw [ag_set]; exact (slot_mem i x).trans ⟨fun h => ⟨Finset.mem_univ _, Fin.ext h⟩, fun h => by have := h.2; subst this; rfl⟩) (fun _ _ => Finset.mem_univ _)

/-- The buffer whole, and in its pieces. -/
theorem pbW_cut (c : Dev nD) : (whole cc0_scratch5 c : sProp 𝕄) ⊢ bigSep Finset.univ fun i : Fin 32 => anyOf (slot pbM i) c :=
  key_cut (ℓ := (c : Thread nD τ).loc cc0_scratch5) (K := (Finset.univ : Finset (Fin 32))) (T := Finset.univ) (fun x : S512x512.Idx => (⟨(x 0).val / 16, slotKey x⟩ : Fin 32))
    (fun i _ x => by rw [pb_set]; exact (slot_mem i x).trans ⟨fun h => ⟨Finset.mem_univ _, Fin.ext h⟩, fun h => by have := h.2; subst this; rfl⟩) (fun _ _ => Finset.mem_univ _)
/-- The 32 slots of the rounded partial products join to the whole buffer. -/
theorem pbW_join (c : Dev nD) : (bigSep Finset.univ fun i : Fin 32 => anyOf (slot pbM i) c : sProp 𝕄) ⊢ whole cc0_scratch5 c :=
  key_join (ℓ := (c : Thread nD τ).loc cc0_scratch5) (K := (Finset.univ : Finset (Fin 32))) (T := Finset.univ) (fun x : S512x512.Idx => (⟨(x 0).val / 16, slotKey x⟩ : Fin 32))
    (fun i _ x => by rw [pb_set]; exact (slot_mem i x).trans ⟨fun h => ⟨Finset.mem_univ _, Fin.ext h⟩, fun h => by have := h.2; subst this; rfl⟩) (fun _ _ => Finset.mem_univ _)

/-- The buffer whole, and in its pieces. -/
theorem pbhW_cut (c : Dev nD) : (whole cc0_scratch5 c : sProp 𝕄) ⊢ bigSep Finset.univ fun i : Fin 2 => anyOf (half pbM i) c :=
  key_cut (ℓ := (c : Thread nD τ).loc cc0_scratch5) (K := (Finset.univ : Finset (Fin 2))) (T := Finset.univ) (fun x : S512x512.Idx => (⟨(x 0).val / 256, halfKey x⟩ : Fin 2))
    (fun i _ x => by rw [pb_hset]; exact (half_mem i x).trans ⟨fun h => ⟨Finset.mem_univ _, Fin.ext h⟩, fun h => by have := h.2; subst this; rfl⟩) (fun _ _ => Finset.mem_univ _)
/-- The two halves of the rounded partial products join to the whole buffer. -/
theorem pbhW_join (c : Dev nD) : (bigSep Finset.univ fun i : Fin 2 => anyOf (half pbM i) c : sProp 𝕄) ⊢ whole cc0_scratch5 c :=
  key_join (ℓ := (c : Thread nD τ).loc cc0_scratch5) (K := (Finset.univ : Finset (Fin 2))) (T := Finset.univ) (fun x : S512x512.Idx => (⟨(x 0).val / 256, halfKey x⟩ : Fin 2))
    (fun i _ x => by rw [pb_hset]; exact (half_mem i x).trans ⟨fun h => ⟨Finset.mem_univ _, Fin.ext h⟩, fun h => by have := h.2; subst this; rfl⟩) (fun _ _ => Finset.mem_univ _)

/-- The buffer whole, and in its pieces. -/
theorem phW_cut (c : Dev nD) : (whole cc0_scratch4 c : sProp 𝕄) ⊢ bigSep Finset.univ fun i : Fin 2 => anyOf (half pM i) c :=
  key_cut (ℓ := (c : Thread nD τ).loc cc0_scratch4) (K := (Finset.univ : Finset (Fin 2))) (T := Finset.univ) (fun x : S512x512.Idx => (⟨(x 0).val / 256, halfKey x⟩ : Fin 2))
    (fun i _ x => by rw [p_hset]; exact (half_mem i x).trans ⟨fun h => ⟨Finset.mem_univ _, Fin.ext h⟩, fun h => by have := h.2; subst this; rfl⟩) (fun _ _ => Finset.mem_univ _)
/-- The two halves of the partial products join to the whole buffer. -/
theorem phW_join (c : Dev nD) : (bigSep Finset.univ fun i : Fin 2 => anyOf (half pM i) c : sProp 𝕄) ⊢ whole cc0_scratch4 c :=
  key_join (ℓ := (c : Thread nD τ).loc cc0_scratch4) (K := (Finset.univ : Finset (Fin 2))) (T := Finset.univ) (fun x : S512x512.Idx => (⟨(x 0).val / 256, halfKey x⟩ : Fin 2))
    (fun i _ x => by rw [p_hset]; exact (half_mem i x).trans ⟨fun h => ⟨Finset.mem_univ _, Fin.ext h⟩, fun h => by have := h.2; subst this; rfl⟩) (fun _ _ => Finset.mem_univ _)

/-- The buffer whole, and in its pieces. -/
theorem ktW_cut (c : Dev nD) : (whole cc0_scratch2 c : sProp 𝕄) ⊢ bigSep Finset.univ fun i : Fin 8 => anyOf (head ktM i) c :=
  key_cut (ℓ := (c : Thread nD τ).loc cc0_scratch2) (K := (Finset.univ : Finset (Fin 8))) (T := Finset.univ) (fun x : S8x256x64.Idx => (x 0 : Fin 8))
    (fun i _ x => by rw [kt_set]; exact (head_mem i x).trans ⟨fun h => ⟨Finset.mem_univ _, Fin.ext h⟩, fun h => by have := h.2; subst this; rfl⟩) (fun _ _ => Finset.mem_univ _)
/-- The eight heads of the transposed K buffer join to the whole buffer. -/
theorem ktW_join (c : Dev nD) : (bigSep Finset.univ fun i : Fin 8 => anyOf (head ktM i) c : sProp 𝕄) ⊢ whole cc0_scratch2 c :=
  key_join (ℓ := (c : Thread nD τ).loc cc0_scratch2) (K := (Finset.univ : Finset (Fin 8))) (T := Finset.univ) (fun x : S8x256x64.Idx => (x 0 : Fin 8))
    (fun i _ x => by rw [kt_set]; exact (head_mem i x).trans ⟨fun h => ⟨Finset.mem_univ _, Fin.ext h⟩, fun h => by have := h.2; subst this; rfl⟩) (fun _ _ => Finset.mem_univ _)

/-- The buffer whole, and in its pieces. -/
theorem vtW_cut (c : Dev nD) : (whole cc0_scratch3 c : sProp 𝕄) ⊢ bigSep Finset.univ fun i : Fin 8 => anyOf (head vtM i) c :=
  key_cut (ℓ := (c : Thread nD τ).loc cc0_scratch3) (K := (Finset.univ : Finset (Fin 8))) (T := Finset.univ) (fun x : S8x256x64.Idx => (x 0 : Fin 8))
    (fun i _ x => by rw [vt_set]; exact (head_mem i x).trans ⟨fun h => ⟨Finset.mem_univ _, Fin.ext h⟩, fun h => by have := h.2; subst this; rfl⟩) (fun _ _ => Finset.mem_univ _)
/-- The eight heads of the transposed V buffer join to the whole buffer. -/
theorem vtW_join (c : Dev nD) : (bigSep Finset.univ fun i : Fin 8 => anyOf (head vtM i) c : sProp 𝕄) ⊢ whole cc0_scratch3 c :=
  key_join (ℓ := (c : Thread nD τ).loc cc0_scratch3) (K := (Finset.univ : Finset (Fin 8))) (T := Finset.univ) (fun x : S8x256x64.Idx => (x 0 : Fin 8))
    (fun i _ x => by rw [vt_set]; exact (head_mem i x).trans ⟨fun h => ⟨Finset.mem_univ _, Fin.ext h⟩, fun h => by have := h.2; subst this; rfl⟩) (fun _ _ => Finset.mem_univ _)

/-- The buffer whole, and in its pieces. -/
theorem k4W_cut (c : Dev nD) : (whole cc0_scratch0 c : sProp 𝕄) ⊢ bigSep Finset.univ fun i : Fin 2 => anyOf (slab k4M i) c :=
  key_cut (ℓ := (c : Thread nD τ).loc cc0_scratch0) (K := (Finset.univ : Finset (Fin 2))) (T := Finset.univ) (fun x : S2x256x4x64.Idx => (x 0 : Fin 2))
    (fun i _ x => by rw [k4_set]; exact (slab_mem i x).trans ⟨fun h => ⟨Finset.mem_univ _, Fin.ext h⟩, fun h => by have := h.2; subst this; rfl⟩) (fun _ _ => Finset.mem_univ _)
/-- The two slabs of the K buffer join to the whole buffer. -/
theorem k4W_join (c : Dev nD) : (bigSep Finset.univ fun i : Fin 2 => anyOf (slab k4M i) c : sProp 𝕄) ⊢ whole cc0_scratch0 c :=
  key_join (ℓ := (c : Thread nD τ).loc cc0_scratch0) (K := (Finset.univ : Finset (Fin 2))) (T := Finset.univ) (fun x : S2x256x4x64.Idx => (x 0 : Fin 2))
    (fun i _ x => by rw [k4_set]; exact (slab_mem i x).trans ⟨fun h => ⟨Finset.mem_univ _, Fin.ext h⟩, fun h => by have := h.2; subst this; rfl⟩) (fun _ _ => Finset.mem_univ _)

/-- The buffer whole, and in its pieces. -/
theorem v4W_cut (c : Dev nD) : (whole cc0_scratch1 c : sProp 𝕄) ⊢ bigSep Finset.univ fun i : Fin 2 => anyOf (slab v4M i) c :=
  key_cut (ℓ := (c : Thread nD τ).loc cc0_scratch1) (K := (Finset.univ : Finset (Fin 2))) (T := Finset.univ) (fun x : S2x256x4x64.Idx => (x 0 : Fin 2))
    (fun i _ x => by rw [v4_set]; exact (slab_mem i x).trans ⟨fun h => ⟨Finset.mem_univ _, Fin.ext h⟩, fun h => by have := h.2; subst this; rfl⟩) (fun _ _ => Finset.mem_univ _)
/-- The two slabs of the V buffer join to the whole buffer. -/
theorem v4W_join (c : Dev nD) : (bigSep Finset.univ fun i : Fin 2 => anyOf (slab v4M i) c : sProp 𝕄) ⊢ whole cc0_scratch1 c :=
  key_join (ℓ := (c : Thread nD τ).loc cc0_scratch1) (K := (Finset.univ : Finset (Fin 2))) (T := Finset.univ) (fun x : S2x256x4x64.Idx => (x 0 : Fin 2))
    (fun i _ x => by rw [v4_set]; exact (slab_mem i x).trans ⟨fun h => ⟨Finset.mem_univ _, Fin.ext h⟩, fun h => by have := h.2; subst this; rfl⟩) (fun _ _ => Finset.mem_univ _)

/-- The buffer whole, and in its pieces. -/
theorem k4colW_cut (c : Dev nD) : (whole cc0_scratch0 c : sProp 𝕄) ⊢ bigSep Finset.univ fun i : Fin 2 × Fin 4 => anyOf (col k4M i.1 i.2) c :=
  key_cut (ℓ := (c : Thread nD τ).loc cc0_scratch0) (K := (Finset.univ : Finset (Fin 2 × Fin 4))) (T := Finset.univ) (fun x : S2x256x4x64.Idx => ((x 0, x 2) : Fin 2 × Fin 4))
    (fun i _ x => by rw [k4_cset]; exact (col_mem i.1 i.2 x).trans ⟨fun h => ⟨Finset.mem_univ _, Prod.ext (Fin.ext h.1) (Fin.ext h.2)⟩, fun h => by have := h.2; subst this; exact ⟨rfl, rfl⟩⟩) (fun _ _ => Finset.mem_univ _)
/-- The eight columns of the K buffer join to the whole buffer. -/
theorem k4colW_join (c : Dev nD) : (bigSep Finset.univ fun i : Fin 2 × Fin 4 => anyOf (col k4M i.1 i.2) c : sProp 𝕄) ⊢ whole cc0_scratch0 c :=
  key_join (ℓ := (c : Thread nD τ).loc cc0_scratch0) (K := (Finset.univ : Finset (Fin 2 × Fin 4))) (T := Finset.univ) (fun x : S2x256x4x64.Idx => ((x 0, x 2) : Fin 2 × Fin 4))
    (fun i _ x => by rw [k4_cset]; exact (col_mem i.1 i.2 x).trans ⟨fun h => ⟨Finset.mem_univ _, Prod.ext (Fin.ext h.1) (Fin.ext h.2)⟩, fun h => by have := h.2; subst this; exact ⟨rfl, rfl⟩⟩) (fun _ _ => Finset.mem_univ _)

/-- The buffer whole, and in its pieces. -/
theorem v4colW_cut (c : Dev nD) : (whole cc0_scratch1 c : sProp 𝕄) ⊢ bigSep Finset.univ fun i : Fin 2 × Fin 4 => anyOf (col v4M i.1 i.2) c :=
  key_cut (ℓ := (c : Thread nD τ).loc cc0_scratch1) (K := (Finset.univ : Finset (Fin 2 × Fin 4))) (T := Finset.univ) (fun x : S2x256x4x64.Idx => ((x 0, x 2) : Fin 2 × Fin 4))
    (fun i _ x => by rw [v4_cset]; exact (col_mem i.1 i.2 x).trans ⟨fun h => ⟨Finset.mem_univ _, Prod.ext (Fin.ext h.1) (Fin.ext h.2)⟩, fun h => by have := h.2; subst this; exact ⟨rfl, rfl⟩⟩) (fun _ _ => Finset.mem_univ _)
/-- The eight columns of the V buffer join to the whole buffer. -/
theorem v4colW_join (c : Dev nD) : (bigSep Finset.univ fun i : Fin 2 × Fin 4 => anyOf (col v4M i.1 i.2) c : sProp 𝕄) ⊢ whole cc0_scratch1 c :=
  key_join (ℓ := (c : Thread nD τ).loc cc0_scratch1) (K := (Finset.univ : Finset (Fin 2 × Fin 4))) (T := Finset.univ) (fun x : S2x256x4x64.Idx => ((x 0, x 2) : Fin 2 × Fin 4))
    (fun i _ x => by rw [v4_cset]; exact (col_mem i.1 i.2 x).trans ⟨fun h => ⟨Finset.mem_univ _, Prod.ext (Fin.ext h.1) (Fin.ext h.2)⟩, fun h => by have := h.2; subst this; exact ⟨rfl, rfl⟩⟩) (fun _ _ => Finset.mem_univ _)

end Bufs

end Cert.Attn
-- ==== Proof.Geom.lean ====
/-
# Splitting and joining the buffers
-/
module

public import proofs.«01_k».proof.Proof.PartsA
public import proofs.«01_k».proof.Proof.Cut

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Geom
variable (m : (ℓ : Loc nD τ sig) → Buf (Elt F) ℓ)

/-- A head copy's destination and its cell's duty token. -/
def trE (c : Dev nD) (p : Fin 16) : sProp 𝕄 :=
  iprop((if h : (perm p).val < 8 then anyOf (head ktM ⟨(perm p).val, h⟩) c else anyOf (head vtM ⟨(perm p).val - 8, by omega⟩) c)
    ∗ dutyTok ER (dcell c (8 + (perm p).val) (by omega)) 0 0)
/-- What is left of a slab copy once the slab has gone on: the cell's position and the array's slice. -/
def kvR (c : Dev nD) (i : Fin 4) : sProp 𝕄 :=
  iprop(atPos ER (dcell c (4 + i.val) (by omega)) 1 ∅ 0
    ∗ (if i.val % 2 = 0 then kSrc m c ⟨i.val / 2, by omega⟩ else vSrc m c ⟨i.val / 2, by omega⟩))

/-! ## The slabs cut into heads -/

/-- The places of the head copies of batch `b`'s head `h`, and the head's slab. -/
def pk (b : Fin 2) (h : Fin 4) : Fin 16 := ⟨8 * b.val + h.val, by omega⟩
def pv (b : Fin 2) (h : Fin 4) : Fin 16 := ⟨8 * b.val + 4 + h.val, by omega⟩
def hd (b : Fin 2) (h : Fin 4) : Fin 8 := ⟨4 * b.val + h.val, by omega⟩

/-- A batch's eight places of head copies are the four of K and the four of V. -/
theorem rng8 : ∀ b : Fin 2, (rng (8 * b.val) (8 * b.val + 8) : Finset (Fin 16)) = Finset.univ.image (pk b) ∪ Finset.univ.image (pv b) := by decide
/-- A batch's two places of slab copies, listed. -/
theorem rng2 : ∀ b : Fin 2, (rng (2 * b.val) (2 * b.val + 2) : Finset (Fin 4)) = [⟨2 * b.val, by omega⟩, ⟨2 * b.val + 1, by omega⟩].toFinset := by decide
/-- The places of a batch's K head copies are distinct. -/
theorem pk_inj : ∀ b : Fin 2, Function.Injective (pk b) := by decide
/-- The places of a batch's V head copies are distinct. -/
theorem pv_inj : ∀ b : Fin 2, Function.Injective (pv b) := by decide
/-- No K head copy's place is a V head copy's. -/
theorem pk_pv : ∀ b : Fin 2, Disjoint (Finset.univ.image (pk b)) (Finset.univ.image (pv b)) := by decide

omit [FloatOps F] in
/-- A batch's eight head copies are its four of K and its four of V. -/
theorem big8 (b : Fin 2) (Φ : Fin 16 → sProp 𝕄) :
    bigSep (rng (8 * b.val) (8 * b.val + 8)) Φ = iprop(bigSep Finset.univ (fun h => Φ (pk b h)) ∗ bigSep Finset.univ (fun h => Φ (pv b h))) := by
  rw [rng8 b, bigSep_union (Φ := Φ) (pk_pv b), bigSep_image_of_injOn (pk_inj b).injOn, bigSep_image_of_injOn (pv_inj b).injOn]; rfl
omit [FloatOps F] in
/-- A batch's two slab copies. -/
theorem big2 (b : Fin 2) (Φ : Fin 4 → sProp 𝕄) :
    bigSep (rng (2 * b.val) (2 * b.val + 2)) Φ = iprop(Φ ⟨2 * b.val, by omega⟩ ∗ Φ ⟨2 * b.val + 1, by omega⟩) := by
  rw [bigSep_eq_bigSepL_of_eq _ (rng2 b) (by revert b; decide)]; rfl

/-- What a K head copy needs before its column arrives, written out. -/
theorem trE_k (c : Dev nD) (b : Fin 2) (h : Fin 4) :
    trE (F := F) c (pk b h) = iprop(anyOf (head ktM (hd b h)) c ∗ dutyTok ER (dcell c (8 + (perm (pk b h)).val) (by omega)) 0 0) := by
  fin_cases b <;> fin_cases h <;> rfl
/-- What a V head copy needs before its column arrives, written out. -/
theorem trE_v (c : Dev nD) (b : Fin 2) (h : Fin 4) :
    trE (F := F) c (pv b h) = iprop(anyOf (head vtM (hd b h)) c ∗ dutyTok ER (dcell c (8 + (perm (pv b h)).val) (by omega)) 0 0) := by
  fin_cases b <;> fin_cases h <;> rfl
/-- What a K head copy needs, written out. -/
theorem trD_k (c : Dev nD) (b : Fin 2) (h : Fin 4) :
    trD m c (pk b h) = iprop(holds (col k4M b h) c (colOf (kSlab m c b) h) ∗ anyOf (head ktM (hd b h)) c
      ∗ dutyTok ER (dcell c (8 + (perm (pk b h)).val) (by omega)) 0 0) := by
  fin_cases b <;> fin_cases h <;> rfl
/-- What a V head copy needs, written out. -/
theorem trD_v (c : Dev nD) (b : Fin 2) (h : Fin 4) :
    trD m c (pv b h) = iprop(holds (col v4M b h) c (colOf (vSlab m c b) h) ∗ anyOf (head vtM (hd b h)) c
      ∗ dutyTok ER (dcell c (8 + (perm (pv b h)).val) (by omega)) 0 0) := by
  fin_cases b <;> fin_cases h <;> rfl
/-- What a finished K slab copy leaves, written out. -/
theorem kvX_k (c : Dev nD) (b : Fin 2) :
    kvX m c ⟨2 * b.val, by omega⟩ = iprop(atPos ER (dcell c (4 + 2 * b.val) (by omega)) 1 ∅ 0 ∗ (holds (slab k4M b) c (kSlab m c b) ∗ kSrc m c b)) := by
  fin_cases b <;> rfl
/-- What a finished V slab copy leaves, written out. -/
theorem kvX_v (c : Dev nD) (b : Fin 2) :
    kvX m c ⟨2 * b.val + 1, by omega⟩ = iprop(atPos ER (dcell c (4 + (2 * b.val + 1)) (by omega)) 1 ∅ 0 ∗ (holds (slab v4M b) c (vSlab m c b) ∗ vSrc m c b)) := by
  fin_cases b <;> rfl
/-- What remains of a K slab copy once its slab is cut into heads, written out. -/
theorem kvR_k (c : Dev nD) (b : Fin 2) :
    kvR m c ⟨2 * b.val, by omega⟩ = iprop(atPos ER (dcell c (4 + 2 * b.val) (by omega)) 1 ∅ 0 ∗ kSrc m c b) := by
  fin_cases b <;> rfl
/-- What remains of a V slab copy once its slab is cut into heads, written out. -/
theorem kvR_v (c : Dev nD) (b : Fin 2) :
    kvR m c ⟨2 * b.val + 1, by omega⟩ = iprop(atPos ER (dcell c (4 + (2 * b.val + 1)) (by omega)) 1 ∅ 0 ∗ vSrc m c b) := by
  fin_cases b <;> rfl

omit [FloatOps F] in
/-- Two families over one index set, paired. -/
theorem zip2 {I : Type} [DecidableEq I] (s : Finset I) (A B : I → sProp 𝕄) : iprop(bigSep s A ∗ bigSep s B) ⊢ bigSep s (fun i => iprop(A i ∗ B i)) := by
  rw [bigSep_sep' _ _ _]

/-- Reshaping row-major positions of `[a, b]` into `[1, a, 1, b]`. -/
theorem reshape_col {p q : ℕ} (h : (⟨2, ![p, q]⟩ : Shape).numel = (⟨4, ![1, p, 1, q]⟩ : Shape).numel) (x : Fin p) (y : Fin q) :
    Shape.reshapeEquiv h (ValueIdx.ix2 x y) = ValueIdx.ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * p + x.val) * 1 + 0) * q + y.val) = x.val * q + y.val
    simp only [Nat.zero_mul, Nat.zero_add, Nat.mul_one, Nat.add_zero])
/-- A column's element is the slab's at the head. -/
theorem col_emb (M : Memref sig .tc .vmem S2x256x4x64 .f32) (b : Fin 2) (h : Fin 4) (y : S256x64.Idx) :
    (col M b h).view.emb y = (slab M b).view.emb (ValueIdx.ix3 (y 0) h (y 1)) := by
  have e1 : ∀ hh, (Shape.reshapeEquiv (s := S1x256x1x64) hh y) = ValueIdx.ix4 (⟨0, Nat.one_pos⟩ : Fin 1) (y 0 : Fin 256) (⟨0, Nat.one_pos⟩ : Fin 1) (y 1 : Fin 64) :=
    fun hh => (congrArg _ (ValueIdx.eq_ix2 y)).trans (reshape_col (p := 256) (q := 64) hh (y 0) (y 1))
  have e2 : ∀ hh, (Shape.reshapeEquiv (s := S1x256x4x64) (s' := S256x4x64) hh (ValueIdx.ix3 (y 0) h (y 1)))
      = ValueIdx.ix4 (⟨0, Nat.one_pos⟩ : Fin 1) (y 0 : Fin 256) h (y 1 : Fin 64) :=
    fun hh => ValueIdx.reshapeEquiv_ix3_1abc (a := 256) (b := 4) (c := 64) hh (y 0) h (y 1)
  refine congrArg M.view.emb (((congrArg (colR b h).emb (e1 _)).trans ?_).trans (congrArg (slabR b).emb (e2 _)).symm)
  funext a
  refine Fin.ext ?_
  match a with
  | ⟨0, _⟩ => rfl
  | ⟨1, _⟩ => rfl
  | ⟨2, _⟩ => show h.val + 1 * 0 = 0 + 1 * h.val; omega
  | ⟨3, _⟩ => rfl
/-- A part of elements read as one value, read as another. -/
theorem holds_intro {sp : Space} {s : Shape} {e : EltTy} (M : Memref sig .tc sp s e) (c : Dev nD) (v : Vec F s e)
    (f : Buf (Elt F) (M.view.loc (c : Thread nD τ))) (h : M.view.read (Elt F) f = v) :
    (M.view.loc (c : Thread nD τ) ↦[M.view.set]{fullShare} f : sProp 𝕄) ⊢ holds M c v := by
  unfold holds
  iintro H; iexists f
  isplitr
  · ipureintro; exact h
  · iexact H
/-- To use a part holding a value, use it at any contents that read as that value. -/
theorem holds_use {sp : Space} {s : Shape} {e : EltTy} (M : Memref sig .tc sp s e) (c : Dev nD) (v : Vec F s e) {Q : sProp 𝕄}
    (h : ∀ f : Buf (Elt F) (M.view.loc (c : Thread nD τ)), M.view.read (Elt F) f = v → (M.view.loc (c : Thread nD τ) ↦[M.view.set]{fullShare} f) ⊢ Q) :
    holds M c v ⊢ Q := by
  unfold holds
  iintro ⟨%f, %hf, H⟩
  iapply (h f hf); iexact H

/-- A K slab holding a value is its four columns, each holding its part. -/
theorem k4_cols (c : Dev nD) (b : Fin 2) (w : Vec F S256x4x64 .f32) :
    (holds (slab k4M b) c w : sProp 𝕄) ⊢ bigSep Finset.univ fun h : Fin 4 => holds (col k4M b h) c (colOf w h) := by
  refine holds_use _ c w fun f hf => ?_
  have h := key_at (ℓ := (c : Thread nD τ).loc cc0_scratch0) (K := (Finset.univ : Finset (Fin 4))) (T := (slab k4M b).view.set)
    (S := fun h => (col k4M b h).view.set) (fun x : S2x256x4x64.Idx => (x 2 : Fin 4))
    (fun i _ x => by rw [k4_cset, k4_set]; exact (col_mem b i x).trans (and_congr (slab_mem b x).symm ⟨fun h => Fin.ext h, fun h => congrArg Fin.val h⟩))
    (fun _ _ => Finset.mem_univ _) f
  refine ent (BI.equiv_iff.mpr h).1 (bigSep_mono fun i _ => holds_intro (col k4M b i) c _ f ?_)
  funext y
  exact (congrArg f (col_emb k4M b i y)).trans (congrFun hf (ValueIdx.ix3 (y 0) i (y 1)))
/-- A V slab holding a value is its four columns, each holding its part. -/
theorem v4_cols (c : Dev nD) (b : Fin 2) (w : Vec F S256x4x64 .f32) :
    (holds (slab v4M b) c w : sProp 𝕄) ⊢ bigSep Finset.univ fun h : Fin 4 => holds (col v4M b h) c (colOf w h) := by
  refine holds_use _ c w fun f hf => ?_
  have h := key_at (ℓ := (c : Thread nD τ).loc cc0_scratch1) (K := (Finset.univ : Finset (Fin 4))) (T := (slab v4M b).view.set)
    (S := fun h => (col v4M b h).view.set) (fun x : S2x256x4x64.Idx => (x 2 : Fin 4))
    (fun i _ x => by rw [v4_cset, v4_set]; exact (col_mem b i x).trans (and_congr (slab_mem b x).symm ⟨fun h => Fin.ext h, fun h => congrArg Fin.val h⟩))
    (fun _ _ => Finset.mem_univ _) f
  refine ent (BI.equiv_iff.mpr h).1 (bigSep_mono fun i _ => holds_intro (col v4M b i) c _ f ?_)
  funext y
  exact (congrArg f (col_emb v4M b i y)).trans (congrFun hf (ValueIdx.ix3 (y 0) i (y 1)))

/-- A batch's two finished slab copies supply its eight head copies with their columns. -/
theorem kv_tr (c : Dev nD) (b : Fin 2) :
    iprop(bigSep (rng (2 * b.val) (2 * b.val + 2)) (kvX m c) ∗ bigSep (rng (8 * b.val) (8 * b.val + 8)) (trE (F := F) c))
      ⊢ iprop(bigSep (rng (8 * b.val) (8 * b.val + 8)) (trD m c) ∗ bigSep (rng (2 * b.val) (2 * b.val + 2)) (kvR m c)) := by
  rw [big2, big2, big8, big8]
  simp only [trE_k, trE_v, trD_k, trD_v, kvX_k, kvX_v, kvR_k, kvR_v]
  iintro ⟨⟨⟨Ha, Hk, Hks⟩, Hb, Hv, Hvs⟩, Hek, Hev⟩
  isplitl [Hk Hv Hek Hev]
  · isplitl [Hk Hek]
    · iapply (zip2 _ _ _)
      isplitl [Hk]
      · iapply (k4_cols c b _); iexact Hk
      · iexact Hek
    · iapply (zip2 _ _ _)
      isplitl [Hv]
      · iapply (v4_cols c b _); iexact Hv
      · iexact Hev
  · isplitl [Ha Hks]
    · isplitl [Ha]
      · iexact Ha
      · iexact Hks
    · isplitl [Hb]
      · iexact Hb
      · iexact Hvs

/-- A half of the partial product is its sixteen slots. -/
theorem pb_split (c : Dev nD) (b : Fin 2) :
    (holds (half pbM b) c (pbHalf m c b) : sProp 𝕄)
      ⊢ bigSep (rng (16 * b.val) (16 * b.val + 16)) (fun j => holds (slot pbM j) c (pbRow m c j)) := by
  refine holds_use _ c _ fun f hf => ?_
  have h := key_at (ℓ := (c : Thread nD τ).loc cc0_scratch5) (K := (rng (16 * b.val) (16 * b.val + 16) : Finset (Fin 32))) (T := (half pbM b).view.set)
    (S := fun j => (slot pbM j).view.set) (fun x : S512x512.Idx => (⟨(x 0).val / 16, slotKey x⟩ : Fin 32))
    (fun j hj x => by
      have hj := (Finset.mem_filter.mp hj).2
      rw [pb_set, pb_hset]
      refine (slot_mem j x).trans ⟨fun h => ⟨(half_mem b x).mpr (by omega), Fin.ext h⟩, fun h => ?_⟩
      have := h.2; subst this; rfl)
    (fun x hx => by
      rw [pb_hset] at hx
      have hx := (half_mem b x).mp hx
      exact Finset.mem_filter.mpr ⟨Finset.mem_univ _, by show 16 * b.val ≤ (x 0).val / 16 ∧ (x 0).val / 16 < 16 * b.val + 16; omega⟩) f
  refine ent (BI.equiv_iff.mpr h).1 (bigSep_mono fun j hj => holds_intro (slot pbM j) c _ f ?_)
  have hj := (Finset.mem_filter.mp hj).2
  have hb : halfOf j = b := Fin.ext (by show j.val / 16 = b.val; omega)
  funext y
  unfold pbRow
  have hy : (y 0).val < 16 := (y 0).isLt
  rw [hb]
  refine Eq.trans ?_ (congrFun hf (ValueIdx.ix2 (⟨16 * (j.val % 16) + (y 0).val, by omega⟩ : Fin 256) (y 1)))
  show f ((slotR j).emb y) = f ((halfR b).emb _)
  refine congrArg f ?_
  funext a
  refine Fin.ext ?_
  match a with
  | ⟨0, _⟩ => show 16 * j.val + 1 * (y 0).val = 256 * b.val + 1 * (16 * (j.val % 16) + (y 0).val); omega
  | ⟨1, _⟩ => rfl

/-- The gathered rows whole. -/
def agP (c : Dev nD) : sProp 𝕄 := (agM.view.loc (c : Thread nD τ)) ↦{fullShare} agV m
/-- The 32 slots, each at its device's rows, are the gathered rows. -/
theorem ag_join (c : Dev nD) : bigSep Finset.univ (fun j => (holds (slot agM j) c (redV m j) : sProp 𝕄)) ⊢ agP m c := by
  have hS : ∀ j ∈ (Finset.univ : Finset (Fin 32)), ∀ x : S512x512.Idx, x ∈ (slot agM j).view.set ↔ x ∈ (Finset.univ : Finset S512x512.Idx)
      ∧ (⟨(x 0).val / 16, slotKey x⟩ : Fin 32) = j := fun j _ x => by
    rw [ag_set]; exact (slot_mem j x).trans ⟨fun h => ⟨Finset.mem_univ _, Fin.ext h⟩, fun h => by have := h.2; subst this; rfl⟩
  unfold holds
  refine ent (bigSep_exists_pi Finset.univ (fun j (f : Buf (Elt F) ((c : Thread nD τ).loc cc0_scratch8)) =>
    (iprop(⌜(slot agM j).view.read (Elt F) f = redV m j⌝ ∗ (((c : Thread nD τ).loc cc0_scratch8) ↦[(slot agM j).view.set]{fullShare} f)) : sProp 𝕄))) ?_
  iintro ⟨%fs, H⟩
  ihave H := bigSep_pure_sep Finset.univ (fun j => (slot agM j).view.read (Elt F) (fs j) = redV m j)
    (fun j => (((c : Thread nD τ).loc cc0_scratch8) ↦[(slot agM j).view.set]{fullShare} (fs j) : sProp 𝕄)) $$ H
  icases H with ⟨%hr, H⟩
  ihave H := (pointsTo_biUnion_join Finset.univ (fun j => (slot agM j).view.set) fs (fs 0) (key_disj (ℓ := (c : Thread nD τ).loc cc0_scratch8)
    (S := fun j => (slot agM j).view.set) (T := Finset.univ) (fun x : S512x512.Idx => (⟨(x 0).val / 16, slotKey x⟩ : Fin 32)) hS)) $$ H
  icases H with ⟨%g, %hg, H⟩
  rw [← key_union (ℓ := (c : Thread nD τ).loc cc0_scratch8) (S := fun j => (slot agM j).view.set) (T := Finset.univ) (fun x : S512x512.Idx => (⟨(x 0).val / 16, slotKey x⟩ : Fin 32)) hS
    (fun _ _ => Finset.mem_univ _)]
  have he : g = agV m := by
    funext x
    have hx : (x 0).val < 512 := (x 0).isLt
    rw [hg (⟨(x 0).val / 16, slotKey x⟩ : Fin 32) (Finset.mem_univ _) x ((hS _ (Finset.mem_univ _) x).mpr ⟨Finset.mem_univ _, rfl⟩)]
    refine Eq.trans ?_ (congrFun (hr (⟨(x 0).val / 16, slotKey x⟩ : Fin 32) (Finset.mem_univ _)) (ValueIdx.ix2 (⟨(x 0).val % 16, Nat.mod_lt _ (by decide)⟩ : Fin 16) (x 1)))
    show fs _ x = fs _ ((slotR _).emb _)
    refine congrArg (fs _) ?_
    funext a
    refine Fin.ext ?_
    match a with
    | ⟨0, _⟩ => show (x 0).val = 16 * ((x 0).val / 16) + 1 * ((x 0).val % 16); omega
    | ⟨1, _⟩ => show (x 1).val = 0 + 1 * (x 1).val; omega
  subst he
  unfold agP
  iexact H
end Geom

end Cert.Attn
-- ==== Proof.PartsB.lean ====
/-
# The rest of the partial product and the first exchange's sends
-/
module

public import proofs.«01_k».proof.Proof.Geom

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section PartsB
variable (m : (ℓ : Loc nD τ sig) → Buf (Elt F) ℓ) (K : Dev nD × Fin 149 → ℕ)

/-- The device's own rows of its partial product, where they lie in the range. -/
def pbOwn (c : Dev nD) (a b : ℕ) : sProp 𝕄 :=
  bigSep ((rng a b : Finset (Fin 32)).filter (fun j => j = c)) (fun j => holds (slot pbM j) c (pbRow m c j))

/-- A range of places is its peers and, if there, the device's own place. -/
theorem rng_own (c : Dev nD) (a b : ℕ) : (rng a b : Finset (Fin 32)) = seg c a b ∪ (rng a b : Finset (Fin 32)).filter (fun j => j = c) := by
  ext j
  rw [Finset.mem_union, Finset.mem_filter, mem_rng, mem_seg]
  by_cases h : j = c <;> simp [h]
/-- A range's peers are apart from the device's own place. -/
theorem rng_own_disj (c : Dev nD) (a b : ℕ) : Disjoint (seg c a b) ((rng a b : Finset (Fin 32)).filter (fun j => j = c)) := by
  rw [Finset.disjoint_left]; intro j h1 h2
  exact ne_of_seg h1 (Finset.mem_filter.mp h2).2

/-- A half of the partial product as stored is what the sends of its slots read, and the device's own rows. -/
theorem pb_enter (c : Dev nD) (b : Fin 2) :
    iprop(Ow c (sndO c (16 * b.val)) ∗ holds (half pbM b) c (pbHalf m c b) ∗ bigSep (seg c (16 * b.val) (16 * b.val + 16)) (sndD (F := F) c))
      ⊢ iprop(sndSt m c (16 * b.val) (16 * b.val) (16 * b.val + 16) ∗ pbOwn m c (16 * b.val) (16 * b.val + 16)) := by
  unfold sndSt st pbOwn
  have h1 : (holds (half pbM b) c (pbHalf m c b) : sProp 𝕄) ⊢ iprop(bigSep (seg c (16 * b.val) (16 * b.val + 16)) (fun j => holds (slot pbM j) c (pbRow m c j))
      ∗ bigSep ((rng (16 * b.val) (16 * b.val + 16) : Finset (Fin 32)).filter (fun j => j = c)) (fun j => holds (slot pbM j) c (pbRow m c j))) := by
    refine ent (pb_split m c b) ?_
    conv_lhs => rw [rng_own c]
    rw [bigSep_union (rng_own_disj c _ _)]
    exact .rfl
  rw [seg_empty, bigSep_empty, show bigSep (seg c (16 * b.val) (16 * b.val + 16)) (sndA m c)
    = iprop(bigSep (seg c (16 * b.val) (16 * b.val + 16)) (fun j => holds (slot pbM j) c (pbRow m c j)) ∗ bigSep (seg c (16 * b.val) (16 * b.val + 16)) (sndD c)) from bigSep_sep' _ _ _]
  iintro ⟨HO, HB, HD⟩
  ihave HB := h1 $$ HB
  icases HB with ⟨HB1, HB2⟩
  isplitr [HB2]
  · isplitl [HO]; · iexact HO
    isplitl
    · isplitl [HB1]; · iexact HB1
      iexact HD
    iempintro
  iexact HB2

/-- Batch 0's partial product stored and its first sends. -/
theorem p15 (c : Dev nD) {w : BitVec 32} {R : sProp 𝕄} {Q : (Σ' (v472 : BitVec 32), BitVec 32) → sProp 𝕄}
    (h : ∀ v, iprop(ctx m K ∗ sndSt m c 0 9 16 ∗ pbOwn m c 0 16 ∗ R) ⊢ Q v) :
    iprop(ctx m K ∗ anyOf (half pbM 0) c ∗ (Ow c (sndO c 0) ∗ bigSep (seg c 0 16) (sndD c)) ∗ R)
      ⊢ wpc c (k0_part15_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c w
          (k0_pay19 (qv m c) maskV (acc0b m c) (ctx0c m c) (k0_pay16 (woH m c 2)) (kv m c 3) (vv m c 3) (woH m c 3))) Q := by
  unfold k0_part15_skel
  refine store_one c (by exact store_slice pbM (halfR 0) (fun _ => rfl) _) ?_
  refine ent (B := iprop(ctx m K ∗ sndSt m c 0 0 16 ∗ (pbOwn m c 0 16 ∗ R))) ?_ ?_
  · iintro ⟨#HC, HB, ⟨HO, HD⟩, HR⟩
    isplitr; · iexact HC
    ihave H := (pb_enter m c 0) $$ [HO HB HD]
    · isplitl [HO]; · iexact HO
      isplitl [HB]; · iexact HB
      iexact HD
    icases H with ⟨H1, H2⟩
    isplitl [H1]; · iexact H1
    isplitl [H2]; · iexact H2
    iexact HR
  refine snd_step m K c 0 (k := 0) rfl (by decide) (by decide) (cond_iff c 0) ⟨0, hdev_0⟩ rfl (fun _ => s1_sem _ 0 rfl _ _) (fun _ => r1_sem _ c (k0_off3_eq c) _ _) (fun _ => rfl) (fun _ => slot_off rsM c (k0_off4_eq c)) ?_
  refine snd_step m K c 1 (k := 1) rfl (by decide) (by decide) (cond_iff c 1) ⟨1, hdev_1⟩ rfl (fun _ => s1_sem _ 1 rfl _ _) (fun _ => r1_sem _ c (k0_off5_eq c) _ _) (fun _ => rfl) (fun _ => slot_off rsM c (k0_off6_eq c)) ?_
  refine snd_step m K c 2 (k := 2) rfl (by decide) (by decide) (cond_iff c 2) ⟨2, hdev_2⟩ rfl (fun _ => s1_sem _ 2 rfl _ _) (fun _ => r1_sem _ c (k0_off7_eq c) _ _) (fun _ => rfl) (fun _ => slot_off rsM c (k0_off8_eq c)) ?_
  refine snd_step m K c 3 (k := 3) rfl (by decide) (by decide) (cond_iff c 3) ⟨3, hdev_3⟩ rfl (fun _ => s1_sem _ 3 rfl _ _) (fun _ => r1_sem _ c (k0_off9_eq c) _ _) (fun _ => rfl) (fun _ => slot_off rsM c (k0_off10_eq c)) ?_
  refine snd_step m K c 4 (k := 4) rfl (by decide) (by decide) (cond_iff c 4) ⟨4, hdev_4⟩ rfl (fun _ => s1_sem _ 4 rfl _ _) (fun _ => r1_sem _ c (k0_off11_eq c) _ _) (fun _ => rfl) (fun _ => slot_off rsM c (k0_off12_eq c)) ?_
  refine snd_step m K c 5 (k := 5) rfl (by decide) (by decide) (cond_iff c 5) ⟨5, hdev_5⟩ rfl (fun _ => s1_sem _ 5 rfl _ _) (fun _ => r1_sem _ c (k0_off13_eq c) _ _) (fun _ => rfl) (fun _ => slot_off rsM c (k0_off14_eq c)) ?_
  refine snd_step m K c 6 (k := 6) rfl (by decide) (by decide) (cond_iff c 6) ⟨6, hdev_6⟩ rfl (fun _ => s1_sem _ 6 rfl _ _) (fun _ => r1_sem _ c (k0_off15_eq c) _ _) (fun _ => rfl) (fun _ => slot_off rsM c (k0_off16_eq c)) ?_
  refine snd_step m K c 7 (k := 7) rfl (by decide) (by decide) (cond_iff c 7) ⟨7, hdev_7⟩ rfl (fun _ => s1_sem _ 7 rfl _ _) (fun _ => r1_sem _ c (k0_off17_eq c) _ _) (fun _ => rfl) (fun _ => slot_off rsM c (k0_off18_eq c)) ?_
  refine snd_step m K c 8 (k := 8) rfl (by decide) (by decide) (cond_iff c 8) ⟨8, hdev_8⟩ rfl (fun _ => s1_sem _ 8 rfl _ _) (fun _ => r1_sem _ c (k0_off19_eq c) _ _) (fun _ => rfl) (fun _ => slot_off rsM c (k0_off20_eq c)) ?_
  exact ent (h _) (wpc_ret c _ Q)

/-- The rest of batch 0's sends, and the wait for batch 1's K slab. -/
theorem p16 (c : Dev nD) {w w1 w2 : BitVec 32} {R : sProp 𝕄} {Q : PUnit → sProp 𝕄}
    (h : iprop(ctx m K ∗ lst c (sndO c 16) (kvW c) (kvX m c) 2 3 4 ∗ bigSep (seg c 0 16) (sndB c) ∗ R) ⊢ Q ⟨⟩) :
    iprop(ctx m K ∗ sndSt m c 0 9 16 ∗ bigSep (rng 2 4) (kvW c) ∗ R) ⊢ wpc c (k0_part16_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c w w1 w2) Q := by
  unfold k0_part16_skel
  refine snd_step m K c 9 (k := 9) rfl (by decide) (by decide) (cond_iff c 9) ⟨9, hdev_9⟩ rfl (fun _ => s1_sem _ 9 rfl _ _) (fun _ => r1_sem _ c (k0_off21_eq c) _ _) (fun _ => rfl) (fun _ => slot_off rsM c (k0_off22_eq c)) ?_
  refine snd_step m K c 10 (k := 10) rfl (by decide) (by decide) (cond_iff c 10) ⟨10, hdev_10⟩ rfl (fun _ => s1_sem _ 10 rfl _ _) (fun _ => r1_sem _ c (k0_off23_eq c) _ _) (fun _ => rfl) (fun _ => slot_off rsM c (k0_off24_eq c)) ?_
  refine snd_step m K c 11 (k := 11) rfl (by decide) (by decide) (cond_iff c 11) ⟨11, hdev_11⟩ rfl (fun _ => s1_sem _ 11 rfl _ _) (fun _ => r1_sem _ c (k0_off25_eq c) _ _) (fun _ => rfl) (fun _ => slot_off rsM c (k0_off26_eq c)) ?_
  refine snd_step m K c 12 (k := 12) rfl (by decide) (by decide) (cond_iff c 12) ⟨12, hdev_12⟩ rfl (fun _ => s1_sem _ 12 rfl _ _) (fun _ => r1_sem _ c (k0_off27_eq c) _ _) (fun _ => rfl) (fun _ => slot_off rsM c (k0_off28_eq c)) ?_
  refine snd_step m K c 13 (k := 13) rfl (by decide) (by decide) (cond_iff c 13) ⟨13, hdev_13⟩ rfl (fun _ => s1_sem _ 13 rfl _ _) (fun _ => r1_sem _ c (k0_off29_eq c) _ _) (fun _ => rfl) (fun _ => slot_off rsM c (k0_off30_eq c)) ?_
  refine snd_step m K c 14 (k := 14) rfl (by decide) (by decide) (cond_iff c 14) ⟨14, hdev_14⟩ rfl (fun _ => s1_sem _ 14 rfl _ _) (fun _ => r1_sem _ c (k0_off31_eq c) _ _) (fun _ => rfl) (fun _ => slot_off rsM c (k0_off32_eq c)) ?_
  refine snd_step m K c 15 (k := 15) rfl (by decide) (by decide) (cond_iff c 15) ⟨15, hdev_15⟩ rfl (fun _ => s1_sem _ 15 rfl _ _) (fun _ => r1_sem _ c (k0_off33_eq c) _ _) (fun _ => rfl) (fun _ => slot_off rsM c (k0_off34_eq c)) ?_
  refine ent (B := iprop(ctx m K ∗ lst c (sndO c 16) (kvW c) (kvX m c) 2 2 4 ∗ (bigSep (seg c 0 16) (sndB c) ∗ R))) ?_ ?_
  · unfold sndSt st lst
    rw [rng_empty, bigSep_empty]
    iintro ⟨#HC, ⟨HO, -, HB⟩, HW, HR⟩
    isplitr; · iexact HC
    isplitl [HO HW]
    · isplitl [HO]; · iexact HO
      isplitl; · iexact HW
      iempintro
    isplitl [HB]; · iexact HB
    iexact HR
  refine kv_wait m K c _ 2 (k := 2) rfl (by decide) (by decide) (mwt c 16 _ _ (by decide)) (kv_sem _ 2 rfl _ _) (by rfl) ?_
  exact ent h (wpc_ret c _ Q)

/-- The wait for batch 1's V slab, and its first head copies. -/
theorem p17 (c : Dev nD) {R : sProp 𝕄} {Q : PUnit → sProp 𝕄}
    (h : iprop(ctx m K ∗ lst c (sndO c 16) (trD m c) (trC c) 8 11 16 ∗ bigSep (rng 2 4) (kvR m c) ∗ R) ⊢ Q ⟨⟩) :
    iprop(ctx m K ∗ lst c (sndO c 16) (kvW c) (kvX m c) 2 3 4 ∗ bigSep (rng 8 16) (trE c) ∗ R) ⊢ wpc c (k0_part17_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c) Q := by
  unfold k0_part17_skel
  refine kv_wait m K c _ 3 (k := 3) rfl (by decide) (by decide) (mwt c 16 _ _ (by decide)) (kv_sem _ 3 rfl _ _) (by rfl) ?_
  refine ent (B := iprop(ctx m K ∗ lst c (sndO c 16) (trD m c) (trC c) 8 8 16 ∗ (bigSep (rng 2 4) (kvR m c) ∗ R))) ?_ ?_
  · unfold lst
    iintro ⟨#HC, ⟨HO, -, HX⟩, HE, HR⟩
    isplitr; · iexact HC
    ihave H := (kv_tr m c 1) $$ [HX HE]
    · isplitl [HX]; · iexact HX
      iexact HE
    icases H with ⟨HD, HK⟩
    isplitl [HO HD]
    · isplitl [HO]; · iexact HO
      isplitl; · iexact HD
      rw [rng_empty, bigSep_empty]; iempintro
    isplitl [HK]; · iexact HK
    iexact HR
  refine trK_copy m K c _ 8 (k := 8) rfl (by decide) (by decide) 4 rfl (tr_sem _ 4 rfl _ _) rfl rfl ?_
  refine trK_copy m K c _ 9 (k := 9) rfl (by decide) (by decide) 5 rfl (tr_sem _ 5 rfl _ _) rfl rfl ?_
  refine trK_copy m K c _ 10 (k := 10) rfl (by decide) (by decide) 6 rfl (tr_sem _ 6 rfl _ _) rfl rfl ?_
  exact ent h (wpc_ret c _ Q)

/-- More of batch 1's head copies. -/
theorem p18 (c : Dev nD) {R : sProp 𝕄} {Q : PUnit → sProp 𝕄}
    (h : iprop(ctx m K ∗ lst c (sndO c 16) (trD m c) (trC c) 8 15 16 ∗ R) ⊢ Q ⟨⟩) :
    iprop(ctx m K ∗ lst c (sndO c 16) (trD m c) (trC c) 8 11 16 ∗ R) ⊢ wpc c (k0_part18_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part18_skel
  refine trK_copy m K c _ 11 (k := 11) rfl (by decide) (by decide) 7 rfl (tr_sem _ 7 rfl _ _) rfl rfl ?_
  refine trV_copy m K c _ 12 (k := 12) rfl (by decide) (by decide) 4 rfl (tr_sem _ 12 rfl _ _) rfl rfl ?_
  refine trV_copy m K c _ 13 (k := 13) rfl (by decide) (by decide) 5 rfl (tr_sem _ 13 rfl _ _) rfl rfl ?_
  refine trV_copy m K c _ 14 (k := 14) rfl (by decide) (by decide) 6 rfl (tr_sem _ 14 rfl _ _) rfl rfl ?_
  exact ent h (wpc_ret c _ Q)

/-- A head copy's cell at its start. -/
def trAt (c : Dev nD) (p : Fin 16) : sProp 𝕄 := atPos ER (dcell c (8 + (perm p).val) (by omega)) 0 ∅ 0
/-- Once a batch's head copies are all started, their waits may begin. -/
theorem tr_turn (c : Dev nD) (O : CellTallies nD τ sig Unit) (a b : ℕ) :
    iprop(lst c O (trD m c) (trC c) a b b ∗ bigSep (rng a b) (trAt (F := F) c)) ⊢ lst c O (trW c) (trX m c) a a b := by
  unfold lst trW
  rw [rng_empty, bigSep_empty, rng_empty, bigSep_empty, show bigSep (rng a b) (fun p => iprop(trC (F := F) c p ∗ atPos ER (dcell c (8 + (perm p).val) (by omega)) 0 ∅ 0))
    = iprop(bigSep (rng a b) (trC c) ∗ bigSep (rng a b) (trAt c)) from bigSep_sep' _ _ _]
  iintro ⟨⟨HO, -, HC⟩, HA⟩
  isplitl [HO]; · iexact HO
  isplitl
  · isplitl [HC]; · iexact HC
    iexact HA
  iempintro

/-- The last of batch 1's head copies, and the first waits for them. -/
theorem p19 (c : Dev nD) {R : sProp 𝕄} {Q : PUnit → sProp 𝕄}
    (h : iprop(ctx m K ∗ lst c (sndO c 16) (trW c) (trX m c) 8 11 16 ∗ R) ⊢ Q ⟨⟩) :
    iprop(ctx m K ∗ lst c (sndO c 16) (trD m c) (trC c) 8 15 16 ∗ bigSep (rng 8 16) (trAt c) ∗ R) ⊢ wpc c (k0_part19_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part19_skel
  refine trV_copy m K c _ 15 (k := 15) rfl (by decide) (by decide) 7 rfl (tr_sem _ 15 rfl _ _) rfl rfl ?_
  refine ent (B := iprop(ctx m K ∗ lst c (sndO c 16) (trW c) (trX m c) 8 8 16 ∗ R)) ?_ ?_
  · iintro ⟨#HC, HL, HA, HR⟩
    isplitr; · iexact HC
    isplitl [HL HA]
    · iapply (tr_turn m c (sndO c 16) 8 16)
      isplitl [HL]; · iexact HL
      iexact HA
    iexact HR
  refine tr_wait m K c _ 8 (k := 8) rfl (by decide) (by decide) (mwt c 16 _ _ (by decide)) (tr_sem _ 4 rfl _ _) (by rfl) ?_
  refine tr_wait m K c _ 9 (k := 9) rfl (by decide) (by decide) (mwt c 16 _ _ (by decide)) (tr_sem _ 5 rfl _ _) (by rfl) ?_
  refine tr_wait m K c _ 10 (k := 10) rfl (by decide) (by decide) (mwt c 16 _ _ (by decide)) (tr_sem _ 6 rfl _ _) (by rfl) ?_
  exact ent h (wpc_ret c _ Q)

/-- More waits for batch 1's head copies. -/
theorem p20 (c : Dev nD) {R : sProp 𝕄} {Q : PUnit → sProp 𝕄}
    (h : iprop(ctx m K ∗ lst c (sndO c 16) (trW c) (trX m c) 8 15 16 ∗ R) ⊢ Q ⟨⟩) :
    iprop(ctx m K ∗ lst c (sndO c 16) (trW c) (trX m c) 8 11 16 ∗ R) ⊢ wpc c (k0_part20_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) Q := by
  unfold k0_part20_skel
  refine tr_wait m K c _ 11 (k := 11) rfl (by decide) (by decide) (mwt c 16 _ _ (by decide)) (tr_sem _ 7 rfl _ _) (by rfl) ?_
  refine tr_wait m K c _ 12 (k := 12) rfl (by decide) (by decide) (mwt c 16 _ _ (by decide)) (tr_sem _ 12 rfl _ _) (by rfl) ?_
  refine tr_wait m K c _ 13 (k := 13) rfl (by decide) (by decide) (mwt c 16 _ _ (by decide)) (tr_sem _ 13 rfl _ _) (by rfl) ?_
  refine tr_wait m K c _ 14 (k := 14) rfl (by decide) (by decide) (mwt c 16 _ _ (by decide)) (tr_sem _ 14 rfl _ _) (by rfl) ?_
  exact ent h (wpc_ret c _ Q)

/-- A load of a batch 1 head of K reads it. -/
theorem rdK (c : Dev nD) (p : Fin 16) (hp : 8 ≤ p.val ∧ p.val < 16) (i : Fin 8) (hi : i.val = (perm p).val) :
    Reads c (WT m c 16 8) ktM (headR i).toLoadRect (kv m c i) := reads_sep_right (reads_trK m c _ p hp i hi)
/-- A load of a batch 1 head of V reads it. -/
theorem rdV (c : Dev nD) (p : Fin 16) (hp : 8 ≤ p.val ∧ p.val < 16) (i : Fin 8) (hi : i.val + 8 = (perm p).val) :
    Reads c (WT m c 16 8) vtM (headR i).toLoadRect (vv m c i) := reads_sep_right (reads_trV m c _ p hp i hi)
/-- A load of a head's rows of the output weights reads them, in batch 1. -/
theorem rdW (c : Dev nD) (h : Fin 4) : Reads c (WT m c 16 8) woM (woR h).toLoadRect (woH m c h) := reads_sep_left (reads_wo m c h)

/-- The last wait for batch 1's head copies, its first head accumulated, and its second head begun. -/
theorem p21 (c : Dev nD) {R : sProp 𝕄} {Q : (Σ' (v628 : FVec F S256x512 .f32) (v630 : FVec F S256x64 .bf16), FVec F S256x64 .bf16) → sProp 𝕄}
    (h : iprop(ctx m K ∗ WT m c 16 8 ∗ R) ⊢ Q ⟨acc1a m c, k0_pay22 (qv m c), k0_pay23 (kv m c 5)⟩) :
    iprop(ctx m K ∗ lst c (sndO c 16) (trW c) (trX m c) 8 15 16 ∗ woP m c ∗ R) ⊢ wpc c (k0_part21_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c) maskV) Q := by
  unfold k0_part21_skel
  refine tr_wait m K c _ 15 (k := 15) rfl (by decide) (by decide) (mwt c 16 _ _ (by decide)) (tr_sem _ 15 rfl _ _) (by rfl) ?_
  refine ent (B := iprop(ctx m K ∗ WT m c 16 8 ∗ R)) ?_ ?_
  · iintro ⟨#HC, HL, HW, HR⟩
    isplitr; · iexact HC
    isplitl [HL HW]
    · isplitl [HW]; · iexact HW
      iexact HL
    iexact HR
  refine load_one c (v := kv m c 4) (by exact rdK m c 8 (by decide) 4 rfl) ?_
  refine load_one c (v := vv m c 4) (by exact rdV m c 12 (by decide) 4 rfl) ?_
  refine load_one c (v := woH m c 0) (by exact rdW m c 0) ?_
  refine load_one c (v := kv m c 5) (by exact rdK m c 9 (by decide) 5 rfl) ?_
  exact ent h (wpc_ret c _ Q)

/-- Batch 1's second head accumulated, and its third head begun. -/
theorem p22 (c : Dev nD) {R : sProp 𝕄} {Q : (Σ' (v658 : FVec F S256x512 .f32), FVec F S256x256 .f32) → sProp 𝕄}
    (h : iprop(ctx m K ∗ WT m c 16 8 ∗ R) ⊢ Q ⟨acc1b m c, k0_pay25 (qv m c) maskV (kv m c 6)⟩) :
    iprop(ctx m K ∗ WT m c 16 8 ∗ R) ⊢ wpc c (k0_part22_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c) maskV (acc1a m c) (k0_pay22 (qv m c)) (k0_pay23 (kv m c 5))) Q := by
  unfold k0_part22_skel
  refine load_one c (v := vv m c 5) (by exact rdV m c 13 (by decide) 5 rfl) ?_
  refine load_one c (v := woH m c 1) (by exact rdW m c 1) ?_
  refine load_one c (v := kv m c 6) (by exact rdK m c 10 (by decide) 6 rfl) ?_
  exact ent h (wpc_ret c _ Q)

/-- Batch 1's third head accumulated, and its fourth head's context. -/
theorem p23 (c : Dev nD) {R : sProp 𝕄} {Q : (Σ' (v688 : FVec F S256x512 .f32), FVec F S256x64 .f32) → sProp 𝕄}
    (h : iprop(ctx m K ∗ WT m c 16 8 ∗ R) ⊢ Q ⟨acc1c m c, k0_pay27 (qv m c) maskV (kv m c 7) (vv m c 7)⟩) :
    iprop(ctx m K ∗ WT m c 16 8 ∗ R) ⊢ wpc c (k0_part23_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (qv m c) maskV (acc1b m c) (k0_pay25 (qv m c) maskV (kv m c 6))) Q := by
  unfold k0_part23_skel
  refine load_one c (v := vv m c 6) (by exact rdV m c 14 (by decide) 6 rfl) ?_
  refine load_one c (v := woH m c 2) (by exact rdW m c 2) ?_
  refine load_one c (v := kv m c 7) (by exact rdK m c 11 (by decide) 7 rfl) ?_
  refine load_one c (v := vv m c 7) (by exact rdV m c 15 (by decide) 7 rfl) ?_
  exact ent h (wpc_ret c _ Q)

/-- What part 24 leaves beside the sends: the output weights, the heads, the score buffer's half, the device's own rows. -/
abbrev after24 (c : Dev nD) : sProp 𝕄 :=
  iprop(woP m c ∗ bigSep (rng 8 16) (trX m c) ∗ anyOf (half pM 1) c ∗ pbOwn m c 16 32)

/-- Batch 1's partial product stored, and its first sends. -/
theorem p24 (c : Dev nD) {w : BitVec 32} {R : sProp 𝕄} {Q : (Σ' (v745 : BitVec 32), BitVec 32) → sProp 𝕄}
    (h : ∀ v, iprop(ctx m K ∗ sndSt m c 16 22 32 ∗ after24 m c ∗ R) ⊢ Q v) :
    iprop(ctx m K ∗ WT m c 16 8 ∗ anyOf (half pM 1) c ∗ anyOf (half pbM 1) c ∗ bigSep (seg c 16 32) (sndD c) ∗ R)
      ⊢ wpc c (k0_part24_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c w (acc1c m c) (k0_pay27 (qv m c) maskV (kv m c 7) (vv m c 7))) Q := by
  unfold k0_part24_skel
  refine load_one c (v := woH m c 3) (by exact rdW m c 3) ?_
  refine ent (B := iprop(iprop(ctx m K ∗ WT m c 16 8) ∗ anyOf (half pM 1) c ∗ iprop(anyOf (half pbM 1) c ∗ bigSep (seg c 16 32) (sndD c) ∗ R))) ?_ ?_
  · iintro ⟨#HC, HW, HP, HR⟩
    isplitl [HW]
    · isplitr; · iexact HC
      iexact HW
    isplitl [HP]; · iexact HP
    iexact HR
  refine load_dead c (by exact dead_slice pM (halfR 1) (fun _ => rfl)) (fun _ => ?_)
  refine store_one c (by exact store_slice pM (halfR 1) (fun _ => rfl) _) ?_
  refine ent (B := iprop(iprop(ctx m K ∗ WT m c 16 8 ∗ anyOf (half pM 1) c) ∗ anyOf (half pbM 1) c ∗ iprop(bigSep (seg c 16 32) (sndD c) ∗ R))) ?_ ?_
  · iintro ⟨⟨#HC, HW⟩, HP, HPB, HR⟩
    isplitl [HW HP]
    · isplitr; · iexact HC
      isplitl [HW]; · iexact HW
      iapply holds_any; iexact HP
    isplitl [HPB]; · iexact HPB
    iexact HR
  refine load_dead c (by exact dead_slice pbM (halfR 1) (fun _ => rfl)) (fun _ => ?_)
  refine store_one c (by exact store_slice pbM (halfR 1) (fun _ => rfl) _) ?_
  refine ent (B := iprop(ctx m K ∗ sndSt m c 16 16 32 ∗ (after24 m c ∗ R))) ?_ ?_
  · unfold WT lst
    iintro ⟨⟨#HC, ⟨Hw, HO, -, HX⟩, HP⟩, HB, HD, HR⟩
    isplitr; · iexact HC
    ihave H := (pb_enter m c 1) $$ [HO HB HD]
    · isplitl [HO]; · iexact HO
      isplitl [HB]; · iexact HB
      iexact HD
    icases H with ⟨H1, H2⟩
    isplitl [H1]; · iexact H1
    isplitr [HR]
    · isplitl [Hw]; · iexact Hw
      isplitl [HX]; · iexact HX
      isplitl [HP]; · iexact HP
      iexact H2
    iexact HR
  refine snd_step m K c 16 (k := 16) rfl (by decide) (by decide) (cond_iff c 16) ⟨16, hdev_16⟩ rfl (fun _ => s1_sem _ 16 rfl _ _) (fun _ => r1_sem _ c (k0_off35_eq c) _ _) (fun _ => rfl) (fun _ => slot_off rsM c (k0_off36_eq c)) ?_
  refine snd_step m K c 17 (k := 17) rfl (by decide) (by decide) (cond_iff c 17) ⟨17, hdev_17⟩ rfl (fun _ => s1_sem _ 17 rfl _ _) (fun _ => r1_sem _ c (k0_off37_eq c) _ _) (fun _ => rfl) (fun _ => slot_off rsM c (k0_off38_eq c)) ?_
  refine snd_step m K c 18 (k := 18) rfl (by decide) (by decide) (cond_iff c 18) ⟨18, hdev_18⟩ rfl (fun _ => s1_sem _ 18 rfl _ _) (fun _ => r1_sem _ c (k0_off39_eq c) _ _) (fun _ => rfl) (fun _ => slot_off rsM c (k0_off40_eq c)) ?_
  refine snd_step m K c 19 (k := 19) rfl (by decide) (by decide) (cond_iff c 19) ⟨19, hdev_19⟩ rfl (fun _ => s1_sem _ 19 rfl _ _) (fun _ => r1_sem _ c (k0_off41_eq c) _ _) (fun _ => rfl) (fun _ => slot_off rsM c (k0_off42_eq c)) ?_
  refine snd_step m K c 20 (k := 20) rfl (by decide) (by decide) (cond_iff c 20) ⟨20, hdev_20⟩ rfl (fun _ => s1_sem _ 20 rfl _ _) (fun _ => r1_sem _ c (k0_off43_eq c) _ _) (fun _ => rfl) (fun _ => slot_off rsM c (k0_off44_eq c)) ?_
  refine snd_step m K c 21 (k := 21) rfl (by decide) (by decide) (cond_iff c 21) ⟨21, hdev_21⟩ rfl (fun _ => s1_sem _ 21 rfl _ _) (fun _ => r1_sem _ c (k0_off45_eq c) _ _) (fun _ => rfl) (fun _ => slot_off rsM c (k0_off46_eq c)) ?_
  exact ent (h _) (wpc_ret c _ Q)

/-- The rest of batch 1's sends. -/
theorem p25 (c : Dev nD) {w w1 w2 : BitVec 32} {R : sProp 𝕄} {Q : PUnit → sProp 𝕄}
    (h : iprop(ctx m K ∗ sndSt m c 16 32 32 ∗ R) ⊢ Q ⟨⟩) :
    iprop(ctx m K ∗ sndSt m c 16 22 32 ∗ R) ⊢ wpc c (k0_part25_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c w w1 w2) Q := by
  unfold k0_part25_skel
  refine snd_step m K c 22 (k := 22) rfl (by decide) (by decide) (cond_iff c 22) ⟨22, hdev_22⟩ rfl (fun _ => s1_sem _ 22 rfl _ _) (fun _ => r1_sem _ c (k0_off47_eq c) _ _) (fun _ => rfl) (fun _ => slot_off rsM c (k0_off48_eq c)) ?_
  refine snd_step m K c 23 (k := 23) rfl (by decide) (by decide) (cond_iff c 23) ⟨23, hdev_23⟩ rfl (fun _ => s1_sem _ 23 rfl _ _) (fun _ => r1_sem _ c (k0_off49_eq c) _ _) (fun _ => rfl) (fun _ => slot_off rsM c (k0_off50_eq c)) ?_
  refine snd_step m K c 24 (k := 24) rfl (by decide) (by decide) (cond_iff c 24) ⟨24, hdev_24⟩ rfl (fun _ => s1_sem _ 24 rfl _ _) (fun _ => r1_sem _ c (k0_off51_eq c) _ _) (fun _ => rfl) (fun _ => slot_off rsM c (k0_off52_eq c)) ?_
  refine snd_step m K c 25 (k := 25) rfl (by decide) (by decide) (cond_iff c 25) ⟨25, hdev_25⟩ rfl (fun _ => s1_sem _ 25 rfl _ _) (fun _ => r1_sem _ c (k0_off53_eq c) _ _) (fun _ => rfl) (fun _ => slot_off rsM c (k0_off54_eq c)) ?_
  refine snd_step m K c 26 (k := 26) rfl (by decide) (by decide) (cond_iff c 26) ⟨26, hdev_26⟩ rfl (fun _ => s1_sem _ 26 rfl _ _) (fun _ => r1_sem _ c (k0_off55_eq c) _ _) (fun _ => rfl) (fun _ => slot_off rsM c (k0_off56_eq c)) ?_
  refine snd_step m K c 27 (k := 27) rfl (by decide) (by decide) (cond_iff c 27) ⟨27, hdev_27⟩ rfl (fun _ => s1_sem _ 27 rfl _ _) (fun _ => r1_sem _ c (k0_off57_eq c) _ _) (fun _ => rfl) (fun _ => slot_off rsM c (k0_off58_eq c)) ?_
  refine snd_step m K c 28 (k := 28) rfl (by decide) (by decide) (cond_iff c 28) ⟨28, hdev_28⟩ rfl (fun _ => s1_sem _ 28 rfl _ _) (fun _ => r1_sem _ c (k0_off59_eq c) _ _) (fun _ => rfl) (fun _ => slot_off rsM c (k0_off60_eq c)) ?_
  refine snd_step m K c 29 (k := 29) rfl (by decide) (by decide) (cond_iff c 29) ⟨29, hdev_29⟩ rfl (fun _ => s1_sem _ 29 rfl _ _) (fun _ => r1_sem _ c (k0_off61_eq c) _ _) (fun _ => rfl) (fun _ => slot_off rsM c (k0_off62_eq c)) ?_
  refine snd_step m K c 30 (k := 30) rfl (by decide) (by decide) (cond_iff c 30) ⟨30, hdev_30⟩ rfl (fun _ => s1_sem _ 30 rfl _ _) (fun _ => r1_sem _ c (k0_off63_eq c) _ _) (fun _ => rfl) (fun _ => slot_off rsM c (k0_off64_eq c)) ?_
  refine snd_step m K c 31 (k := 31) rfl (by decide) (by decide) (cond_iff c 31) ⟨31, hdev_31⟩ rfl (fun _ => s1_sem _ 31 rfl _ _) (fun _ => r1_sem _ c (k0_off65_eq c) _ _) (fun _ => rfl) (fun _ => slot_off rsM c (k0_off66_eq c)) ?_
  exact ent h (wpc_ret c _ Q)

end PartsB

end Cert.Attn
-- ==== Proof.PartsC.lean ====
/-
# The first exchange's waits and the sum of the rows
-/
module

public import proofs.«01_k».proof.Proof.PartsB

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section PartsC
variable (m : (ℓ : Loc nD τ sig) → Buf (Elt F) ℓ) (K : Dev nD × Fin 149 → ℕ)

/-- The first exchange's arrivals may be awaited while the second exchange is owed. -/
theorem mw_r1 (c : Dev nD) (j : Fin 32) : (levAts L lv : sProp 𝕄) ⊢ MayWait (c : Thread nD τ) (.dma (dsem (56 + j.val) (by omega))) () (ow2 c 0) :=
  mayWait_2 c _ 0 (by rw [lvOf_r1])
/-- The first exchange's sends may be awaited while the second exchange is owed. -/
theorem mw_s1 (c : Dev nD) (j : Fin 32) : (levAts L lv : sProp 𝕄) ⊢ MayWait (c : Thread nD τ) (.dma (dsem (24 + j.val) (by omega))) () (ow2 c 0) :=
  mayWait_2 c _ 0 (by rw [lvOf_low _ _ (.inl (by omega))]; exact Nat.zero_le _)
/-- The second exchange's arrivals may be awaited when nothing is owed. -/
theorem mw_r2 (c : Dev nD) (j : Fin 32) : (levAts L lv : sProp 𝕄) ⊢ MayWait (c : Thread nD τ) (.dma (dsem (120 + j.val) (by omega))) () 0 := mayWait_zero c _
/-- The second exchange's sends may be awaited when nothing is owed. -/
theorem mw_s2 (c : Dev nD) (j : Fin 32) : (levAts L lv : sProp 𝕄) ⊢ MayWait (c : Thread nD τ) (.dma (dsem (88 + j.val) (by omega))) () 0 := mayWait_zero c _

/-- The credits and positions of a family of cells start a run of waits. -/
theorem wt_enter (c : Dev nD) (b : ℕ) (hb : b ≤ 120) (O : CellTallies nD τ sig Unit) :
    iprop(Ow c O ∗ bigSep (seg c 0 32) (wtA (F := F) c b hb)) ⊢ wtSt m c b hb O 0 := by
  unfold wtSt st
  rw [seg_empty, bigSep_empty]
  iintro ⟨HO, HA⟩
  isplitl [HO]; · iexact HO
  isplitl; · iexact HA
  iempintro
/-- A finished run of waits gives every peer's payload. -/
theorem wt_exit (c : Dev nD) (b : ℕ) (hb : b ≤ 120) (O : CellTallies nD τ sig Unit) :
    wtSt m c b hb O 32 ⊢ iprop(Ow c O ∗ bigSep (seg c 0 32) (wtB m c b hb)) := by
  unfold wtSt st
  iintro ⟨HO, -, HB⟩
  isplitl [HO]; · iexact HO
  iexact HB

/-! ## Accesses of a slot at a computed offset -/

/-- A load at a slot's computed offset reads what the slot holds. -/
theorem reads_off (c : Dev nD) (M : Memref sig .tc .vmem S512x512 .bf16) (j : Fin 32) {o : Fin 2 → ℕ} (ho : o = ![16 * j.val, 0]) {inb} (w : Vec F S16x512 .bf16) :
    Reads c (holds (slot M j) c w) M (Rect.unit (s := S512x512) o S16x512.size inb).toLoadRect w := by
  subst ho; exact reads_slice M (slotR j) (fun _ => rfl) w
/-- A load at a slot's computed offset is allowed whatever the slot holds. -/
theorem dead_off (c : Dev nD) (M : Memref sig .tc .vmem S512x512 .bf16) (j : Fin 32) {o : Fin 2 → ℕ} (ho : o = ![16 * j.val, 0]) {inb} :
    (anyOf (slot M j) c : sProp 𝕄) ⊢ iprop(∃ (S : Finset (Idx (M.view.loc (c : Thread nD τ)))) (q : PosShare TreeShare) (f : Buf (Elt F) (M.view.loc (c : Thread nD τ))),
    ⌜M.view.setOn (Rect.unit (s := S512x512) o S16x512.size inb).toLoadRect.set ⊆ S⌝ ∗ (M.view.loc (c : Thread nD τ) ↦[S]{q} f)
      ∗ ((M.view.loc (c : Thread nD τ) ↦[S]{q} f) -∗ anyOf (slot M j) c)) := by
  subst ho; exact dead_slice M (slotR j) (fun _ => rfl)
/-- A store at a slot's computed offset leaves the slot holding the value stored. -/
theorem store_off (c : Dev nD) (M : Memref sig .tc .vmem S512x512 .bf16) (j : Fin 32) {o : Fin 2 → ℕ} (ho : o = ![16 * j.val, 0]) {inb} (w : Vec F S16x512 .bf16) :
    (anyOf (slot M j) c : sProp 𝕄) ⊢ iprop(∃ (S : Finset (Idx ((M.access (Rect.unit (s := S512x512) o S16x512.size inb)).loc (c : Thread nD τ))))
        (f : Buf (Elt F) ((M.access (Rect.unit (s := S512x512) o S16x512.size inb)).loc (c : Thread nD τ))),
      ⌜(M.access (Rect.unit (s := S512x512) o S16x512.size inb)).set ⊆ S⌝ ∗ ((M.access (Rect.unit (s := S512x512) o S16x512.size inb)).loc (c : Thread nD τ) ↦[S]{fullShare} f)
        ∗ (((M.access (Rect.unit (s := S512x512) o S16x512.size inb)).loc (c : Thread nD τ) ↦[S]{fullShare} ((M.access (Rect.unit (s := S512x512) o S16x512.size inb)).write (Elt F) f w Finset.univ)) -∗ holds (slot M j) c w)) := by
  subst ho; exact store_slice M (slotR j) (fun _ => rfl) w

/-- Reshaping a slot's rows to their own shape changes nothing, before the first exchange. -/
theorem pay31_eq (v : Vec F S16x512 .bf16) : k0_pay31 v = v := shapeCast_self _ _
/-- Reshaping a slot's rows to their own shape changes nothing, before the second exchange. -/
theorem pay36_eq (v : Vec F S16x512 .bf16) : k0_pay36 v = v := shapeCast_self _ _

/-- The device's own rows moved to its landing buffer, and the first arrivals awaited. -/
theorem p26 (c : Dev nD) {R : sProp 𝕄} {Q : BitVec 32 → sProp 𝕄}
    (h : iprop(ctx m K ∗ wtSt m c 56 (by decide) (ow2 c 0) 8 ∗ (holds (slot pbM c) c (pbRow m c c) ∗ holds (slot rsM c) c (rsRow m c c) ∗ R)) ⊢ Q (nxt c 8#32)) :
    iprop(ctx m K ∗ holds (slot pbM c) c (pbRow m c c) ∗ anyOf (slot rsM c) c ∗ (Ow c (ow2 c 0) ∗ bigSep (seg c 0 32) (wtA c 56 (by decide))) ∗ R)
      ⊢ wpc c (k0_part26_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c)) Q := by
  unfold k0_part26_skel
  refine load_one c (v := pbRow m c c) (by exact reads_off c pbM c (k0_off67_eq c) _) ?_
  refine ent (B := iprop(iprop(ctx m K ∗ holds (slot pbM c) c (pbRow m c c)) ∗ anyOf (slot rsM c) c ∗ iprop((Ow c (ow2 c 0) ∗ bigSep (seg c 0 32) (wtA c 56 (by decide))) ∗ R))) ?_ ?_
  · iintro ⟨#HC, HP, HS, HR⟩
    isplitl [HP]
    · isplitr; · iexact HC
      iexact HP
    isplitl [HS]; · iexact HS
    iexact HR
  refine load_dead c (by exact dead_off c rsM c (k0_off67_eq c)) (fun _ => ?_)
  refine store_one c (by exact store_off c rsM c (k0_off67_eq c) _) ?_
  refine ent (B := iprop(ctx m K ∗ wtSt m c 56 (by decide) (ow2 c 0) 0 ∗ (holds (slot pbM c) c (pbRow m c c) ∗ holds (slot rsM c) c (rsRow m c c) ∗ R))) ?_ ?_
  · rw [pay31_eq]
    iintro ⟨⟨#HC, HP⟩, HS, HW, HR⟩
    isplitr; · iexact HC
    isplitl [HW]; · iapply (wt_enter m c 56 _ (ow2 c 0)); iexact HW
    isplitl [HP]; · iexact HP
    isplitl [HS]; · iexact HS
    iexact HR
  refine wt_step m K c 0 (k := 0) rfl (cond_iff c 0) 56 (by decide) (.inr (.inl rfl)) (r1_sem _ 0 rfl _ _) (ow2 c 0) (mw_r1 c 0) (by rfl) ?_
  refine wt_step m K c 1 (k := 1) rfl (cond_iff c 1) 56 (by decide) (.inr (.inl rfl)) (r1_sem _ 1 rfl _ _) (ow2 c 0) (mw_r1 c 1) (by rfl) ?_
  refine wt_step m K c 2 (k := 2) rfl (cond_iff c 2) 56 (by decide) (.inr (.inl rfl)) (r1_sem _ 2 rfl _ _) (ow2 c 0) (mw_r1 c 2) (by rfl) ?_
  refine wt_step m K c 3 (k := 3) rfl (cond_iff c 3) 56 (by decide) (.inr (.inl rfl)) (r1_sem _ 3 rfl _ _) (ow2 c 0) (mw_r1 c 3) (by rfl) ?_
  refine wt_step m K c 4 (k := 4) rfl (cond_iff c 4) 56 (by decide) (.inr (.inl rfl)) (r1_sem _ 4 rfl _ _) (ow2 c 0) (mw_r1 c 4) (by rfl) ?_
  refine wt_step m K c 5 (k := 5) rfl (cond_iff c 5) 56 (by decide) (.inr (.inl rfl)) (r1_sem _ 5 rfl _ _) (ow2 c 0) (mw_r1 c 5) (by rfl) ?_
  refine wt_step m K c 6 (k := 6) rfl (cond_iff c 6) 56 (by decide) (.inr (.inl rfl)) (r1_sem _ 6 rfl _ _) (ow2 c 0) (mw_r1 c 6) (by rfl) ?_
  refine wt_step m K c 7 (k := 7) rfl (cond_iff c 7) 56 (by decide) (.inr (.inl rfl)) (r1_sem _ 7 rfl _ _) (ow2 c 0) (mw_r1 c 7) (by rfl) ?_
  exact ent h (wpc_ret c _ Q)

/-- Ten more arrivals awaited. -/
theorem p27 (c : Dev nD) {R : sProp 𝕄} {Q : BitVec 32 → sProp 𝕄}
    (h : iprop(ctx m K ∗ wtSt m c 56 (by decide) (ow2 c 0) 18 ∗ R) ⊢ Q (nxt c 18#32)) :
    iprop(ctx m K ∗ wtSt m c 56 (by decide) (ow2 c 0) 8 ∗ R) ⊢ wpc c (k0_part27_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (nxt c 8#32)) Q := by
  unfold k0_part27_skel
  refine wt_step m K c 8 (k := 8) rfl (cond_iff c 8) 56 (by decide) (.inr (.inl rfl)) (r1_sem _ 8 rfl _ _) (ow2 c 0) (mw_r1 c 8) (by rfl) ?_
  refine wt_step m K c 9 (k := 9) rfl (cond_iff c 9) 56 (by decide) (.inr (.inl rfl)) (r1_sem _ 9 rfl _ _) (ow2 c 0) (mw_r1 c 9) (by rfl) ?_
  refine wt_step m K c 10 (k := 10) rfl (cond_iff c 10) 56 (by decide) (.inr (.inl rfl)) (r1_sem _ 10 rfl _ _) (ow2 c 0) (mw_r1 c 10) (by rfl) ?_
  refine wt_step m K c 11 (k := 11) rfl (cond_iff c 11) 56 (by decide) (.inr (.inl rfl)) (r1_sem _ 11 rfl _ _) (ow2 c 0) (mw_r1 c 11) (by rfl) ?_
  refine wt_step m K c 12 (k := 12) rfl (cond_iff c 12) 56 (by decide) (.inr (.inl rfl)) (r1_sem _ 12 rfl _ _) (ow2 c 0) (mw_r1 c 12) (by rfl) ?_
  refine wt_step m K c 13 (k := 13) rfl (cond_iff c 13) 56 (by decide) (.inr (.inl rfl)) (r1_sem _ 13 rfl _ _) (ow2 c 0) (mw_r1 c 13) (by rfl) ?_
  refine wt_step m K c 14 (k := 14) rfl (cond_iff c 14) 56 (by decide) (.inr (.inl rfl)) (r1_sem _ 14 rfl _ _) (ow2 c 0) (mw_r1 c 14) (by rfl) ?_
  refine wt_step m K c 15 (k := 15) rfl (cond_iff c 15) 56 (by decide) (.inr (.inl rfl)) (r1_sem _ 15 rfl _ _) (ow2 c 0) (mw_r1 c 15) (by rfl) ?_
  refine wt_step m K c 16 (k := 16) rfl (cond_iff c 16) 56 (by decide) (.inr (.inl rfl)) (r1_sem _ 16 rfl _ _) (ow2 c 0) (mw_r1 c 16) (by rfl) ?_
  refine wt_step m K c 17 (k := 17) rfl (cond_iff c 17) 56 (by decide) (.inr (.inl rfl)) (r1_sem _ 17 rfl _ _) (ow2 c 0) (mw_r1 c 17) (by rfl) ?_
  exact ent h (wpc_ret c _ Q)

/-- Ten more arrivals awaited. -/
theorem p28 (c : Dev nD) {R : sProp 𝕄} {Q : BitVec 32 → sProp 𝕄}
    (h : iprop(ctx m K ∗ wtSt m c 56 (by decide) (ow2 c 0) 28 ∗ R) ⊢ Q (nxt c 28#32)) :
    iprop(ctx m K ∗ wtSt m c 56 (by decide) (ow2 c 0) 18 ∗ R) ⊢ wpc c (k0_part28_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (nxt c 18#32)) Q := by
  unfold k0_part28_skel
  refine wt_step m K c 18 (k := 18) rfl (cond_iff c 18) 56 (by decide) (.inr (.inl rfl)) (r1_sem _ 18 rfl _ _) (ow2 c 0) (mw_r1 c 18) (by rfl) ?_
  refine wt_step m K c 19 (k := 19) rfl (cond_iff c 19) 56 (by decide) (.inr (.inl rfl)) (r1_sem _ 19 rfl _ _) (ow2 c 0) (mw_r1 c 19) (by rfl) ?_
  refine wt_step m K c 20 (k := 20) rfl (cond_iff c 20) 56 (by decide) (.inr (.inl rfl)) (r1_sem _ 20 rfl _ _) (ow2 c 0) (mw_r1 c 20) (by rfl) ?_
  refine wt_step m K c 21 (k := 21) rfl (cond_iff c 21) 56 (by decide) (.inr (.inl rfl)) (r1_sem _ 21 rfl _ _) (ow2 c 0) (mw_r1 c 21) (by rfl) ?_
  refine wt_step m K c 22 (k := 22) rfl (cond_iff c 22) 56 (by decide) (.inr (.inl rfl)) (r1_sem _ 22 rfl _ _) (ow2 c 0) (mw_r1 c 22) (by rfl) ?_
  refine wt_step m K c 23 (k := 23) rfl (cond_iff c 23) 56 (by decide) (.inr (.inl rfl)) (r1_sem _ 23 rfl _ _) (ow2 c 0) (mw_r1 c 23) (by rfl) ?_
  refine wt_step m K c 24 (k := 24) rfl (cond_iff c 24) 56 (by decide) (.inr (.inl rfl)) (r1_sem _ 24 rfl _ _) (ow2 c 0) (mw_r1 c 24) (by rfl) ?_
  refine wt_step m K c 25 (k := 25) rfl (cond_iff c 25) 56 (by decide) (.inr (.inl rfl)) (r1_sem _ 25 rfl _ _) (ow2 c 0) (mw_r1 c 25) (by rfl) ?_
  refine wt_step m K c 26 (k := 26) rfl (cond_iff c 26) 56 (by decide) (.inr (.inl rfl)) (r1_sem _ 26 rfl _ _) (ow2 c 0) (mw_r1 c 26) (by rfl) ?_
  refine wt_step m K c 27 (k := 27) rfl (cond_iff c 27) 56 (by decide) (.inr (.inl rfl)) (r1_sem _ 27 rfl _ _) (ow2 c 0) (mw_r1 c 27) (by rfl) ?_
  exact ent h (wpc_ret c _ Q)

/-- The last arrivals awaited, and the first sends awaited. -/
theorem p29 (c : Dev nD) {R : sProp 𝕄} {Q : BitVec 32 → sProp 𝕄}
    (h : iprop(ctx m K ∗ wtSt m c 24 (by decide) (ow2 c 0) 6 ∗ (bigSep (seg c 0 32) (wtB m c 56 (by decide)) ∗ R)) ⊢ Q (nxt c 6#32)) :
    iprop(ctx m K ∗ wtSt m c 56 (by decide) (ow2 c 0) 28 ∗ (bigSep (seg c 0 32) (wtA c 24 (by decide)) ∗ R)) ⊢ wpc c (k0_part29_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (nxt c 28#32)) Q := by
  unfold k0_part29_skel
  refine wt_step m K c 28 (k := 28) rfl (cond_iff c 28) 56 (by decide) (.inr (.inl rfl)) (r1_sem _ 28 rfl _ _) (ow2 c 0) (mw_r1 c 28) (by rfl) ?_
  refine wt_step m K c 29 (k := 29) rfl (cond_iff c 29) 56 (by decide) (.inr (.inl rfl)) (r1_sem _ 29 rfl _ _) (ow2 c 0) (mw_r1 c 29) (by rfl) ?_
  refine wt_step m K c 30 (k := 30) rfl (cond_iff c 30) 56 (by decide) (.inr (.inl rfl)) (r1_sem _ 30 rfl _ _) (ow2 c 0) (mw_r1 c 30) (by rfl) ?_
  refine wt_step m K c 31 (k := 31) rfl (cond_iff c 31) 56 (by decide) (.inr (.inl rfl)) (r1_sem _ 31 rfl _ _) (ow2 c 0) (mw_r1 c 31) (by rfl) ?_
  refine ent (B := iprop(ctx m K ∗ wtSt m c 24 (by decide) (ow2 c 0) 0 ∗ (bigSep (seg c 0 32) (wtB m c 56 (by decide)) ∗ R))) ?_ ?_
  · iintro ⟨#HC, HW, HA, HR⟩
    isplitr; · iexact HC
    ihave H := (wt_exit m c 56 _ (ow2 c 0)) $$ HW
    icases H with ⟨HO, HB⟩
    isplitl [HO HA]
    · iapply (wt_enter m c 24 _ (ow2 c 0))
      isplitl [HO]; · iexact HO
      iexact HA
    isplitl [HB]; · iexact HB
    iexact HR
  refine wt_step m K c 0 (k := 0) rfl (cond_iff c 0) 24 (by decide) (.inl rfl) (s1_sem _ 0 rfl _ _) (ow2 c 0) (mw_s1 c 0) (by rfl) ?_
  refine wt_step m K c 1 (k := 1) rfl (cond_iff c 1) 24 (by decide) (.inl rfl) (s1_sem _ 1 rfl _ _) (ow2 c 0) (mw_s1 c 1) (by rfl) ?_
  refine wt_step m K c 2 (k := 2) rfl (cond_iff c 2) 24 (by decide) (.inl rfl) (s1_sem _ 2 rfl _ _) (ow2 c 0) (mw_s1 c 2) (by rfl) ?_
  refine wt_step m K c 3 (k := 3) rfl (cond_iff c 3) 24 (by decide) (.inl rfl) (s1_sem _ 3 rfl _ _) (ow2 c 0) (mw_s1 c 3) (by rfl) ?_
  refine wt_step m K c 4 (k := 4) rfl (cond_iff c 4) 24 (by decide) (.inl rfl) (s1_sem _ 4 rfl _ _) (ow2 c 0) (mw_s1 c 4) (by rfl) ?_
  refine wt_step m K c 5 (k := 5) rfl (cond_iff c 5) 24 (by decide) (.inl rfl) (s1_sem _ 5 rfl _ _) (ow2 c 0) (mw_s1 c 5) (by rfl) ?_
  exact ent h (wpc_ret c _ Q)

/-- Ten more sends awaited. -/
theorem p30 (c : Dev nD) {R : sProp 𝕄} {Q : BitVec 32 → sProp 𝕄}
    (h : iprop(ctx m K ∗ wtSt m c 24 (by decide) (ow2 c 0) 16 ∗ R) ⊢ Q (nxt c 16#32)) :
    iprop(ctx m K ∗ wtSt m c 24 (by decide) (ow2 c 0) 6 ∗ R) ⊢ wpc c (k0_part30_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (nxt c 6#32)) Q := by
  unfold k0_part30_skel
  refine wt_step m K c 6 (k := 6) rfl (cond_iff c 6) 24 (by decide) (.inl rfl) (s1_sem _ 6 rfl _ _) (ow2 c 0) (mw_s1 c 6) (by rfl) ?_
  refine wt_step m K c 7 (k := 7) rfl (cond_iff c 7) 24 (by decide) (.inl rfl) (s1_sem _ 7 rfl _ _) (ow2 c 0) (mw_s1 c 7) (by rfl) ?_
  refine wt_step m K c 8 (k := 8) rfl (cond_iff c 8) 24 (by decide) (.inl rfl) (s1_sem _ 8 rfl _ _) (ow2 c 0) (mw_s1 c 8) (by rfl) ?_
  refine wt_step m K c 9 (k := 9) rfl (cond_iff c 9) 24 (by decide) (.inl rfl) (s1_sem _ 9 rfl _ _) (ow2 c 0) (mw_s1 c 9) (by rfl) ?_
  refine wt_step m K c 10 (k := 10) rfl (cond_iff c 10) 24 (by decide) (.inl rfl) (s1_sem _ 10 rfl _ _) (ow2 c 0) (mw_s1 c 10) (by rfl) ?_
  refine wt_step m K c 11 (k := 11) rfl (cond_iff c 11) 24 (by decide) (.inl rfl) (s1_sem _ 11 rfl _ _) (ow2 c 0) (mw_s1 c 11) (by rfl) ?_
  refine wt_step m K c 12 (k := 12) rfl (cond_iff c 12) 24 (by decide) (.inl rfl) (s1_sem _ 12 rfl _ _) (ow2 c 0) (mw_s1 c 12) (by rfl) ?_
  refine wt_step m K c 13 (k := 13) rfl (cond_iff c 13) 24 (by decide) (.inl rfl) (s1_sem _ 13 rfl _ _) (ow2 c 0) (mw_s1 c 13) (by rfl) ?_
  refine wt_step m K c 14 (k := 14) rfl (cond_iff c 14) 24 (by decide) (.inl rfl) (s1_sem _ 14 rfl _ _) (ow2 c 0) (mw_s1 c 14) (by rfl) ?_
  refine wt_step m K c 15 (k := 15) rfl (cond_iff c 15) 24 (by decide) (.inl rfl) (s1_sem _ 15 rfl _ _) (ow2 c 0) (mw_s1 c 15) (by rfl) ?_
  exact ent h (wpc_ret c _ Q)

/-- Ten more sends awaited. -/
theorem p31 (c : Dev nD) {R : sProp 𝕄} {Q : BitVec 32 → sProp 𝕄}
    (h : iprop(ctx m K ∗ wtSt m c 24 (by decide) (ow2 c 0) 26 ∗ R) ⊢ Q (nxt c 26#32)) :
    iprop(ctx m K ∗ wtSt m c 24 (by decide) (ow2 c 0) 16 ∗ R) ⊢ wpc c (k0_part31_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (nxt c 16#32)) Q := by
  unfold k0_part31_skel
  refine wt_step m K c 16 (k := 16) rfl (cond_iff c 16) 24 (by decide) (.inl rfl) (s1_sem _ 16 rfl _ _) (ow2 c 0) (mw_s1 c 16) (by rfl) ?_
  refine wt_step m K c 17 (k := 17) rfl (cond_iff c 17) 24 (by decide) (.inl rfl) (s1_sem _ 17 rfl _ _) (ow2 c 0) (mw_s1 c 17) (by rfl) ?_
  refine wt_step m K c 18 (k := 18) rfl (cond_iff c 18) 24 (by decide) (.inl rfl) (s1_sem _ 18 rfl _ _) (ow2 c 0) (mw_s1 c 18) (by rfl) ?_
  refine wt_step m K c 19 (k := 19) rfl (cond_iff c 19) 24 (by decide) (.inl rfl) (s1_sem _ 19 rfl _ _) (ow2 c 0) (mw_s1 c 19) (by rfl) ?_
  refine wt_step m K c 20 (k := 20) rfl (cond_iff c 20) 24 (by decide) (.inl rfl) (s1_sem _ 20 rfl _ _) (ow2 c 0) (mw_s1 c 20) (by rfl) ?_
  refine wt_step m K c 21 (k := 21) rfl (cond_iff c 21) 24 (by decide) (.inl rfl) (s1_sem _ 21 rfl _ _) (ow2 c 0) (mw_s1 c 21) (by rfl) ?_
  refine wt_step m K c 22 (k := 22) rfl (cond_iff c 22) 24 (by decide) (.inl rfl) (s1_sem _ 22 rfl _ _) (ow2 c 0) (mw_s1 c 22) (by rfl) ?_
  refine wt_step m K c 23 (k := 23) rfl (cond_iff c 23) 24 (by decide) (.inl rfl) (s1_sem _ 23 rfl _ _) (ow2 c 0) (mw_s1 c 23) (by rfl) ?_
  refine wt_step m K c 24 (k := 24) rfl (cond_iff c 24) 24 (by decide) (.inl rfl) (s1_sem _ 24 rfl _ _) (ow2 c 0) (mw_s1 c 24) (by rfl) ?_
  refine wt_step m K c 25 (k := 25) rfl (cond_iff c 25) 24 (by decide) (.inl rfl) (s1_sem _ 25 rfl _ _) (ow2 c 0) (mw_s1 c 25) (by rfl) ?_
  exact ent h (wpc_ret c _ Q)

/-! ## The sum -/

/-- The 32 landed rows: the peers' and the device's own. -/
abbrev rsAll (c : Dev nD) : sProp 𝕄 := iprop(bigSep (seg c 0 32) (wtB m c 56 (by decide)) ∗ holds (slot rsM c) c (rsRow m c c))

/-- A load of a landed slot reads the rows its device sent. -/
theorem reads_rs (c : Dev nD) (j : Fin 32) : Reads c (rsAll m c) rsM (slotR j).toLoadRect (rsRow m c j) := by
  by_cases h : j = c
  · subst h
    exact reads_sep_right (reads_slice rsM (slotR j) (fun _ => rfl) _)
  · refine reads_sep_left (reads_bigSep j (mem_seg.mpr ⟨⟨Nat.zero_le _, j.isLt⟩, h⟩) (reads_sep_right ?_))
    rw [dmaPay_r1]
    exact reads_slice rsM (slotR j) (fun _ => rfl) _

/-- The last sends awaited, and the first landed rows summed. -/
theorem p32 (c : Dev nD) {R : sProp 𝕄} {Q : (Σ' (v987 : FVec F S16x512 .f32), Vec F S16x512 .bf16) → sProp 𝕄}
    (h : iprop(ctx m K ∗ rsAll m c ∗ (Ow c (ow2 c 0) ∗ bigSep (seg c 0 32) (wtB m c 24 (by decide)) ∗ R)) ⊢ Q ⟨sum0 m c, rsRow m c 5⟩) :
    iprop(ctx m K ∗ wtSt m c 24 (by decide) (ow2 c 0) 26 ∗ (rsAll m c ∗ R)) ⊢ wpc c (k0_part32_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c) (nxt c 26#32)) Q := by
  unfold k0_part32_skel
  refine wt_step m K c 26 (k := 26) rfl (cond_iff c 26) 24 (by decide) (.inl rfl) (s1_sem _ 26 rfl _ _) (ow2 c 0) (mw_s1 c 26) (by rfl) ?_
  refine wt_step m K c 27 (k := 27) rfl (cond_iff c 27) 24 (by decide) (.inl rfl) (s1_sem _ 27 rfl _ _) (ow2 c 0) (mw_s1 c 27) (by rfl) ?_
  refine wt_step m K c 28 (k := 28) rfl (cond_iff c 28) 24 (by decide) (.inl rfl) (s1_sem _ 28 rfl _ _) (ow2 c 0) (mw_s1 c 28) (by rfl) ?_
  refine wt_step m K c 29 (k := 29) rfl (cond_iff c 29) 24 (by decide) (.inl rfl) (s1_sem _ 29 rfl _ _) (ow2 c 0) (mw_s1 c 29) (by rfl) ?_
  refine wt_step m K c 30 (k := 30) rfl (cond_iff c 30) 24 (by decide) (.inl rfl) (s1_sem _ 30 rfl _ _) (ow2 c 0) (mw_s1 c 30) (by rfl) ?_
  refine wt_step m K c 31 (k := 31) rfl (cond_iff c 31) 24 (by decide) (.inl rfl) (s1_sem _ 31 rfl _ _) (ow2 c 0) (mw_s1 c 31) (by rfl) ?_
  refine ent (B := iprop(ctx m K ∗ rsAll m c ∗ (Ow c (ow2 c 0) ∗ bigSep (seg c 0 32) (wtB m c 24 (by decide)) ∗ R))) ?_ ?_
  · iintro ⟨#HC, HW, HA, HR⟩
    isplitr; · iexact HC
    isplitl [HA]; · iexact HA
    ihave H := (wt_exit m c 24 _ (ow2 c 0)) $$ HW
    icases H with ⟨HO, HB⟩
    isplitl [HO]; · iexact HO
    isplitl [HB]; · iexact HB
    iexact HR
  refine load_one c (v := rsRow m c 0) (by exact reads_rs m c 0) ?_
  refine load_one c (v := rsRow m c 1) (by exact reads_rs m c 1) ?_
  refine load_one c (v := rsRow m c 2) (by exact reads_rs m c 2) ?_
  refine load_one c (v := rsRow m c 3) (by exact reads_rs m c 3) ?_
  refine load_one c (v := rsRow m c 4) (by exact reads_rs m c 4) ?_
  refine load_one c (v := rsRow m c 5) (by exact reads_rs m c 5) ?_
  exact ent h (wpc_ret c _ Q)

/-- More landed rows summed. -/
theorem p33 (c : Dev nD) {R : sProp 𝕄} {Q : (Σ' (v1023 : FVec F S16x512 .f32), Vec F S16x512 .bf16) → sProp 𝕄}
    (h : iprop(ctx m K ∗ rsAll m c ∗ R) ⊢ Q ⟨sum1 m c, rsRow m c 17⟩) :
    iprop(ctx m K ∗ rsAll m c ∗ R) ⊢ wpc c (k0_part33_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (sum0 m c) (rsRow m c 5)) Q := by
  unfold k0_part33_skel
  refine load_one c (v := rsRow m c 6) (by exact reads_rs m c 6) ?_
  refine load_one c (v := rsRow m c 7) (by exact reads_rs m c 7) ?_
  refine load_one c (v := rsRow m c 8) (by exact reads_rs m c 8) ?_
  refine load_one c (v := rsRow m c 9) (by exact reads_rs m c 9) ?_
  refine load_one c (v := rsRow m c 10) (by exact reads_rs m c 10) ?_
  refine load_one c (v := rsRow m c 11) (by exact reads_rs m c 11) ?_
  refine load_one c (v := rsRow m c 12) (by exact reads_rs m c 12) ?_
  refine load_one c (v := rsRow m c 13) (by exact reads_rs m c 13) ?_
  refine load_one c (v := rsRow m c 14) (by exact reads_rs m c 14) ?_
  refine load_one c (v := rsRow m c 15) (by exact reads_rs m c 15) ?_
  refine load_one c (v := rsRow m c 16) (by exact reads_rs m c 16) ?_
  refine load_one c (v := rsRow m c 17) (by exact reads_rs m c 17) ?_
  exact ent h (wpc_ret c _ Q)

/-- More landed rows summed. -/
theorem p34 (c : Dev nD) {R : sProp 𝕄} {Q : (Σ' (v1059 : FVec F S16x512 .f32), Vec F S16x512 .bf16) → sProp 𝕄}
    (h : iprop(ctx m K ∗ rsAll m c ∗ R) ⊢ Q ⟨sum2 m c, rsRow m c 29⟩) :
    iprop(ctx m K ∗ rsAll m c ∗ R) ⊢ wpc c (k0_part34_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (sum1 m c) (rsRow m c 17)) Q := by
  unfold k0_part34_skel
  refine load_one c (v := rsRow m c 18) (by exact reads_rs m c 18) ?_
  refine load_one c (v := rsRow m c 19) (by exact reads_rs m c 19) ?_
  refine load_one c (v := rsRow m c 20) (by exact reads_rs m c 20) ?_
  refine load_one c (v := rsRow m c 21) (by exact reads_rs m c 21) ?_
  refine load_one c (v := rsRow m c 22) (by exact reads_rs m c 22) ?_
  refine load_one c (v := rsRow m c 23) (by exact reads_rs m c 23) ?_
  refine load_one c (v := rsRow m c 24) (by exact reads_rs m c 24) ?_
  refine load_one c (v := rsRow m c 25) (by exact reads_rs m c 25) ?_
  refine load_one c (v := rsRow m c 26) (by exact reads_rs m c 26) ?_
  refine load_one c (v := rsRow m c 27) (by exact reads_rs m c 27) ?_
  refine load_one c (v := rsRow m c 28) (by exact reads_rs m c 28) ?_
  refine load_one c (v := rsRow m c 29) (by exact reads_rs m c 29) ?_
  exact ent h (wpc_ret c _ Q)

end PartsC

end Cert.Attn
-- ==== Proof.PartsD.lean ====
/-
# The second exchange and the result
-/
module

public import proofs.«01_k».proof.Proof.PartsC

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section PartsD
variable (m : (ℓ : Loc nD τ sig) → Buf (Elt F) ℓ) (K : Dev nD × Fin 149 → ℕ)

/-- The reduced rows' buffer of device `c`. -/
abbrev redL (c : Dev nD) : Loc nD τ sig := (c : Thread nD τ).loc cc0_scratch7
/-- The shares of the reduced rows that no send reads: the remainder, and the device's own. -/
def redRest (c : Dev nD) : sProp 𝕄 := iprop((redL c ↦{Transfers.shareDrop fullShare 32} redV m c) ∗ s2Pay m c c)

/-- The devices are the device itself and its peers. -/
theorem univ_own (c : Dev nD) : (Finset.univ : Finset (Fin 32)) = insert c (seg c 0 32) := by
  ext j; rw [Finset.mem_insert, mem_seg]
  have := j.isLt
  by_cases h : j = c <;> simp [h]
/-- A device is not among its own peers. -/
theorem own_not_mem (c : Dev nD) : c ∉ seg c 0 32 := fun h => ne_of_seg h rfl
/-- A family over the devices is the device's own and the peers'. -/
theorem own_split (c : Dev nD) (Φ : Fin 32 → sProp 𝕄) : bigSep Finset.univ Φ = iprop(Φ c ∗ bigSep (seg c 0 32) Φ) := by
  rw [univ_own c]; exact bigSep_insert (own_not_mem c)

/-- The reduced rows are a remaining share and one share for every device. -/
theorem red_eqv (c : Dev nD) : ((redL c ↦{fullShare} redV m c) : sProp 𝕄) ⊣⊢ iprop((redL c ↦{Transfers.shareDrop fullShare 32} redV m c) ∗ s2Pay m c c ∗ bigSep (seg c 0 32) (s2Pay m c)) := by
  rw [← own_split c]
  exact Transfers.pointsTo_toks fullShare 32
/-- The reduced rows stored give each peer's send its share. -/
theorem red_enter (c : Dev nD) : (holds redS c (redV m c) : sProp 𝕄) ⊢ iprop(redRest m c ∗ bigSep (seg c 0 32) (s2Pay m c)) := by
  have h1 : (holds redS c (redV m c) : sProp 𝕄) ⊢ (redL c ↦{fullShare} redV m c) := by
    unfold holds
    rw [redS_set]
    iintro ⟨%f, %hf, H⟩
    rw [redS_read] at hf
    subst hf
    iexact H
  refine ent h1 (ent (red_eqv m c).1 ?_)
  unfold redRest
  iintro ⟨Hd, H1, H2⟩
  isplitl [Hd H1]
  · isplitl [Hd]; · iexact Hd
    iexact H1
  iexact H2
/-- The shares of the reduced rows join to the rows in full. -/
theorem red_exit (c : Dev nD) : iprop(redRest m c ∗ bigSep (seg c 0 32) (s2Pay m c)) ⊢ ((redL c ↦{fullShare} redV m c) : sProp 𝕄) := by
  refine ent ?_ (red_eqv m c).2
  unfold redRest
  iintro ⟨⟨Hd, H1⟩, H2⟩
  isplitl [Hd]; · iexact Hd
  isplitl [H1]; · iexact H1
  iexact H2

/-- The last rows summed and rounded are the reduced rows. -/
theorem redV_eq (c : Dev nD) : k0_pay35 (sum2 m c) (rsRow m c 29) (rsRow m c 30) (rsRow m c 31) = redV m c := rfl

/-- The rows reduced, stored, kept in the device's own slot, and the first sends of them. -/
theorem p35 (c : Dev nD) {R : sProp 𝕄} {Q : PUnit → sProp 𝕄}
    (h : iprop(ctx m K ∗ agSt m c 5 ∗ (rsAll m c ∗ redRest m c ∗ holds (slot agM c) c (redV m c) ∗ R)) ⊢ Q ⟨⟩) :
    iprop(ctx m K ∗ rsAll m c ∗ (anyOf redS c ∗ anyOf (slot agM c) c ∗ (Ow c (ow2 c 0) ∗ bigSep (seg c 0 32) (agD c)) ∗ R))
      ⊢ wpc c (k0_part35_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c) (sum2 m c) (rsRow m c 29)) Q := by
  unfold k0_part35_skel
  refine load_one c (v := rsRow m c 30) (by exact reads_rs m c 30) ?_
  refine load_one c (v := rsRow m c 31) (by exact reads_rs m c 31) ?_
  refine ent (B := iprop(iprop(ctx m K ∗ rsAll m c) ∗ anyOf redS c ∗ iprop(anyOf (slot agM c) c ∗ (Ow c (ow2 c 0) ∗ bigSep (seg c 0 32) (agD c)) ∗ R))) ?_ ?_
  · iintro ⟨#HC, HA, HB, HR⟩
    isplitl [HA]
    · isplitr; · iexact HC
      iexact HA
    isplitl [HB]; · iexact HB
    iexact HR
  refine load_dead c (by exact dead_slice redM _ (fun _ => rfl)) (fun _ => ?_)
  refine store_one c (by exact store_slice redM _ (fun _ => rfl) _) ?_
  rw [redV_eq]
  refine load_one c (v := redV m c) (by exact reads_slice redM _ (fun _ => rfl) _) ?_
  refine ent (B := iprop(iprop(ctx m K ∗ rsAll m c ∗ holds redS c (redV m c)) ∗ anyOf (slot agM c) c ∗ iprop((Ow c (ow2 c 0) ∗ bigSep (seg c 0 32) (agD c)) ∗ R))) ?_ ?_
  · iintro ⟨⟨#HC, HA⟩, HB, HG, HR⟩
    isplitl [HA HB]
    · isplitr; · iexact HC
      isplitl [HA]; · iexact HA
      iexact HB
    isplitl [HG]; · iexact HG
    iexact HR
  refine load_dead c (by exact dead_off c agM c (k0_off67_eq c)) (fun _ => ?_)
  refine store_one c (by exact store_off c agM c (k0_off67_eq c) _) ?_
  refine ent (B := iprop(ctx m K ∗ agSt m c 0 ∗ (rsAll m c ∗ redRest m c ∗ holds (slot agM c) c (redV m c) ∗ R))) ?_ ?_
  · rw [pay36_eq]
    unfold agSt st
    rw [seg_empty, bigSep_empty, show bigSep (seg c 0 32) (agA m c) = iprop(bigSep (seg c 0 32) (s2Pay m c) ∗ bigSep (seg c 0 32) (agD c)) from bigSep_sep' _ _ _]
    iintro ⟨⟨#HC, HA, HB⟩, HG, ⟨HO, HD⟩, HR⟩
    isplitr; · iexact HC
    ihave H := (red_enter m c) $$ HB
    icases H with ⟨H1, H2⟩
    isplitl [HO H2 HD]
    · isplitl [HO]; · iexact HO
      isplitl
      · isplitl [H2]; · iexact H2
        iexact HD
      iempintro
    isplitl [HA]; · iexact HA
    isplitl [H1]; · iexact H1
    isplitl [HG]; · iexact HG
    iexact HR
  refine ag_step m K c 0 (k := 0) rfl (cond_iff c 0) ⟨0, hdev_0⟩ rfl (fun _ => s2_sem _ 0 rfl _ _) (fun _ => r2_sem _ c (k0_off68_eq c) _ _) (fun _ => slot_off agM c (k0_off69_eq c)) ?_
  refine ag_step m K c 1 (k := 1) rfl (cond_iff c 1) ⟨1, hdev_1⟩ rfl (fun _ => s2_sem _ 1 rfl _ _) (fun _ => r2_sem _ c (k0_off70_eq c) _ _) (fun _ => slot_off agM c (k0_off71_eq c)) ?_
  refine ag_step m K c 2 (k := 2) rfl (cond_iff c 2) ⟨2, hdev_2⟩ rfl (fun _ => s2_sem _ 2 rfl _ _) (fun _ => r2_sem _ c (k0_off72_eq c) _ _) (fun _ => slot_off agM c (k0_off73_eq c)) ?_
  refine ag_step m K c 3 (k := 3) rfl (cond_iff c 3) ⟨3, hdev_3⟩ rfl (fun _ => s2_sem _ 3 rfl _ _) (fun _ => r2_sem _ c (k0_off74_eq c) _ _) (fun _ => slot_off agM c (k0_off75_eq c)) ?_
  refine ag_step m K c 4 (k := 4) rfl (cond_iff c 4) ⟨4, hdev_4⟩ rfl (fun _ => s2_sem _ 4 rfl _ _) (fun _ => r2_sem _ c (k0_off76_eq c) _ _) (fun _ => slot_off agM c (k0_off77_eq c)) ?_
  exact ent h (wpc_ret c _ Q)

/-- Ten more sends of the reduced rows. -/
theorem p36 (c : Dev nD) {R : sProp 𝕄} {Q : PUnit → sProp 𝕄} (h : iprop(ctx m K ∗ agSt m c 15 ∗ R) ⊢ Q ⟨⟩) :
    iprop(ctx m K ∗ agSt m c 5 ∗ R) ⊢ wpc c (k0_part36_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c)) Q := by
  unfold k0_part36_skel
  refine ag_step m K c 5 (k := 5) rfl (cond_iff c 5) ⟨5, hdev_5⟩ rfl (fun _ => s2_sem _ 5 rfl _ _) (fun _ => r2_sem _ c (k0_off78_eq c) _ _) (fun _ => slot_off agM c (k0_off79_eq c)) ?_
  refine ag_step m K c 6 (k := 6) rfl (cond_iff c 6) ⟨6, hdev_6⟩ rfl (fun _ => s2_sem _ 6 rfl _ _) (fun _ => r2_sem _ c (k0_off80_eq c) _ _) (fun _ => slot_off agM c (k0_off81_eq c)) ?_
  refine ag_step m K c 7 (k := 7) rfl (cond_iff c 7) ⟨7, hdev_7⟩ rfl (fun _ => s2_sem _ 7 rfl _ _) (fun _ => r2_sem _ c (k0_off82_eq c) _ _) (fun _ => slot_off agM c (k0_off83_eq c)) ?_
  refine ag_step m K c 8 (k := 8) rfl (cond_iff c 8) ⟨8, hdev_8⟩ rfl (fun _ => s2_sem _ 8 rfl _ _) (fun _ => r2_sem _ c (k0_off84_eq c) _ _) (fun _ => slot_off agM c (k0_off85_eq c)) ?_
  refine ag_step m K c 9 (k := 9) rfl (cond_iff c 9) ⟨9, hdev_9⟩ rfl (fun _ => s2_sem _ 9 rfl _ _) (fun _ => r2_sem _ c (k0_off86_eq c) _ _) (fun _ => slot_off agM c (k0_off87_eq c)) ?_
  refine ag_step m K c 10 (k := 10) rfl (cond_iff c 10) ⟨10, hdev_10⟩ rfl (fun _ => s2_sem _ 10 rfl _ _) (fun _ => r2_sem _ c (k0_off88_eq c) _ _) (fun _ => slot_off agM c (k0_off89_eq c)) ?_
  refine ag_step m K c 11 (k := 11) rfl (cond_iff c 11) ⟨11, hdev_11⟩ rfl (fun _ => s2_sem _ 11 rfl _ _) (fun _ => r2_sem _ c (k0_off90_eq c) _ _) (fun _ => slot_off agM c (k0_off91_eq c)) ?_
  refine ag_step m K c 12 (k := 12) rfl (cond_iff c 12) ⟨12, hdev_12⟩ rfl (fun _ => s2_sem _ 12 rfl _ _) (fun _ => r2_sem _ c (k0_off92_eq c) _ _) (fun _ => slot_off agM c (k0_off93_eq c)) ?_
  refine ag_step m K c 13 (k := 13) rfl (cond_iff c 13) ⟨13, hdev_13⟩ rfl (fun _ => s2_sem _ 13 rfl _ _) (fun _ => r2_sem _ c (k0_off94_eq c) _ _) (fun _ => slot_off agM c (k0_off95_eq c)) ?_
  refine ag_step m K c 14 (k := 14) rfl (cond_iff c 14) ⟨14, hdev_14⟩ rfl (fun _ => s2_sem _ 14 rfl _ _) (fun _ => r2_sem _ c (k0_off96_eq c) _ _) (fun _ => slot_off agM c (k0_off97_eq c)) ?_
  exact ent h (wpc_ret c _ Q)

/-- Ten more sends of the reduced rows. -/
theorem p37 (c : Dev nD) {R : sProp 𝕄} {Q : PUnit → sProp 𝕄} (h : iprop(ctx m K ∗ agSt m c 25 ∗ R) ⊢ Q ⟨⟩) :
    iprop(ctx m K ∗ agSt m c 15 ∗ R) ⊢ wpc c (k0_part37_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c)) Q := by
  unfold k0_part37_skel
  refine ag_step m K c 15 (k := 15) rfl (cond_iff c 15) ⟨15, hdev_15⟩ rfl (fun _ => s2_sem _ 15 rfl _ _) (fun _ => r2_sem _ c (k0_off98_eq c) _ _) (fun _ => slot_off agM c (k0_off99_eq c)) ?_
  refine ag_step m K c 16 (k := 16) rfl (cond_iff c 16) ⟨16, hdev_16⟩ rfl (fun _ => s2_sem _ 16 rfl _ _) (fun _ => r2_sem _ c (k0_off100_eq c) _ _) (fun _ => slot_off agM c (k0_off101_eq c)) ?_
  refine ag_step m K c 17 (k := 17) rfl (cond_iff c 17) ⟨17, hdev_17⟩ rfl (fun _ => s2_sem _ 17 rfl _ _) (fun _ => r2_sem _ c (k0_off102_eq c) _ _) (fun _ => slot_off agM c (k0_off103_eq c)) ?_
  refine ag_step m K c 18 (k := 18) rfl (cond_iff c 18) ⟨18, hdev_18⟩ rfl (fun _ => s2_sem _ 18 rfl _ _) (fun _ => r2_sem _ c (k0_off104_eq c) _ _) (fun _ => slot_off agM c (k0_off105_eq c)) ?_
  refine ag_step m K c 19 (k := 19) rfl (cond_iff c 19) ⟨19, hdev_19⟩ rfl (fun _ => s2_sem _ 19 rfl _ _) (fun _ => r2_sem _ c (k0_off106_eq c) _ _) (fun _ => slot_off agM c (k0_off107_eq c)) ?_
  refine ag_step m K c 20 (k := 20) rfl (cond_iff c 20) ⟨20, hdev_20⟩ rfl (fun _ => s2_sem _ 20 rfl _ _) (fun _ => r2_sem _ c (k0_off108_eq c) _ _) (fun _ => slot_off agM c (k0_off109_eq c)) ?_
  refine ag_step m K c 21 (k := 21) rfl (cond_iff c 21) ⟨21, hdev_21⟩ rfl (fun _ => s2_sem _ 21 rfl _ _) (fun _ => r2_sem _ c (k0_off110_eq c) _ _) (fun _ => slot_off agM c (k0_off111_eq c)) ?_
  refine ag_step m K c 22 (k := 22) rfl (cond_iff c 22) ⟨22, hdev_22⟩ rfl (fun _ => s2_sem _ 22 rfl _ _) (fun _ => r2_sem _ c (k0_off112_eq c) _ _) (fun _ => slot_off agM c (k0_off113_eq c)) ?_
  refine ag_step m K c 23 (k := 23) rfl (cond_iff c 23) ⟨23, hdev_23⟩ rfl (fun _ => s2_sem _ 23 rfl _ _) (fun _ => r2_sem _ c (k0_off114_eq c) _ _) (fun _ => slot_off agM c (k0_off115_eq c)) ?_
  refine ag_step m K c 24 (k := 24) rfl (cond_iff c 24) ⟨24, hdev_24⟩ rfl (fun _ => s2_sem _ 24 rfl _ _) (fun _ => r2_sem _ c (k0_off116_eq c) _ _) (fun _ => slot_off agM c (k0_off117_eq c)) ?_
  exact ent h (wpc_ret c _ Q)

/-- The last sends of the reduced rows, and the first arrivals awaited. -/
theorem p38 (c : Dev nD) {R : sProp 𝕄} {Q : PUnit → sProp 𝕄}
    (h : iprop(ctx m K ∗ wtSt m c 120 (by decide) 0 3 ∗ (bigSep (seg c 0 32) (agB c) ∗ R)) ⊢ Q ⟨⟩) :
    iprop(ctx m K ∗ agSt m c 25 ∗ (bigSep (seg c 0 32) (wtA c 120 (by decide)) ∗ R)) ⊢ wpc c (k0_part38_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c)) Q := by
  unfold k0_part38_skel
  refine ag_step m K c 25 (k := 25) rfl (cond_iff c 25) ⟨25, hdev_25⟩ rfl (fun _ => s2_sem _ 25 rfl _ _) (fun _ => r2_sem _ c (k0_off118_eq c) _ _) (fun _ => slot_off agM c (k0_off119_eq c)) ?_
  refine ag_step m K c 26 (k := 26) rfl (cond_iff c 26) ⟨26, hdev_26⟩ rfl (fun _ => s2_sem _ 26 rfl _ _) (fun _ => r2_sem _ c (k0_off120_eq c) _ _) (fun _ => slot_off agM c (k0_off121_eq c)) ?_
  refine ag_step m K c 27 (k := 27) rfl (cond_iff c 27) ⟨27, hdev_27⟩ rfl (fun _ => s2_sem _ 27 rfl _ _) (fun _ => r2_sem _ c (k0_off122_eq c) _ _) (fun _ => slot_off agM c (k0_off123_eq c)) ?_
  refine ag_step m K c 28 (k := 28) rfl (cond_iff c 28) ⟨28, hdev_28⟩ rfl (fun _ => s2_sem _ 28 rfl _ _) (fun _ => r2_sem _ c (k0_off124_eq c) _ _) (fun _ => slot_off agM c (k0_off125_eq c)) ?_
  refine ag_step m K c 29 (k := 29) rfl (cond_iff c 29) ⟨29, hdev_29⟩ rfl (fun _ => s2_sem _ 29 rfl _ _) (fun _ => r2_sem _ c (k0_off126_eq c) _ _) (fun _ => slot_off agM c (k0_off127_eq c)) ?_
  refine ag_step m K c 30 (k := 30) rfl (cond_iff c 30) ⟨30, hdev_30⟩ rfl (fun _ => s2_sem _ 30 rfl _ _) (fun _ => r2_sem _ c (k0_off128_eq c) _ _) (fun _ => slot_off agM c (k0_off129_eq c)) ?_
  refine ag_step m K c 31 (k := 31) rfl (cond_iff c 31) ⟨31, hdev_31⟩ rfl (fun _ => s2_sem _ 31 rfl _ _) (fun _ => r2_sem _ c (k0_off130_eq c) _ _) (fun _ => slot_off agM c (k0_off131_eq c)) ?_
  refine ent (B := iprop(ctx m K ∗ wtSt m c 120 (by decide) 0 0 ∗ (bigSep (seg c 0 32) (agB c) ∗ R))) ?_ ?_
  · unfold agSt
    rw [st]
    have e : ow2 c (31 + 1) = 0 := ow_last (fun j => r2Cell j c) Nx
    iintro ⟨#HC, ⟨HO, -, HB⟩, HA, HR⟩
    isplitr; · iexact HC
    isplitl [HO HA]
    · iapply (wt_enter m c 120 _ 0)
      isplitl [HO]; · rw [← e]; iexact HO
      iexact HA
    isplitl [HB]; · iexact HB
    iexact HR
  refine wt_step m K c 0 (k := 0) rfl (cond_iff c 0) 120 (by decide) (.inr (.inr (.inr rfl))) (r2_sem _ 0 rfl _ _) 0 (mw_r2 c 0) (by rfl) ?_
  refine wt_step m K c 1 (k := 1) rfl (cond_iff c 1) 120 (by decide) (.inr (.inr (.inr rfl))) (r2_sem _ 1 rfl _ _) 0 (mw_r2 c 1) (by rfl) ?_
  refine wt_step m K c 2 (k := 2) rfl (cond_iff c 2) 120 (by decide) (.inr (.inr (.inr rfl))) (r2_sem _ 2 rfl _ _) 0 (mw_r2 c 2) (by rfl) ?_
  exact ent h (wpc_ret c _ Q)

/-- Ten more arrivals awaited. -/
theorem p39 (c : Dev nD) {R : sProp 𝕄} {Q : PUnit → sProp 𝕄} (h : iprop(ctx m K ∗ wtSt m c 120 (by decide) 0 13 ∗ R) ⊢ Q ⟨⟩) :
    iprop(ctx m K ∗ wtSt m c 120 (by decide) 0 3 ∗ R) ⊢ wpc c (k0_part39_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c)) Q := by
  unfold k0_part39_skel
  refine wt_step m K c 3 (k := 3) rfl (cond_iff c 3) 120 (by decide) (.inr (.inr (.inr rfl))) (r2_sem _ 3 rfl _ _) 0 (mw_r2 c 3) (by rfl) ?_
  refine wt_step m K c 4 (k := 4) rfl (cond_iff c 4) 120 (by decide) (.inr (.inr (.inr rfl))) (r2_sem _ 4 rfl _ _) 0 (mw_r2 c 4) (by rfl) ?_
  refine wt_step m K c 5 (k := 5) rfl (cond_iff c 5) 120 (by decide) (.inr (.inr (.inr rfl))) (r2_sem _ 5 rfl _ _) 0 (mw_r2 c 5) (by rfl) ?_
  refine wt_step m K c 6 (k := 6) rfl (cond_iff c 6) 120 (by decide) (.inr (.inr (.inr rfl))) (r2_sem _ 6 rfl _ _) 0 (mw_r2 c 6) (by rfl) ?_
  refine wt_step m K c 7 (k := 7) rfl (cond_iff c 7) 120 (by decide) (.inr (.inr (.inr rfl))) (r2_sem _ 7 rfl _ _) 0 (mw_r2 c 7) (by rfl) ?_
  refine wt_step m K c 8 (k := 8) rfl (cond_iff c 8) 120 (by decide) (.inr (.inr (.inr rfl))) (r2_sem _ 8 rfl _ _) 0 (mw_r2 c 8) (by rfl) ?_
  refine wt_step m K c 9 (k := 9) rfl (cond_iff c 9) 120 (by decide) (.inr (.inr (.inr rfl))) (r2_sem _ 9 rfl _ _) 0 (mw_r2 c 9) (by rfl) ?_
  refine wt_step m K c 10 (k := 10) rfl (cond_iff c 10) 120 (by decide) (.inr (.inr (.inr rfl))) (r2_sem _ 10 rfl _ _) 0 (mw_r2 c 10) (by rfl) ?_
  refine wt_step m K c 11 (k := 11) rfl (cond_iff c 11) 120 (by decide) (.inr (.inr (.inr rfl))) (r2_sem _ 11 rfl _ _) 0 (mw_r2 c 11) (by rfl) ?_
  refine wt_step m K c 12 (k := 12) rfl (cond_iff c 12) 120 (by decide) (.inr (.inr (.inr rfl))) (r2_sem _ 12 rfl _ _) 0 (mw_r2 c 12) (by rfl) ?_
  exact ent h (wpc_ret c _ Q)

/-- Ten more arrivals awaited. -/
theorem p40 (c : Dev nD) {R : sProp 𝕄} {Q : PUnit → sProp 𝕄} (h : iprop(ctx m K ∗ wtSt m c 120 (by decide) 0 23 ∗ R) ⊢ Q ⟨⟩) :
    iprop(ctx m K ∗ wtSt m c 120 (by decide) 0 13 ∗ R) ⊢ wpc c (k0_part40_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c)) Q := by
  unfold k0_part40_skel
  refine wt_step m K c 13 (k := 13) rfl (cond_iff c 13) 120 (by decide) (.inr (.inr (.inr rfl))) (r2_sem _ 13 rfl _ _) 0 (mw_r2 c 13) (by rfl) ?_
  refine wt_step m K c 14 (k := 14) rfl (cond_iff c 14) 120 (by decide) (.inr (.inr (.inr rfl))) (r2_sem _ 14 rfl _ _) 0 (mw_r2 c 14) (by rfl) ?_
  refine wt_step m K c 15 (k := 15) rfl (cond_iff c 15) 120 (by decide) (.inr (.inr (.inr rfl))) (r2_sem _ 15 rfl _ _) 0 (mw_r2 c 15) (by rfl) ?_
  refine wt_step m K c 16 (k := 16) rfl (cond_iff c 16) 120 (by decide) (.inr (.inr (.inr rfl))) (r2_sem _ 16 rfl _ _) 0 (mw_r2 c 16) (by rfl) ?_
  refine wt_step m K c 17 (k := 17) rfl (cond_iff c 17) 120 (by decide) (.inr (.inr (.inr rfl))) (r2_sem _ 17 rfl _ _) 0 (mw_r2 c 17) (by rfl) ?_
  refine wt_step m K c 18 (k := 18) rfl (cond_iff c 18) 120 (by decide) (.inr (.inr (.inr rfl))) (r2_sem _ 18 rfl _ _) 0 (mw_r2 c 18) (by rfl) ?_
  refine wt_step m K c 19 (k := 19) rfl (cond_iff c 19) 120 (by decide) (.inr (.inr (.inr rfl))) (r2_sem _ 19 rfl _ _) 0 (mw_r2 c 19) (by rfl) ?_
  refine wt_step m K c 20 (k := 20) rfl (cond_iff c 20) 120 (by decide) (.inr (.inr (.inr rfl))) (r2_sem _ 20 rfl _ _) 0 (mw_r2 c 20) (by rfl) ?_
  refine wt_step m K c 21 (k := 21) rfl (cond_iff c 21) 120 (by decide) (.inr (.inr (.inr rfl))) (r2_sem _ 21 rfl _ _) 0 (mw_r2 c 21) (by rfl) ?_
  refine wt_step m K c 22 (k := 22) rfl (cond_iff c 22) 120 (by decide) (.inr (.inr (.inr rfl))) (r2_sem _ 22 rfl _ _) 0 (mw_r2 c 22) (by rfl) ?_
  exact ent h (wpc_ret c _ Q)

/-- The peers' cells of a family after their round. -/
abbrev atB (c : Dev nD) (b : ℕ) (hb : b ≤ 120) (j : Fin 32) : sProp 𝕄 := atPos ER (famCell c b hb j) 1 ∅ 0

/-- The gathered rows, from the device's own slot and the arrivals. -/
theorem ag_all (c : Dev nD) : iprop(bigSep (seg c 0 32) (wtB m c 120 (by decide)) ∗ holds (slot agM c) c (redV m c))
    ⊢ iprop(agP m c ∗ bigSep (seg c 0 32) (atB (F := F) c 120 (by decide))) := by
  have e : ∀ j ∈ seg c 0 32, (wtB m c 120 (by decide) j : sProp 𝕄) = iprop(atB c 120 (by decide) j ∗ holds (slot agM j) c (redV m j)) := fun j _ => by
    unfold wtB; rw [dmaPay_r2]; rfl
  rw [bigSep_congr e, show bigSep (seg c 0 32) (fun j => iprop(atB (F := F) c 120 (by decide) j ∗ holds (slot agM j) c (redV m j)))
    = iprop(bigSep (seg c 0 32) (atB c 120 (by decide)) ∗ bigSep (seg c 0 32) (fun j => holds (slot agM j) c (redV m j))) from bigSep_sep' _ _ _]
  have hj := ag_join m c
  rw [own_split c] at hj
  iintro ⟨⟨HA, HB⟩, HG⟩
  isplitl [HB HG]
  · iapply hj
    isplitl [HG]; · iexact HG
    iexact HB
  iexact HA

/-- A load of the second landing buffer reads every device's reduced rows. -/
theorem reads_ag (c : Dev nD) : Reads c (agP m c) agM (Rect.unit (s := S512x512) ![0, 0] S512x512.size inb_S512x512_S512x512_0_0).toLoadRect (agV m) := by
  have h := reads_pts (c := c) agM (Rect.unit (s := S512x512) ![0, 0] S512x512.size inb_S512x512_S512x512_0_0).toLoadRect fullShare (agV m)
  rw [show agM.view.readAt (Elt F) (Rect.unit (s := S512x512) ![0, 0] S512x512.size inb_S512x512_S512x512_0_0).toLoadRect (agV m) = agV m from
    Memref.readAt_unit_zero (Elt F) cc0_scratch8 zz _ _] at h
  exact h

/-- The last arrivals awaited, and the gathered rows loaded and shaped as the result. -/
theorem p41 (c : Dev nD) {R : sProp 𝕄} {Q : FVec F S2x256x512 .f32 → sProp 𝕄}
    (h : iprop(ctx m K ∗ agP m c ∗ (Ow c 0 ∗ bigSep (seg c 0 32) (atB c 120 (by decide)) ∗ R)) ⊢ Q (outV m)) :
    iprop(ctx m K ∗ wtSt m c 120 (by decide) 0 23 ∗ (holds (slot agM c) c (redV m c) ∗ R)) ⊢ wpc c (k0_part41_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 (v2c c)) Q := by
  unfold k0_part41_skel
  refine wt_step m K c 23 (k := 23) rfl (cond_iff c 23) 120 (by decide) (.inr (.inr (.inr rfl))) (r2_sem _ 23 rfl _ _) 0 (mw_r2 c 23) (by rfl) ?_
  refine wt_step m K c 24 (k := 24) rfl (cond_iff c 24) 120 (by decide) (.inr (.inr (.inr rfl))) (r2_sem _ 24 rfl _ _) 0 (mw_r2 c 24) (by rfl) ?_
  refine wt_step m K c 25 (k := 25) rfl (cond_iff c 25) 120 (by decide) (.inr (.inr (.inr rfl))) (r2_sem _ 25 rfl _ _) 0 (mw_r2 c 25) (by rfl) ?_
  refine wt_step m K c 26 (k := 26) rfl (cond_iff c 26) 120 (by decide) (.inr (.inr (.inr rfl))) (r2_sem _ 26 rfl _ _) 0 (mw_r2 c 26) (by rfl) ?_
  refine wt_step m K c 27 (k := 27) rfl (cond_iff c 27) 120 (by decide) (.inr (.inr (.inr rfl))) (r2_sem _ 27 rfl _ _) 0 (mw_r2 c 27) (by rfl) ?_
  refine wt_step m K c 28 (k := 28) rfl (cond_iff c 28) 120 (by decide) (.inr (.inr (.inr rfl))) (r2_sem _ 28 rfl _ _) 0 (mw_r2 c 28) (by rfl) ?_
  refine wt_step m K c 29 (k := 29) rfl (cond_iff c 29) 120 (by decide) (.inr (.inr (.inr rfl))) (r2_sem _ 29 rfl _ _) 0 (mw_r2 c 29) (by rfl) ?_
  refine wt_step m K c 30 (k := 30) rfl (cond_iff c 30) 120 (by decide) (.inr (.inr (.inr rfl))) (r2_sem _ 30 rfl _ _) 0 (mw_r2 c 30) (by rfl) ?_
  refine wt_step m K c 31 (k := 31) rfl (cond_iff c 31) 120 (by decide) (.inr (.inr (.inr rfl))) (r2_sem _ 31 rfl _ _) 0 (mw_r2 c 31) (by rfl) ?_
  refine ent (B := iprop(ctx m K ∗ agP m c ∗ (Ow c 0 ∗ bigSep (seg c 0 32) (atB c 120 (by decide)) ∗ R))) ?_ ?_
  · iintro ⟨#HC, HW, HG, HR⟩
    isplitr; · iexact HC
    ihave H := (wt_exit m c 120 _ 0) $$ HW
    icases H with ⟨HO, HB⟩
    ihave H := (ag_all m c) $$ [HB HG]
    · isplitl [HB]; · iexact HB
      iexact HG
    icases H with ⟨H1, H2⟩
    isplitl [H1]; · iexact H1
    isplitl [HO]; · iexact HO
    isplitl [H2]; · iexact H2
    iexact HR
  refine load_one c (v := agV m) (by exact reads_ag m c) ?_
  exact ent h (wpc_ret c _ Q)

/-- The result's staging buffer at any contents, and at the result. -/
def outAny (c : Dev nD) : sProp 𝕄 := iprop(∃ f : Buf (Elt F) (outM.view.loc (c : Thread nD τ)), (outM.view.loc (c : Thread nD τ)) ↦{fullShare} f)
def outP (c : Dev nD) : sProp 𝕄 := (outM.view.loc (c : Thread nD τ)) ↦{fullShare} outV m

/-- A load of the result's buffer is allowed whatever it holds. -/
theorem dead_out (c : Dev nD) {r : LoadRect S2x256x512} : (outAny c : sProp 𝕄) ⊢ iprop(∃ (S : Finset (Idx (outM.view.loc (c : Thread nD τ)))) (q : PosShare TreeShare) (f : Buf (Elt F) (outM.view.loc (c : Thread nD τ))),
    ⌜outM.view.setOn r.set ⊆ S⌝ ∗ (outM.view.loc (c : Thread nD τ) ↦[S]{q} f) ∗ ((outM.view.loc (c : Thread nD τ) ↦[S]{q} f) -∗ outAny c)) := by
  unfold outAny
  iintro ⟨%f, H⟩
  iexists Finset.univ, fullShare, f
  isplitr; · ipureintro; exact Finset.subset_univ _
  isplitl [H]; · iexact H
  iintro H; iexists f; iexact H

/-- A store to the result's buffer leaves it holding the result. -/
theorem store_out (c : Dev nD) (w : (cc0_stg3_0 : Ref sig .tc).ty.Contents (Elt F)) (hw : w = outV m) :
    (outAny c : sProp 𝕄) ⊢ iprop(∃ (S : Finset (Idx ((outM.access (Rect.unit (s := S2x256x512) ![0, 0, 0] S2x256x512.size inb_S2x256x512_S2x256x512_0_0_0)).loc (c : Thread nD τ))))
        (f : Buf (Elt F) ((outM.access (Rect.unit (s := S2x256x512) ![0, 0, 0] S2x256x512.size inb_S2x256x512_S2x256x512_0_0_0)).loc (c : Thread nD τ))),
      ⌜(outM.access (Rect.unit (s := S2x256x512) ![0, 0, 0] S2x256x512.size inb_S2x256x512_S2x256x512_0_0_0)).set ⊆ S⌝
        ∗ ((outM.access (Rect.unit (s := S2x256x512) ![0, 0, 0] S2x256x512.size inb_S2x256x512_S2x256x512_0_0_0)).loc (c : Thread nD τ) ↦[S]{fullShare} f)
        ∗ (((outM.access (Rect.unit (s := S2x256x512) ![0, 0, 0] S2x256x512.size inb_S2x256x512_S2x256x512_0_0_0)).loc (c : Thread nD τ) ↦[S]{fullShare}
            ((outM.access (Rect.unit (s := S2x256x512) ![0, 0, 0] S2x256x512.size inb_S2x256x512_S2x256x512_0_0_0)).write (Elt F) f w Finset.univ)) -∗ outP m c)) := by
  subst hw
  unfold outAny outP
  iintro ⟨%f, H⟩
  iexists Finset.univ, f
  isplitr; · ipureintro; exact Finset.subset_univ _
  isplitl [H]; · iexact H
  rw [show (outM.access (Rect.unit (s := S2x256x512) ![0, 0, 0] S2x256x512.size inb_S2x256x512_S2x256x512_0_0_0)).write (Elt F) f (outV m) Finset.univ = outV m from
    Memref.write_access_unit_zero_univ (Elt F) cc0_stg3_0 z3 _ f (outV m)]
  iintro H; iexact H

/-- The result stored, and the first sends awaited. -/
theorem p42 (c : Dev nD) {R : sProp 𝕄} {Q : BitVec 1 → sProp 𝕄}
    (h : ∀ v, iprop(ctx m K ∗ wtSt m c 88 (by decide) 0 9 ∗ (outP m c ∗ R)) ⊢ Q v) :
    iprop(ctx m K ∗ outAny c ∗ ((Ow c 0 ∗ bigSep (seg c 0 32) (wtA c 88 (by decide))) ∗ R)) ⊢ wpc c (k0_part42_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c) (outV m)) Q := by
  unfold k0_part42_skel
  refine load_dead c (by exact dead_out c) (fun _ => ?_)
  refine store_one c (by exact store_out m c _ rfl) ?_
  refine ent (B := iprop(ctx m K ∗ wtSt m c 88 (by decide) 0 0 ∗ (outP m c ∗ R))) ?_ ?_
  · iintro ⟨#HC, HP, HA, HR⟩
    isplitr; · iexact HC
    isplitl [HA]; · iapply (wt_enter m c 88 _ 0); iexact HA
    isplitl [HP]; · iexact HP
    iexact HR
  refine wt_step m K c 0 (k := 0) rfl (cond_iff c 0) 88 (by decide) (.inr (.inr (.inl rfl))) (s2_sem _ 0 rfl _ _) 0 (mw_s2 c 0) (by rfl) ?_
  refine wt_step m K c 1 (k := 1) rfl (cond_iff c 1) 88 (by decide) (.inr (.inr (.inl rfl))) (s2_sem _ 1 rfl _ _) 0 (mw_s2 c 1) (by rfl) ?_
  refine wt_step m K c 2 (k := 2) rfl (cond_iff c 2) 88 (by decide) (.inr (.inr (.inl rfl))) (s2_sem _ 2 rfl _ _) 0 (mw_s2 c 2) (by rfl) ?_
  refine wt_step m K c 3 (k := 3) rfl (cond_iff c 3) 88 (by decide) (.inr (.inr (.inl rfl))) (s2_sem _ 3 rfl _ _) 0 (mw_s2 c 3) (by rfl) ?_
  refine wt_step m K c 4 (k := 4) rfl (cond_iff c 4) 88 (by decide) (.inr (.inr (.inl rfl))) (s2_sem _ 4 rfl _ _) 0 (mw_s2 c 4) (by rfl) ?_
  refine wt_step m K c 5 (k := 5) rfl (cond_iff c 5) 88 (by decide) (.inr (.inr (.inl rfl))) (s2_sem _ 5 rfl _ _) 0 (mw_s2 c 5) (by rfl) ?_
  refine wt_step m K c 6 (k := 6) rfl (cond_iff c 6) 88 (by decide) (.inr (.inr (.inl rfl))) (s2_sem _ 6 rfl _ _) 0 (mw_s2 c 6) (by rfl) ?_
  refine wt_step m K c 7 (k := 7) rfl (cond_iff c 7) 88 (by decide) (.inr (.inr (.inl rfl))) (s2_sem _ 7 rfl _ _) 0 (mw_s2 c 7) (by rfl) ?_
  refine wt_step m K c 8 (k := 8) rfl (cond_iff c 8) 88 (by decide) (.inr (.inr (.inl rfl))) (s2_sem _ 8 rfl _ _) 0 (mw_s2 c 8) (by rfl) ?_
  exact ent (h _) (wpc_ret c _ Q)

/-- Ten more sends awaited. -/
theorem p43 (c : Dev nD) {v : BitVec 1} {R : sProp 𝕄} {Q : BitVec 1 → sProp 𝕄} (h : ∀ v, iprop(ctx m K ∗ wtSt m c 88 (by decide) 0 19 ∗ R) ⊢ Q v) :
    iprop(ctx m K ∗ wtSt m c 88 (by decide) 0 9 ∗ R) ⊢ wpc c (k0_part43_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c) v) Q := by
  unfold k0_part43_skel
  refine wt_step m K c 9 (k := 9) rfl (cond_iff c 9) 88 (by decide) (.inr (.inr (.inl rfl))) (s2_sem _ 9 rfl _ _) 0 (mw_s2 c 9) (by rfl) ?_
  refine wt_step m K c 10 (k := 10) rfl (cond_iff c 10) 88 (by decide) (.inr (.inr (.inl rfl))) (s2_sem _ 10 rfl _ _) 0 (mw_s2 c 10) (by rfl) ?_
  refine wt_step m K c 11 (k := 11) rfl (cond_iff c 11) 88 (by decide) (.inr (.inr (.inl rfl))) (s2_sem _ 11 rfl _ _) 0 (mw_s2 c 11) (by rfl) ?_
  refine wt_step m K c 12 (k := 12) rfl (cond_iff c 12) 88 (by decide) (.inr (.inr (.inl rfl))) (s2_sem _ 12 rfl _ _) 0 (mw_s2 c 12) (by rfl) ?_
  refine wt_step m K c 13 (k := 13) rfl (cond_iff c 13) 88 (by decide) (.inr (.inr (.inl rfl))) (s2_sem _ 13 rfl _ _) 0 (mw_s2 c 13) (by rfl) ?_
  refine wt_step m K c 14 (k := 14) rfl (cond_iff c 14) 88 (by decide) (.inr (.inr (.inl rfl))) (s2_sem _ 14 rfl _ _) 0 (mw_s2 c 14) (by rfl) ?_
  refine wt_step m K c 15 (k := 15) rfl (cond_iff c 15) 88 (by decide) (.inr (.inr (.inl rfl))) (s2_sem _ 15 rfl _ _) 0 (mw_s2 c 15) (by rfl) ?_
  refine wt_step m K c 16 (k := 16) rfl (cond_iff c 16) 88 (by decide) (.inr (.inr (.inl rfl))) (s2_sem _ 16 rfl _ _) 0 (mw_s2 c 16) (by rfl) ?_
  refine wt_step m K c 17 (k := 17) rfl (cond_iff c 17) 88 (by decide) (.inr (.inr (.inl rfl))) (s2_sem _ 17 rfl _ _) 0 (mw_s2 c 17) (by rfl) ?_
  refine wt_step m K c 18 (k := 18) rfl (cond_iff c 18) 88 (by decide) (.inr (.inr (.inl rfl))) (s2_sem _ 18 rfl _ _) 0 (mw_s2 c 18) (by rfl) ?_
  exact ent (h _) (wpc_ret c _ Q)

/-- Ten more sends awaited. -/
theorem p44 (c : Dev nD) {v : BitVec 1} {R : sProp 𝕄} {Q : BitVec 1 → sProp 𝕄} (h : ∀ v, iprop(ctx m K ∗ wtSt m c 88 (by decide) 0 29 ∗ R) ⊢ Q v) :
    iprop(ctx m K ∗ wtSt m c 88 (by decide) 0 19 ∗ R) ⊢ wpc c (k0_part44_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14 c (v2c c) v) Q := by
  unfold k0_part44_skel
  refine wt_step m K c 19 (k := 19) rfl (cond_iff c 19) 88 (by decide) (.inr (.inr (.inl rfl))) (s2_sem _ 19 rfl _ _) 0 (mw_s2 c 19) (by rfl) ?_
  refine wt_step m K c 20 (k := 20) rfl (cond_iff c 20) 88 (by decide) (.inr (.inr (.inl rfl))) (s2_sem _ 20 rfl _ _) 0 (mw_s2 c 20) (by rfl) ?_
  refine wt_step m K c 21 (k := 21) rfl (cond_iff c 21) 88 (by decide) (.inr (.inr (.inl rfl))) (s2_sem _ 21 rfl _ _) 0 (mw_s2 c 21) (by rfl) ?_
  refine wt_step m K c 22 (k := 22) rfl (cond_iff c 22) 88 (by decide) (.inr (.inr (.inl rfl))) (s2_sem _ 22 rfl _ _) 0 (mw_s2 c 22) (by rfl) ?_
  refine wt_step m K c 23 (k := 23) rfl (cond_iff c 23) 88 (by decide) (.inr (.inr (.inl rfl))) (s2_sem _ 23 rfl _ _) 0 (mw_s2 c 23) (by rfl) ?_
  refine wt_step m K c 24 (k := 24) rfl (cond_iff c 24) 88 (by decide) (.inr (.inr (.inl rfl))) (s2_sem _ 24 rfl _ _) 0 (mw_s2 c 24) (by rfl) ?_
  refine wt_step m K c 25 (k := 25) rfl (cond_iff c 25) 88 (by decide) (.inr (.inr (.inl rfl))) (s2_sem _ 25 rfl _ _) 0 (mw_s2 c 25) (by rfl) ?_
  refine wt_step m K c 26 (k := 26) rfl (cond_iff c 26) 88 (by decide) (.inr (.inr (.inl rfl))) (s2_sem _ 26 rfl _ _) 0 (mw_s2 c 26) (by rfl) ?_
  refine wt_step m K c 27 (k := 27) rfl (cond_iff c 27) 88 (by decide) (.inr (.inr (.inl rfl))) (s2_sem _ 27 rfl _ _) 0 (mw_s2 c 27) (by rfl) ?_
  refine wt_step m K c 28 (k := 28) rfl (cond_iff c 28) 88 (by decide) (.inr (.inr (.inl rfl))) (s2_sem _ 28 rfl _ _) 0 (mw_s2 c 28) (by rfl) ?_
  exact ent (h _) (wpc_ret c _ Q)

end PartsD

end Cert.Attn
-- ==== Proof.Body.lean ====
/-
# The body on one device: from what it is given to what it leaves
-/
module

public import proofs.«01_k».proof.Proof.PartsD

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (m : (ℓ : Loc nD τ sig) → Buf (Elt F) ℓ) (K : Dev nD × Fin 149 → ℕ)

/-- Resources that turn `P` into `D`, given `P`, yield `D`. -/
theorem wapp {G P D : sProp 𝕄} : iprop(G ∗ P ∗ (P -∗ D)) ⊢ D := by
  iintro ⟨-, HP, HD⟩
  iapply HD; iexact HP
/-- The same from two resources. -/
theorem wapp2 {G A B D : sProp 𝕄} : iprop(G ∗ A ∗ B ∗ (A -∗ B -∗ D)) ⊢ D := by
  iintro ⟨-, HA, HB, HD⟩
  iapply HD $$ HA HB
/-- The same from three resources. -/
theorem wapp3 {G A B C D : sProp 𝕄} : iprop(G ∗ A ∗ B ∗ C ∗ (A -∗ B -∗ C -∗ D)) ⊢ D := by
  iintro ⟨-, HA, HB, HC, HD⟩
  iapply HD $$ HA HB HC
/-- The same from four resources. -/
theorem wapp4 {G A B C E D : sProp 𝕄} : iprop(G ∗ A ∗ B ∗ C ∗ E ∗ (A -∗ B -∗ C -∗ E -∗ D)) ⊢ D := by
  iintro ⟨-, HA, HB, HC, HE, HD⟩
  iapply HD $$ HA HB HC HE
/-- The same from three resources, the first two already grouped. -/
theorem wapp14 {G A B C D : sProp 𝕄} : iprop(iprop(G ∗ A ∗ B) ∗ C ∗ (A -∗ B -∗ C -∗ D)) ⊢ D := by
  iintro ⟨⟨-, HA, HB⟩, HC, HD⟩
  iapply HD $$ HA HB HC
/-- From one resource, a result promised for every value holds at a given one. -/
theorem wappA {α : Type} {G A : sProp 𝕄} {D : α → sProp 𝕄} (v : α) : iprop(G ∗ A ∗ (A -∗ ∀ v, D v)) ⊢ D v := by
  iintro ⟨-, HA, HD⟩
  iapply HD $$ HA
/-- From two resources, a result promised for every value holds at a given one. -/
theorem wappA2 {α : Type} {G A B : sProp 𝕄} {D : α → sProp 𝕄} (v : α) : iprop(G ∗ A ∗ B ∗ (A -∗ B -∗ ∀ v, D v)) ⊢ D v := by
  iintro ⟨-, HA, HB, HD⟩
  iapply HD $$ HA HB
/-- A program then its continuation is proved by the program with the continuation as its postcondition. -/
theorem bnd (c : Dev nD) {α β : Type} {p : Pg F α} {f : α → Pg F β} {Q : β → sProp 𝕄} :
    wpc c p (fun a => wpc c (f a) Q) ⊢ wpc c (p >>= f) Q := by rw [wpc_bind]

/-! ## What the body is given -/

/-- Positions of the slab cells; the tokens of the two exchanges; positions of a family of cells. -/
abbrev kvAt (c : Dev nD) (i : Fin 4) : sProp 𝕄 := atPos ER (dcell c (4 + i.val) (by omega)) 0 ∅ 0
abbrev tok1 (c : Dev nD) (j : Fin 32) : sProp 𝕄 := iprop(dutyTok ER (s1Cell c j) 0 0 ∗ dutyTok ER (r1Cell j c) 0 0)
abbrev tok2 (c : Dev nD) (j : Fin 32) : sProp 𝕄 := iprop(dutyTok ER (s2Cell c j) 0 0 ∗ dutyTok ER (r2Cell j c) 0 0)
abbrev at0 (c : Dev nD) (b : ℕ) (hb : b ≤ 120) (j : Fin 32) : sProp 𝕄 := atPos ER (famCell c b hb j) 0 ∅ 0

/-- The copies inside the device: tokens, buffers and positions. -/
abbrev inLocal (c : Dev nD) : sProp 𝕄 :=
  iprop(bigSep Finset.univ (kvD m c) ∗ bigSep Finset.univ (kvAt c) ∗ bigSep Finset.univ (trE c) ∗ bigSep Finset.univ (trAt c))
/-- The barrier: what the peers are signalled with, the credit and the position. -/
abbrev inBar (c : Dev nD) : sProp 𝕄 :=
  iprop(bigSep (seg c 0 32) (sigA c) ∗ (cred (tallyAt (barCell c) () 31) ∗ atPos ER (barCell c) 0 ∅ 0))
/-- The staged operands and the scratch the body works in. -/
abbrev inBufs (c : Dev nD) : sProp 𝕄 :=
  iprop((xP m c ∗ wqP m c ∗ woP m c ∗ outAny c)
    ∗ (anyOf (half pM 0) c ∗ anyOf (half pM 1) c ∗ anyOf (half pbM 0) c ∗ anyOf (half pbM 1) c)
    ∗ (anyOf (slot rsM c) c ∗ anyOf (slot agM c) c ∗ anyOf redS c))
/-- The exchanges' tokens, positions and credits. -/
abbrev inEx (c : Dev nD) : sProp 𝕄 :=
  iprop((bigSep (seg c 0 32) (tok1 c) ∗ bigSep (seg c 0 32) (at0 c 24 (by decide)) ∗ bigSep (seg c 0 32) (wtA c 56 (by decide)))
    ∗ (bigSep (seg c 0 32) (tok2 c) ∗ bigSep (seg c 0 32) (at0 c 88 (by decide)) ∗ bigSep (seg c 0 32) (wtA c 120 (by decide))))
/-- What the body is given. -/
def bodyIn (c : Dev nD) : sProp 𝕄 := iprop(Ow c (sigO c 0) ∗ inLocal m c ∗ inBar c ∗ inBufs m c ∗ inEx c)

/-- What the body leaves. -/
def bodyOut (c : Dev nD) : sProp 𝕄 :=
  iprop(Ow c 0 ∗ (bigSep Finset.univ (kvR m c) ∗ bigSep Finset.univ (trX m c) ∗ atPos ER (barCell c) 1 ∅ 0)
    ∗ (xP m c ∗ wqP m c ∗ woP m c ∗ outP m c)
    ∗ (anyOf (half pM 0) c ∗ anyOf (half pM 1) c ∗ bigSep (seg c 0 32) (wtB m c 24 (by decide)) ∗ holds (slot pbM c) c (pbRow m c c))
    ∗ (rsAll m c ∗ redRest m c ∗ bigSep (seg c 0 32) (wtB m c 88 (by decide)) ∗ agP m c ∗ bigSep (seg c 0 32) (atB c 120 (by decide))))

/-- The slab cells' credits with their positions, from `a` up to `b`. -/
theorem kv_at (c : Dev nD) (a b : ℕ) : iprop(bigSep (rng a b) (kvC (F := F) c) ∗ bigSep (rng a b) (kvAt c)) ⊢ bigSep (rng a b) (kvW c) := by
  rw [show bigSep (rng a b) (kvW (F := F) c) = iprop(bigSep (rng a b) (kvC c) ∗ bigSep (rng a b) (kvAt c)) from bigSep_sep' _ _ _]
/-- A range in two. -/
theorem rng_cut {N : ℕ} (Φ : Fin N → sProp 𝕄) (a b e : ℕ) (h : a ≤ b) (h' : b ≤ e) :
    bigSep (rng a e) Φ = iprop(bigSep (rng a b) Φ ∗ bigSep (rng b e) Φ) := by
  rw [rng_union h h']; exact bigSep_union rng_disj
/-- A family over a range of peers splits at any place inside the range. -/
theorem seg_cut (c : Dev nD) (Φ : Fin 32 → sProp 𝕄) (a b e : ℕ) (h : a ≤ b) (h' : b ≤ e) :
    bigSep (seg c a e) Φ = iprop(bigSep (seg c a b) Φ ∗ bigSep (seg c b e) Φ) := by
  rw [seg_split c a b e h h']; exact bigSep_union (seg_disjoint c a b e)
/-- The peers' landing slots with the exchanges' tokens. -/
theorem snd_all (c : Dev nD) : iprop(bigSep (seg c 0 32) (fun d => barPay (F := F) c d) ∗ bigSep (seg c 0 32) (tok1 c) ∗ bigSep (seg c 0 32) (tok2 c))
    ⊢ iprop(bigSep (seg c 0 16) (sndD c) ∗ bigSep (seg c 16 32) (sndD c) ∗ bigSep (seg c 0 32) (agD c)) := by
  have h1 : bigSep (seg c 0 32) (fun d => barPay (F := F) c d) = iprop(bigSep (seg c 0 32) (fun d => anyOf (F := F) (slot rsM c) d) ∗ bigSep (seg c 0 32) (fun d => anyOf (slot agM c) d)) := bigSep_sep' _ _ _
  have h2 : bigSep (seg c 0 32) (sndD (F := F) c) = iprop(bigSep (seg c 0 32) (fun d => anyOf (slot rsM c) d) ∗ bigSep (seg c 0 32) (tok1 c)) := bigSep_sep' _ _ _
  have h3 : bigSep (seg c 0 32) (agD (F := F) c) = iprop(bigSep (seg c 0 32) (fun d => anyOf (slot agM c) d) ∗ bigSep (seg c 0 32) (tok2 c)) := bigSep_sep' _ _ _
  have h4 := seg_cut c (sndD (F := F) c) 0 16 32 (by decide) (by decide)
  rw [h2] at h4
  rw [h1, h3]
  iintro ⟨⟨Ha, Hb⟩, Hc, Hd⟩
  ihave H := (show iprop(bigSep (seg c 0 32) (fun d => anyOf (F := F) (slot rsM c) d) ∗ bigSep (seg c 0 32) (tok1 c)) ⊢ iprop(bigSep (seg c 0 16) (sndD c) ∗ bigSep (seg c 16 32) (sndD c)) by rw [h4]) $$ [Ha Hc]
  · isplitl [Ha]; · iexact Ha
    iexact Hc
  icases H with ⟨H1, H2⟩
  isplitl [H1]; · iexact H1
  isplitl [H2]; · iexact H2
  isplitl [Hb]; · iexact Hb
  iexact Hd
/-- The device's own rows, from whichever half they lie in. -/
theorem own_rows (c : Dev nD) : iprop(pbOwn m c 0 16 ∗ pbOwn m c 16 32) ⊢ (holds (slot pbM c) c (pbRow m c c) : sProp 𝕄) := by
  unfold pbOwn
  have hd : Disjoint ((rng 0 16 : Finset (Fin 32)).filter (fun j => j = c)) ((rng 16 32 : Finset (Fin 32)).filter (fun j => j = c)) :=
    Finset.disjoint_of_subset_left (Finset.filter_subset _ _) (Finset.disjoint_of_subset_right (Finset.filter_subset _ _) rng_disj)
  rw [show iprop(bigSep ((rng 0 16 : Finset (Fin 32)).filter (fun j => j = c)) (fun j => holds (slot pbM j) c (pbRow m c j)) ∗ bigSep ((rng 16 32 : Finset (Fin 32)).filter (fun j => j = c)) (fun j => holds (slot pbM j) c (pbRow m c j)))
    = bigSep (((rng 0 16 : Finset (Fin 32)).filter (fun j => j = c)) ∪ ((rng 16 32 : Finset (Fin 32)).filter (fun j => j = c))) (fun j => holds (slot pbM j) c (pbRow m c j)) from (bigSep_union (Φ := fun j => (holds (slot pbM j) c (pbRow m c j) : sProp 𝕄)) hd).symm,
    ← Finset.filter_union, ← rng_union (by decide) (by decide), rng_full]
  have hm : c ∈ (Finset.univ : Finset (Fin 32)).filter (fun j => j = c) := Finset.mem_filter.mpr ⟨Finset.mem_univ _, rfl⟩
  exact bigSep_elim hm
/-- A family's credits with its positions. -/
theorem fam_at (c : Dev nD) (b : ℕ) (hb : b ≤ 120) :
    iprop(bigSep (seg c 0 32) (fun j => (cred (tallyAt (famCell c b hb j) () Nx) : sProp 𝕄)) ∗ bigSep (seg c 0 32) (at0 c b hb)) ⊢ bigSep (seg c 0 32) (wtA c b hb) := by
  rw [show bigSep (seg c 0 32) (wtA (F := F) c b hb) = iprop(bigSep (seg c 0 32) (fun j => cred (tallyAt (famCell c b hb j) () Nx)) ∗ bigSep (seg c 0 32) (at0 c b hb)) from bigSep_sep' _ _ _]

end Body

end Cert.Attn
-- ==== Proof.Main.lean ====
/-
# The body's triple
-/
module

public import proofs.«01_k».proof.Proof.Body

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Main
variable (m : (ℓ : Loc nD τ sig) → Buf (Elt F) ℓ) (K : Dev nD × Fin 149 → ℕ)

/-- Nothing of a list of copies started yet. -/
theorem lst_enter {N : ℕ} (c : Dev nD) (O : CellTallies nD τ sig Unit) (A B : Fin N → sProp 𝕄) (s e : ℕ) :
    iprop(Ow c O ∗ bigSep (rng s e) A) ⊢ lst c O A B s s e := by
  unfold lst
  rw [rng_empty, bigSep_empty]
  iintro ⟨HO, HA⟩
  isplitl [HO]; · iexact HO
  isplitl [HA]; · iexact HA
  iempintro
/-- After the last remote copy of the first exchange only the second exchange's signals are owed. -/
theorem sndO_end (c : Dev nD) : sndO c 32 = ow2 c 0 := by
  unfold sndO
  rw [show ow1 c 32 = 0 from ow_last (fun j => r1Cell j c) Nx, add_zero]
/-- The head copies of a batch done, with the output projection. -/
theorem wt_in (c : Dev nD) (k s : ℕ) : iprop(woP m c ∗ lst c (sndO c k) (trW c) (trX m c) s (s+8) (s+8)) ⊢ WT m c k s := by
  unfold WT; exact .rfl

set_option maxHeartbeats 4000000 in
/-- The body on device `c`: from `bodyIn` it runs to `bodyOut`. -/
theorem body_main (c : Dev nD) : iprop(ctx m K ∗ bodyIn m c) ⊢ wpc c (k0_part45 xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) (fun _ => bodyOut m c) := by
  unfold k0_part45
  simp (config := { zeta := false }) only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold bodyIn inLocal inBar inBufs inEx
  rw [← rng_full (N := 4), ← rng_full (N := 16), rng_cut (trE c) 0 8 16 (by decide) (by decide), rng_cut (trAt c) 0 8 16 (by decide) (by decide)]
  iintro ⟨#HC, HO, ⟨Hkd, Hka, ⟨Htr0, Htr1⟩, Hta0, Hta1⟩, ⟨Hsig, Hbar⟩, ⟨⟨Hx, Hwq, Hwo, Hout⟩, ⟨Hp0, Hp1, Hpb0, Hpb1⟩, ⟨Hrs, Hag, Hred⟩⟩, ⟨Ht1, Ha24, Hw56⟩, Ht2, Ha88, Hw120⟩
  ihave HL := (lst_enter c (sigO c 0) (kvD m c) (kvC c) 0 4) $$ [HO Hkd]
  · isplitl [HO]; · iexact HO
    iexact Hkd
  iapply (bnd c)
  iapply (p1 m K c _ wapp)
  isplitr; · iexact HC
  isplitl [HL]; · iexact HL
  iintro HL
  iapply (bnd c)
  iapply (p2 m K c wapp2)
  isplitr; · iexact HC
  isplitl [HL]; · iexact HL
  isplitl [Hsig]; · iexact Hsig
  iintro HL Hkc
  iapply (bnd c)
  iapply (p3 m K c wapp)
  isplitr; · iexact HC
  isplitl [HL]; · iexact HL
  iintro HL
  iapply (bnd c)
  iapply (p4 m K c wapp)
  isplitr; · iexact HC
  isplitl [HL]; · iexact HL
  iintro HL
  iapply (bnd c)
  iapply (p5 m K c wapp4)
  isplitr; · iexact HC
  isplitl [HL]; · iexact HL
  isplitl [Hbar]; · iexact Hbar
  isplitl [Hx]; · iexact Hx
  isplitl [Hwq]; · iexact Hwq
  iintro HO Hb Hx Hwq
  icases Hb with ⟨Hbar, Hpay⟩
  ihave Hs := (snd_all c) $$ [Hpay Ht1 Ht2]
  · isplitl [Hpay]; · iexact Hpay
    isplitl [Ht1]; · iexact Ht1
    iexact Ht2
  icases Hs with ⟨Hs0, Hs1, Hs2⟩
  ihave Hk := (kv_at c 0 4) $$ [Hkc Hka]
  · isplitl [Hkc]; · iexact Hkc
    iexact Hka
  iapply (bnd c)
  iapply (p6 c .rfl)
  ihave HL := (lst_enter c (sndO c 0) (kvW c) (kvX m c) 0 4) $$ [HO Hk]
  · isplitl [HO]; · iexact HO
    iexact Hk
  iapply (bnd c)
  iapply (p7 m K c wapp)
  isplitr; · iexact HC
  isplitl [HL]; · iexact HL
  iintro HL
  unfold lst
  icases HL with ⟨HO, Hk, Hkx⟩
  ihave Hq := (kv_tr m c 0) $$ [Hkx Htr0]
  · isplitl [Hkx]; · iexact Hkx
    iexact Htr0
  icases Hq with ⟨Hd, Hkr0⟩
  ihave HL := (lst_enter c (sndO c 0) (trD m c) (trC c) 0 8) $$ [HO Hd]
  · isplitl [HO]; · iexact HO
    iexact Hd
  iapply (bnd c)
  iapply (p8 m K c wapp)
  isplitr; · iexact HC
  isplitl [HL]; · iexact HL
  iintro HL
  iapply (bnd c)
  iapply (p9 m K c wapp)
  isplitr; · iexact HC
  isplitl [HL]; · iexact HL
  iintro HL
  ihave HL := (tr_turn m c (sndO c 0) 0 8) $$ [HL Hta0]
  · isplitl [HL]; · iexact HL
    iexact Hta0
  iapply (bnd c)
  iapply (p10 m K c wapp)
  isplitr; · iexact HC
  isplitl [HL]; · iexact HL
  iintro HL
  iapply (bnd c)
  iapply (p11 m K c wapp)
  isplitr; · iexact HC
  isplitl [HL]; · iexact HL
  iintro HL
  ihave HL := (wt_in m c 0 0) $$ [Hwo HL]
  · isplitl [Hwo]; · iexact Hwo
    iexact HL
  iapply (bnd c)
  iapply (p12 m K c wapp)
  isplitr; · iexact HC
  isplitl [HL]; · iexact HL
  iintro HL
  iapply (bnd c)
  iapply (p13 m K c wapp)
  isplitr; · iexact HC
  isplitl [HL]; · iexact HL
  iintro HL
  iapply (bnd c)
  iapply (p14 m K c wapp14)
  isplitr; · iexact HC
  isplitl [HL]; · iexact HL
  isplitl [Hp0]; · iexact Hp0
  isplitl [Hpb0]; · iexact Hpb0
  iintro HL Hp0 Hpb0
  unfold WT lst
  icases HL with ⟨Hwo, HO, -, Htx0⟩
  iapply (bnd c)
  iapply (p15 m K c wappA2)
  isplitr; · iexact HC
  isplitl [Hpb0]; · iexact Hpb0
  isplitl [HO Hs0]
  · isplitl [HO]; · iexact HO
    iexact Hs0
  iintro HL Hown0 %_
  iapply (bnd c)
  iapply (p16 m K c wapp2)
  isplitr; · iexact HC
  isplitl [HL]; · iexact HL
  isplitl [Hk]; · iexact Hk
  iintro HL Hsb0
  iapply (bnd c)
  iapply (p17 m K c wapp2)
  isplitr; · iexact HC
  isplitl [HL]; · iexact HL
  isplitl [Htr1]; · iexact Htr1
  iintro HL Hkr1
  iapply (bnd c)
  iapply (p18 m K c wapp)
  isplitr; · iexact HC
  isplitl [HL]; · iexact HL
  iintro HL
  iapply (bnd c)
  iapply (p19 m K c wapp)
  isplitr; · iexact HC
  isplitl [HL]; · iexact HL
  isplitl [Hta1]; · iexact Hta1
  iintro HL
  iapply (bnd c)
  iapply (p20 m K c wapp)
  isplitr; · iexact HC
  isplitl [HL]; · iexact HL
  iintro HL
  iapply (bnd c)
  iapply (p21 m K c wapp)
  isplitr; · iexact HC
  isplitl [HL]; · iexact HL
  isplitl [Hwo]; · iexact Hwo
  iintro HL
  iapply (bnd c)
  iapply (p22 m K c wapp)
  isplitr; · iexact HC
  isplitl [HL]; · iexact HL
  iintro HL
  iapply (bnd c)
  iapply (p23 m K c wapp)
  isplitr; · iexact HC
  isplitl [HL]; · iexact HL
  iintro HL
  iapply (bnd c)
  iapply (p24 m K c wappA2)
  isplitr; · iexact HC
  isplitl [HL]; · iexact HL
  isplitl [Hp1]; · iexact Hp1
  isplitl [Hpb1]; · iexact Hpb1
  isplitl [Hs1]; · iexact Hs1
  iintro HL Haf %_
  iapply (bnd c)
  iapply (p25 m K c wapp)
  isplitr; · iexact HC
  isplitl [HL]; · iexact HL
  iintro HL
  unfold after24 sndSt st
  icases Haf with ⟨Hwo, Htx1, Hp1, Hown1⟩
  icases HL with ⟨HO, -, Hsb1⟩
  rw [sndO_end]
  ihave Hpb := (own_rows m c) $$ [Hown0 Hown1]
  · isplitl [Hown0]; · iexact Hown0
    iexact Hown1
  ihave Hsb := ((show iprop(bigSep (seg c 0 16) (sndB c) ∗ bigSep (seg c 16 32) (sndB c)) ⊢ bigSep (seg c 0 32) (sndB (F := F) c) by rw [seg_cut c (sndB (F := F) c) 0 16 32 (by decide) (by decide)])) $$ [Hsb0 Hsb1]
  · isplitl [Hsb0]; · iexact Hsb0
    iexact Hsb1
  ihave Hw24 := (fam_at c 24 (by decide)) $$ [Hsb Ha24]
  · isplitl [Hsb]; · iexact Hsb
    iexact Ha24
  iapply (bnd c)
  iapply (p26 m K c wapp3)
  isplitr; · iexact HC
  isplitl [Hpb]; · iexact Hpb
  isplitl [Hrs]; · iexact Hrs
  isplitl [HO Hw56]
  · isplitl [HO]; · iexact HO
    iexact Hw56
  iintro HL Hpb Hrs
  iapply (bnd c)
  iapply (p27 m K c wapp)
  isplitr; · iexact HC
  isplitl [HL]; · iexact HL
  iintro HL
  iapply (bnd c)
  iapply (p28 m K c wapp)
  isplitr; · iexact HC
  isplitl [HL]; · iexact HL
  iintro HL
  iapply (bnd c)
  iapply (p29 m K c wapp2)
  isplitr; · iexact HC
  isplitl [HL]; · iexact HL
  isplitl [Hw24]; · iexact Hw24
  iintro HL Hb56
  iapply (bnd c)
  iapply (p30 m K c wapp)
  isplitr; · iexact HC
  isplitl [HL]; · iexact HL
  iintro HL
  iapply (bnd c)
  iapply (p31 m K c wapp)
  isplitr; · iexact HC
  isplitl [HL]; · iexact HL
  iintro HL
  ihave Hrs := ((show iprop(bigSep (seg c 0 32) (wtB m c 56 (by decide)) ∗ holds (slot rsM c) c (rsRow m c c)) ⊢ rsAll m c by unfold rsAll; exact .rfl)) $$ [Hb56 Hrs]
  · isplitl [Hb56]; · iexact Hb56
    iexact Hrs
  iapply (bnd c)
  iapply (p32 m K c wapp3)
  isplitr; · iexact HC
  isplitl [HL]; · iexact HL
  isplitl [Hrs]; · iexact Hrs
  iintro Hrs HO Hb24
  iapply (bnd c)
  iapply (p33 m K c wapp)
  isplitr; · iexact HC
  isplitl [Hrs]; · iexact Hrs
  iintro Hrs
  iapply (bnd c)
  iapply (p34 m K c wapp)
  isplitr; · iexact HC
  isplitl [Hrs]; · iexact Hrs
  iintro Hrs
  iapply (bnd c)
  iapply (p35 m K c wapp4)
  isplitr; · iexact HC
  isplitl [Hrs]; · iexact Hrs
  isplitl [Hred]; · iexact Hred
  isplitl [Hag]; · iexact Hag
  isplitl [HO Hs2]
  · isplitl [HO]; · iexact HO
    iexact Hs2
  iintro HL Hrs Hred Hag
  iapply (bnd c)
  iapply (p36 m K c wapp)
  isplitr; · iexact HC
  isplitl [HL]; · iexact HL
  iintro HL
  iapply (bnd c)
  iapply (p37 m K c wapp)
  isplitr; · iexact HC
  isplitl [HL]; · iexact HL
  iintro HL
  iapply (bnd c)
  iapply (p38 m K c wapp2)
  isplitr; · iexact HC
  isplitl [HL]; · iexact HL
  isplitl [Hw120]; · iexact Hw120
  iintro HL Hsb
  ihave Hw88 := (fam_at c 88 (by decide)) $$ [Hsb Ha88]
  · isplitl [Hsb]; · iexact Hsb
    iexact Ha88
  iapply (bnd c)
  iapply (p39 m K c wapp)
  isplitr; · iexact HC
  isplitl [HL]; · iexact HL
  iintro HL
  iapply (bnd c)
  iapply (p40 m K c wapp)
  isplitr; · iexact HC
  isplitl [HL]; · iexact HL
  iintro HL
  iapply (bnd c)
  iapply (p41 m K c wapp3)
  isplitr; · iexact HC
  isplitl [HL]; · iexact HL
  isplitl [Hag]; · iexact Hag
  iintro Hag HO Hb120
  iapply (bnd c)
  iapply (p42 m K c wappA2)
  isplitr; · iexact HC
  isplitl [Hout]; · iexact Hout
  isplitl [HO Hw88]
  · isplitl [HO]; · iexact HO
    iexact Hw88
  iintro HL Hout %_
  iapply (bnd c)
  iapply (p43 m K c wappA)
  isplitr; · iexact HC
  isplitl [HL]; · iexact HL
  iintro HL %_
  iapply (bnd c)
  iapply (p44 m K c wappA)
  isplitr; · iexact HC
  isplitl [HL]; · iexact HL
  iintro HL %_
  iapply (wt_step m K c 29 (k := 29) rfl (cond_iff c 29) 88 (by decide) (.inr (.inr (.inl rfl))) (s2_sem _ 29 rfl _ _) 0 (mw_s2 c 29) (by rfl) (wt_step m K c 30 (k := 30) rfl (cond_iff c 30) 88 (by decide) (.inr (.inr (.inl rfl))) (s2_sem _ 30 rfl _ _) 0 (mw_s2 c 30) (by rfl) (wt_step m K c 31 (k := 31) rfl (cond_iff c 31) 88 (by decide) (.inr (.inr (.inl rfl))) (s2_sem _ 31 rfl _ _) 0 (mw_s2 c 31) (by rfl) (ent wapp (wpc_ret c _ _)))))
  isplitr; · iexact HC
  isplitl [HL]; · iexact HL
  iintro HL
  ihave HL := (wt_exit m c 88 (by decide) 0) $$ [HL]
  · iexact HL
  icases HL with ⟨HO, Hb88⟩
  unfold bodyOut
  rw [← rng_full (N := 4), ← rng_full (N := 16), rng_cut (kvR m c) 0 2 4 (by decide) (by decide), rng_cut (trX m c) 0 8 16 (by decide) (by decide)]
  isplitl [HO]; · iexact HO
  isplitl [Hkr0 Hkr1 Htx0 Htx1 Hbar]
  · isplitl [Hkr0 Hkr1]
    · isplitl [Hkr0]; · iexact Hkr0
      iexact Hkr1
    isplitl [Htx0 Htx1]
    · isplitl [Htx0]; · iexact Htx0
      iexact Htx1
    iexact Hbar
  isplitl [Hx Hwq Hwo Hout]
  · isplitl [Hx]; · iexact Hx
    isplitl [Hwq]; · iexact Hwq
    isplitl [Hwo]; · iexact Hwo
    iexact Hout
  isplitl [Hp0 Hp1 Hb24 Hpb]
  · isplitl [Hp0]; · iexact Hp0
    isplitl [Hp1]; · iexact Hp1
    isplitl [Hb24]; · iexact Hb24
    iexact Hpb
  isplitl [Hrs]; · iexact Hrs
  isplitl [Hred]; · iexact Hred
  isplitl [Hb88]; · iexact Hb88
  isplitl [Hag]; · iexact Hag
  iexact Hb120
end Main

end Cert.Attn
-- ==== Proof.Deal.lean ====
/-
# Dealing the launch's ghost state to the devices
-/
module

public import proofs.«01_k».proof.Proof.Main

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Deal
variable (m : (ℓ : Loc nD τ sig) → Buf (Elt F) ℓ)

/-! ## Families of cells -/

/-- A range of positions, numbered from its start. -/
theorem rng_shift {N : ℕ} (Φ : Fin N → sProp 𝕄) (a k e : ℕ) (he : a + k = e) (hN : e ≤ N) :
    bigSep (rng a e) Φ = bigSep Finset.univ (fun i : Fin k => Φ ⟨a + i.val, by omega⟩) := by
  have h : (rng a e : Finset (Fin N)) = Finset.univ.image (fun i : Fin k => (⟨a + i.val, by omega⟩ : Fin N)) := by
    ext p; rw [mem_rng, Finset.mem_image]
    constructor
    · intro hp; exact ⟨⟨p.val - a, by omega⟩, Finset.mem_univ _, Fin.ext (by show a + (p.val - a) = p.val; omega)⟩
    · rintro ⟨i, _, rfl⟩; exact ⟨by show a ≤ a + i.val; omega, by show a + i.val < e; omega⟩
  rw [h, bigSep_image_of_injOn]
  intro x _ y _ e'
  have := congrArg Fin.val e'
  exact Fin.ext (by dsimp only at this; omega)

/-- The body's own semaphores in order. -/
def osem (k : Fin 148) : SemLoc sig := .dma (dsem (4 + k.val) (by omega))

/-- A family over the body's own cells of a device: the slab copies, the head copies, and the four of the exchanges. -/
def fams (Ψ : GSem nD τ sig → sProp 𝕄) (c : Dev nD) : sProp 𝕄 :=
  iprop(bigSep Finset.univ (fun i : Fin 4 => Ψ (dcell c (4 + i.val) (by omega))) ∗ bigSep Finset.univ (fun i : Fin 16 => Ψ (dcell c (8 + i.val) (by omega)))
    ∗ bigSep Finset.univ (fun j : Fin 32 => Ψ (s1Cell c j)) ∗ bigSep Finset.univ (fun j : Fin 32 => Ψ (r1Cell c j))
    ∗ bigSep Finset.univ (fun j : Fin 32 => Ψ (s2Cell c j)) ∗ bigSep Finset.univ (fun j : Fin 32 => Ψ (r2Cell c j)))

/-- A family over the DMA semaphores from 4 on is the six families of the body's cells. -/
theorem fam_rng (Ψ : GSem nD τ sig → sProp 𝕄) (c : Dev nD) :
    bigSep (rng 4 152 : Finset (Fin 152)) (fun n => Ψ ((c : Thread nD τ), .dma n)) = fams Ψ c := by
  rw [rng_cut _ 4 8 152 (by decide) (by decide), rng_cut _ 8 24 152 (by decide) (by decide), rng_cut _ 24 56 152 (by decide) (by decide),
    rng_cut _ 56 88 152 (by decide) (by decide), rng_cut _ 88 120 152 (by decide) (by decide),
    rng_shift _ 4 4 8 rfl (by decide), rng_shift _ 8 16 24 rfl (by decide), rng_shift _ 24 32 56 rfl (by decide), rng_shift _ 56 32 88 rfl (by decide),
    rng_shift _ 88 32 120 rfl (by decide), rng_shift _ 120 32 152 rfl (by decide)]
  rfl
/-- A family over the body's own semaphores is the six families of its cells. -/
theorem own_fams (Ψ : GSem nD τ sig → sProp 𝕄) (c : Dev nD) :
    bigSep Finset.univ (fun k : Fin 148 => Ψ ((c : Thread nD τ), osem k)) = fams Ψ c := by
  rw [← fam_rng, rng_shift _ 4 148 152 rfl (by decide)]
  rfl
/-- After the barrier, a device's cells are the body's own semaphores in order. -/
theorem kcell_own (c : Dev nD) (k : Fin 148) : kcell (c, ⟨1 + k.val, by omega⟩) = ((c : Thread nD τ), osem k) := by
  have h := kcell_dma c (4 + k.val) (by omega) (by omega)
  rw [show (⟨1 + k.val, by omega⟩ : Fin 149) = ⟨4 + k.val - 3, by omega⟩ from Fin.ext (by show 1 + k.val = 4 + k.val - 3; omega)]
  exact h
/-- A family over all of a device's cells is the barrier's and the six families. -/
theorem all_cells (Ψ : GSem nD τ sig → sProp 𝕄) (c : Dev nD) :
    bigSep Finset.univ (fun k : Fin 149 => Ψ (kcell (c, k))) = iprop(Ψ (barCell c) ∗ fams Ψ c) := by
  rw [← own_fams, ← rng_full, rng_pop (k := 0) (0 : Fin 149) rfl (by decide), bigSep_insert (rng_pop' (k := 0) (0 : Fin 149) rfl), rng_shift _ (0 + 1) 148 149 rfl (by decide)]
  refine congrArg₂ _ rfl (bigSep_congr fun k _ => congrArg Ψ ?_)
  exact kcell_own c k

/-- DMA cells that are equal have the same device and the same number. -/
theorem dcell_inj {c c' : Dev nD} {n n' : ℕ} {h : n < 152} {h' : n' < 152} (e : dcell c n h = dcell c' n' h') : c = c' ∧ n = n' := by
  refine ⟨congrArg (fun g : GSem nD τ sig => g.1.1) e, ?_⟩
  have h2 : (SemLoc.dma (dsem n h) : SemLoc sig) = .dma (dsem n' h') := congrArg Prod.snd e
  exact congrArg Fin.val (SemLoc.dma.inj h2)
/-- Barrier cells that are equal have the same device. -/
theorem bar_inj {c c' : Dev nD} (e : barCell c = barCell c') : c = c' := congrArg (fun g : GSem nD τ sig => g.1.1) e
/-- A barrier cell is no DMA cell. -/
theorem bar_ne {c c' : Dev nD} {n : ℕ} {h : n < 152} : barCell c ≠ dcell c' n h := fun e => by
  have h2 : (SemLoc.reg barS : SemLoc sig) = .dma (dsem n h) := congrArg Prod.snd e
  cases h2
/-- The body's own semaphores are distinct. -/
theorem osem_inj : Function.Injective osem := fun k k' h => by
  have := congrArg Fin.val (SemLoc.dma.inj h)
  exact Fin.ext (by dsimp only [dsem] at this; omega)
/-- The pipeline's staging semaphores are numbered below 4. -/
theorem stage_lt : ∀ (w : Fin cfg0.W) (s : Fin (cfg0.spec w).nbuf), ((cfg0.spec w).sem s).val < 4 := by decide
/-- The body's own semaphores are scoped, distinct, and none of the pipeline's. -/
theorem ownSemFacts : Pipeline.OwnSemFacts cfg0.spec osem := by
  refine ⟨by decide, osem_inj, fun k w s h => ?_⟩
  have h' : (dsem (4 + k.val) (by omega) : DmaSem sig) = (cfg0.spec w).sem s := SemLoc.dma.inj h
  have h2 := congrArg Fin.val h'
  have h3 := stage_lt w s
  dsimp only [dsem] at h2
  omega
/-- The cells of all the devices are distinct. -/
theorem kcell_injective : Function.Injective (kcell : Dev nD × Fin 149 → GSem nD τ sig) := by
  rintro ⟨c, k⟩ ⟨c', k'⟩ h
  have h1 : c = c' := congrArg (fun g : GSem nD τ sig => g.1.1) h
  subst h1
  have h2 : csem k = csem k' := congrArg Prod.snd h
  have : k = k' := by
    unfold csem at h2
    split at h2 <;> split at h2
    · exact Fin.ext (by omega)
    · cases h2
    · cases h2
    · have := congrArg Fin.val (SemLoc.dma.inj h2); exact Fin.ext (by dsimp only [dsem] at this; omega)
  subst this; rfl

/-! ## The ghost state minted -/

def ringCells : Finset (GSem nD τ sig) := Finset.univ.map ⟨kcell, kcell_injective⟩
/-- The duty tokens minted: of every barrier cell one for each device, of every own cell one. -/
def tokB (x : Dev nD × Fin 32) : GSem nD τ sig × ℕ × Fin 32 := (barCell x.1, 0, x.2)
def tokD (x : Dev nD × Fin 148) : GSem nD τ sig × ℕ × Fin 32 := (((x.1 : Thread nD τ), osem x.2), 0, 0)
/-- The barrier's duty tokens are distinct. -/
theorem tokB_inj : Function.Injective tokB := fun x y h => by
  have h1 : x.1 = y.1 := congrArg (fun t : GSem nD τ sig × ℕ × Fin 32 => t.1.1.1) h
  have h2 : x.2 = y.2 := congrArg (fun t : GSem nD τ sig × ℕ × Fin 32 => t.2.2) h
  exact Prod.ext h1 h2
/-- The own cells' duty tokens are distinct. -/
theorem tokD_inj : Function.Injective tokD := fun x y h => by
  have h1 : x.1 = y.1 := congrArg (fun t : GSem nD τ sig × ℕ × Fin 32 => t.1.1.1) h
  have h2 : osem x.2 = osem y.2 := congrArg (fun t : GSem nD τ sig × ℕ × Fin 32 => t.1.2) h
  exact Prod.ext h1 (osem_inj h2)
/-- No duty token of a barrier is one of an own cell. -/
theorem tok_disj : Disjoint (Finset.univ.image tokB) (Finset.univ.image tokD) := by
  rw [Finset.disjoint_left]
  intro t h1 h2
  obtain ⟨x, _, rfl⟩ := Finset.mem_image.mp h1
  obtain ⟨y, _, h⟩ := Finset.mem_image.mp h2
  have h2 : osem y.2 = SemLoc.reg barS := congrArg (fun t : GSem nD τ sig × ℕ × Fin 32 => t.1.2) h
  unfold osem at h2
  cases h2
def ringToks : Finset (GSem nD τ sig × ℕ × Fin 32) := Finset.univ.image tokB ∪ Finset.univ.image tokD

def u₀ : UU :=
  (initOf (Pipeline.cells cfgs cellOf_inj) (Pipeline.launchToks cfgs cellOf_inj), initOf ringCells ringToks)

/-- The duty tokens of device `c`'s cells. -/
def toks (c : Dev nD) : sProp 𝕄 :=
  iprop(bigSep Finset.univ (fun d : Fin 32 => dutyTok ER (barCell c) 0 d) ∗ fams (fun g => dutyTok ER g 0 0) c)

/-- All the tokens minted are every device's tokens. -/
theorem toks_eq : bigSep ringToks (fun x => (dutyTok ER x.1 x.2.1 x.2.2 : sProp 𝕄)) = bigSep Finset.univ (fun c : Dev nD => toks c) := by
  unfold ringToks toks
  rw [bigSep_union (Φ := fun x => (dutyTok ER x.1 x.2.1 x.2.2 : sProp 𝕄)) tok_disj, bigSep_image_of_injOn tokB_inj.injOn, bigSep_image_of_injOn tokD_inj.injOn,
    bigSep_univ_prod, bigSep_univ_prod, bigSep_sep' _ _ _]
  refine congrArg₂ _ rfl (bigSep_congr fun c _ => ?_)
  exact own_fams (fun g => dutyTok ER g 0 0) c

/-- What the launch element deals device `c`. -/
def G (c : Dev nD) : sProp 𝕄 :=
  iprop((bigSep Finset.univ fun k : Fin 149 => roundState ER (Rd m) (kcell (c, k)) 0)
    ∗ (bigSep Finset.univ fun k : Fin 149 => iprop(atPos ER (kcell (c, k)) 0 ∅ 0 ∗ reached ER (kcell (c, k)) 0)) ∗ toks c)

/-- The launch element deals every device its round states, positions and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 149 => Φ (kcell (c, k)) := by
    unfold ringCells; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-! ## The cells' invariants -/

/-- A device's one unscoped semaphore is its barrier, at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- A device's own semaphores at zero are the six families at zero. -/
theorem ownSems0_eq (c : Dev nD) : (Pipeline.ownSems0 (Ix := Unit) (Name := ℕ) (U := UU) (Lvl := ℕ) (Val := Elt F) (τ := τ) osem c : sProp 𝕄)
    = fams (fun g => semVal g 0) c := own_fams (fun g => semVal g 0) c

/-- A device's semaphores and round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  imod (show iprop((semVal (barCell c) 0 ∗ fams (fun g => semVal g 0) c) ∗ bigSep Finset.univ fun k : Fin 149 => roundState ER (Rd m) (kcell (c, k)) 0)
      ⊢ (|={Set.univ}=> bigSep Finset.univ fun k => iprop(∃ κ : ℕ, cellInv ER (Rd m) κ (kcell (c, k))) : sProp 𝕄) from by
        rw [← all_cells (fun g => semVal g 0) c, ← bigSep_sep']
        exact (bigSep_mono fun k _ => (Rounds.body_intro ER (Rd m) (kcell (c, k))).trans inv_alloc).trans (bigSep_fupd _ _)) $$ [Hos Hus Hst] with Hinv
  · isplitl [Hos Hus]
    · isplitl [Hus] <;> iassumption
    · iexact Hst
  imodintro
  isplitl [Hinv]; · iexact Hinv
  isplitl [Hat]; · iexact Hat
  iexact Htok

/-- Every cell's invariant, and that each is at round 0. -/
def recs (K : Dev nD × Fin 149 → ℕ) : sProp 𝕄 :=
  iprop((bigSep Finset.univ fun ck : Dev nD × Fin 149 => cellInv ER (Rd m) (K ck) (kcell ck))
    ∗ (bigSep Finset.univ fun ck : Dev nD × Fin 149 => reached ER (kcell ck) 0))
instance recs_persistent (K : Dev nD × Fin 149 → ℕ) : BI.Persistent (recs m K) := by unfold recs; infer_instance

/-- The tokens of the duties device `c` pays: its unit on every barrier, its own copies', and its rows' on both sides. -/
def payToks (c : Dev nD) : sProp 𝕄 :=
  iprop(bigSep Finset.univ (fun j : Fin 32 => dutyTok ER (barCell j) 0 c)
    ∗ bigSep Finset.univ (fun i : Fin 4 => dutyTok ER (dcell c (4 + i.val) (by omega)) 0 0) ∗ bigSep Finset.univ (fun i : Fin 16 => dutyTok ER (dcell c (8 + i.val) (by omega)) 0 0)
    ∗ bigSep Finset.univ (fun j : Fin 32 => dutyTok ER (s1Cell c j) 0 0) ∗ bigSep Finset.univ (fun j : Fin 32 => dutyTok ER (r1Cell j c) 0 0)
    ∗ bigSep Finset.univ (fun j : Fin 32 => dutyTok ER (s2Cell c j) 0 0) ∗ bigSep Finset.univ (fun j : Fin 32 => dutyTok ER (r2Cell j c) 0 0))
/-- What stays with device `c`: its positions and those tokens. -/
def linear (c : Dev nD) : sProp 𝕄 := iprop((atPos ER (barCell c) 0 ∅ 0 ∗ fams (fun g => atPos ER g 0 ∅ 0) c) ∗ payToks c)

/-- The tokens of every device's cells are handed to the devices that pay them. -/
theorem toks_around : (bigSep Finset.univ fun c : Dev nD => (toks c : sProp 𝕄)) ⊢ bigSep Finset.univ fun c : Dev nD => payToks c := by
  unfold toks payToks fams
  simp only [bigSep_sep']
  iintro ⟨H1, H2, H3, H4, H5, H6, H7⟩
  isplitl [H1]; · iapply (Entails.of_eq (bigSep_univ_comm fun (c : Dev nD) (d : Fin 32) => (dutyTok ER (barCell c) 0 d : sProp 𝕄))); iexact H1
  isplitl [H2]; · iexact H2
  isplitl [H3]; · iexact H3
  isplitl [H4]; · iexact H4
  isplitl [H5]; · iapply (Entails.of_eq (bigSep_univ_comm fun (c : Dev nD) (j : Fin 32) => (dutyTok ER (r1Cell c j) 0 0 : sProp 𝕄))); iexact H5
  isplitl [H6]; · iexact H6
  iapply (Entails.of_eq (bigSep_univ_comm fun (c : Dev nD) (j : Fin 32) => (dutyTok ER (r2Cell c j) 0 0 : sProp 𝕄))); iexact H7

/-- What the global step makes of it. -/
def G' (c : Dev nD) : sProp 𝕄 := iprop(∃ K, recs m K ∗ linear c)

/-- A persistent fact beside a family goes to each of its members. -/
theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's invariants are shared with all, and each keeps its positions and the tokens it pays. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 149 => iprop(∃ κ : ℕ, cellInv ER (Rd m) κ (kcell ck))),
    bigSep_congr (s := Finset.univ) (fun (c : Dev nD) _ => bigSep_sep' Finset.univ (fun k : Fin 149 => (atPos ER (kcell (c, k)) 0 ∅ 0 : sProp 𝕄)) (fun k => reached ER (kcell (c, k)) 0)),
    bigSep_sep', ← bigSep_univ_prod (fun ck : Dev nD × Fin 149 => (reached ER (kcell ck) 0 : sProp 𝕄))]
  iintro ⟨HI, ⟨Hat, #HR⟩, Htok⟩
  ihave HK := (BI.bigSep_exists_pi Finset.univ (fun (ck : Dev nD × Fin 149) (κ : ℕ) => (cellInv ER (Rd m) κ (kcell ck) : sProp 𝕄))) $$ HI
  icases HK with ⟨%K, #HI⟩
  ihave Htk := (toks_around (F := F)) $$ Htok
  iapply (with_pers (R := recs m K) (Φ := fun c => linear c) fun c _ => by
    unfold G'; iintro H; iexists K; iexact H)
  isplitr
  · unfold recs; isplitl; · iexact HI
    iexact HR
  · iapply ((Entails.of_eq (bigSep_sep' Finset.univ (fun c : Dev nD => bigSep Finset.univ fun k : Fin 149 => (atPos ER (kcell (c, k)) 0 ∅ 0 : sProp 𝕄)) payToks).symm).trans
      (bigSep_mono fun c _ => show _ ⊢ linear c from Entails.of_eq (by unfold linear; rw [all_cells (fun g => atPos ER g 0 ∅ 0) c])))
    isplitl [Hat]; · iexact Hat
    iexact Htk

/-- The own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at the launch. -/
def O₀ (c : Dev nD) : CellTallies nD τ sig Unit := sigO c 0

/-- What a sum of tallies owes a cell is the sum over the terms naming the cell. -/
theorem ow_at (f : Fin 32 → GSem nD τ sig) (n : ℕ) (S : Finset (Fin 32)) (g : GSem nD τ sig) :
    (∑ i ∈ S, tallyAt (f i) () n : CellTallies nD τ sig Unit) g () = ∑ i ∈ S, if g = f i then n else 0 := by
  induction S using Finset.induction_on with
  | empty => rfl
  | insert a s ha ih =>
    rw [Finset.sum_insert ha, Finset.sum_insert ha, Pi.add_apply, Finsupp.add_apply, ih, tallyAt_apply]
    simp only [and_true]
/-- A sum over a device's peers of a term at one place is the term, unless the place is the device's own. -/
theorem sum_seg (d : Dev nD) (j : Fin 32) (n : ℕ) : (∑ i ∈ seg d 0 32, if j = i then n else 0) = if j = d then 0 else n := by
  rw [Finset.sum_ite_eq, seg_full]
  by_cases h : j = d
  · rw [if_pos h, if_neg (by simp [h])]
  · rw [if_neg h, if_pos (by simp [h])]
/-- What a device owes a cell is what it owes it in each of the three families. -/
theorem owed_add (d : Dev nD) (g : GSem nD τ sig) : O₀ d g () = (∑ i ∈ seg d 0 32, if g = r2Cell i d then Nx else 0)
    + (∑ i ∈ seg d 0 32, if g = r1Cell i d then Nx else 0) + ∑ i ∈ seg d 0 32, if g = barCell i then 1 else 0 := by
  unfold O₀ sigO ow2 ow1 owB
  rw [Pi.add_apply, Finsupp.add_apply, Pi.add_apply, Finsupp.add_apply, ow_at, ow_at, ow_at]
/-- Device `d` owes one unit to each barrier but its own. -/
theorem owed_bar (d c : Dev nD) : O₀ d (barCell c) () = if c = d then 0 else 1 := by
  rw [owed_add, Finset.sum_eq_zero fun i _ => if_neg bar_ne, Finset.sum_eq_zero fun i _ => if_neg bar_ne, Nat.zero_add, Nat.zero_add, ← sum_seg d c 1]
  exact Finset.sum_congr rfl fun i _ => if_congr ⟨bar_inj, fun h => by rw [h]⟩ rfl rfl
/-- Device `d` owes a row to its own place on each peer in the first exchange, and nothing elsewhere. -/
theorem owed_r1 (d c : Dev nD) (j : Fin 32) (h : j ≠ c) : O₀ d (r1Cell c j) () = if j = d then Nx else 0 := by
  rw [owed_add, Finset.sum_eq_zero fun i _ => if_neg fun e => by have := (dcell_inj e).2; have : d.val < 32 := d.isLt; omega,
    Finset.sum_eq_zero (s := seg d 0 32) (f := fun i => if r1Cell c j = barCell i then 1 else 0) fun i _ => if_neg (Ne.symm bar_ne), Nat.zero_add, Nat.add_zero]
  by_cases hd : j = d
  · subst hd
    rw [if_pos rfl, Finset.sum_congr rfl fun i _ => if_congr (⟨fun e => (dcell_inj e).1, fun e => by rw [e]⟩ : (r1Cell c j = r1Cell i j) ↔ c = i) rfl rfl, sum_seg, if_neg (Ne.symm h)]
  · rw [if_neg hd]
    exact Finset.sum_eq_zero fun i _ => if_neg fun e => hd (Fin.ext (by have := (dcell_inj e).2; omega))
/-- Device `d` owes a row to its own place on each peer in the second exchange, and nothing elsewhere. -/
theorem owed_r2 (d c : Dev nD) (j : Fin 32) (h : j ≠ c) : O₀ d (r2Cell c j) () = if j = d then Nx else 0 := by
  rw [owed_add, Finset.sum_eq_zero (s := seg d 0 32) (f := fun i => if r2Cell c j = r1Cell i d then Nx else 0) fun i _ => if_neg fun e => by have := (dcell_inj e).2; have : d.val < 32 := d.isLt; omega,
    Finset.sum_eq_zero (s := seg d 0 32) (f := fun i => if r2Cell c j = barCell i then 1 else 0) fun i _ => if_neg (Ne.symm bar_ne), Nat.add_zero, Nat.add_zero]
  by_cases hd : j = d
  · subst hd
    rw [if_pos rfl, Finset.sum_congr rfl fun i _ => if_congr (⟨fun e => (dcell_inj e).1, fun e => by rw [e]⟩ : (r2Cell c j = r2Cell i j) ↔ c = i) rfl rfl, sum_seg, if_neg (Ne.symm h)]
  · rw [if_neg hd]
    exact Finset.sum_eq_zero fun i _ => if_neg fun e => hd (Fin.ext (by have := (dcell_inj e).2; omega))

/-- The launch credit of a cell is the sum of what the devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
/-- Each barrier has 31 peers. -/
theorem sum_bar : ∀ c : Dev nD, (∑ d : Dev nD, if c = d then 0 else 1) = 31 := by decide
/-- The devices owe a barrier 31 units in all. -/
theorem launch_bar (c : Dev nD) : ∑ d : Dev nD, O₀ d (barCell c) () = 31 :=
  (Finset.sum_congr rfl fun d _ => owed_bar d c).trans (sum_bar c)
/-- The devices owe a peer's place in the first exchange one row in all. -/
theorem launch_r1 (c : Dev nD) (j : Fin 32) (h : j ≠ c) : ∑ d : Dev nD, O₀ d (r1Cell c j) () = Nx :=
  (Finset.sum_congr rfl fun d _ => owed_r1 d c j h).trans ((Finset.sum_ite_eq Finset.univ (j : Dev nD) fun _ => Nx).trans (if_pos (Finset.mem_univ _)))
/-- The devices owe a peer's place in the second exchange one row in all. -/
theorem launch_r2 (c : Dev nD) (j : Fin 32) (h : j ≠ c) : ∑ d : Dev nD, O₀ d (r2Cell c j) () = Nx :=
  (Finset.sum_congr rfl fun d _ => owed_r2 d c j h).trans ((Finset.sum_ite_eq Finset.univ (j : Dev nD) fun _ => Nx).trans (if_pos (Finset.mem_univ _)))

/-- The credit a device starts with: its barrier's 31 units, and the arrivals of the two exchanges. -/
theorem creds (c : Dev nD) :
    (Pipeline.launchCred O₀ c : sProp 𝕄) ⊢ iprop(cred (tallyAt (barCell c) () 31) ∗ bigSep (seg c 0 32) (fun j => cred (tallyAt (r1Cell c j) () Nx))
      ∗ bigSep (seg c 0 32) (fun j => cred (tallyAt (r2Cell c j) () Nx))) := by
  unfold Pipeline.launchCred
  have hi : Function.Injective (fun n : Fin 152 => (SemLoc.dma n : SemLoc sig)) := fun a b h => SemLoc.dma.inj h
  have hsub : (rng 4 152 : Finset (Fin 152)).image (fun n => (SemLoc.dma n : SemLoc sig)) ⊆ Finset.univ.erase (SemLoc.reg barS) := fun x hx => by
    obtain ⟨n, _, rfl⟩ := Finset.mem_image.mp hx
    exact Finset.mem_erase.mpr ⟨(fun h => by cases h), Finset.mem_univ _⟩
  have hs (Φ : SemLoc sig → sProp 𝕄) : bigSep (Finset.univ.erase (SemLoc.reg barS)) Φ
      = iprop(bigSep ((rng 4 152 : Finset (Fin 152)).image (fun n => (SemLoc.dma n : SemLoc sig))) Φ ∗ bigSep (Finset.univ.erase (SemLoc.reg barS) \ _) Φ) := bigSep_sdiff_split hsub
  rw [bigSep_univ_at _ (SemLoc.reg barS), launch_at (barCell c) 31 (launch_bar c), hs, bigSep_image_of_injOn hi.injOn,
    fam_rng (fun g => cred (tallyOn g (launchCredit (Pipeline.owing O₀) 0 g))) c]
  unfold fams
  rw [own_split c (fun j => cred (tallyOn (r1Cell c j) (launchCredit (Pipeline.owing O₀) 0 (r1Cell c j)))),
    own_split c (fun j => cred (tallyOn (r2Cell c j) (launchCredit (Pipeline.owing O₀) 0 (r2Cell c j))))]

  iintro ⟨Hb, ⟨-, -, -, ⟨-, H1⟩, -, -, H2⟩, -⟩
  isplitl [Hb]; · iexact Hb
  isplitl [H1]
  · iapply (show bigSep (seg c 0 32) (fun j => (cred (tallyOn (r1Cell c j) (launchCredit (Pipeline.owing O₀) 0 (r1Cell c j))) : sProp 𝕄)) ⊢ bigSep (seg c 0 32) (fun j => cred (tallyAt (r1Cell c j) () Nx)) from
      bigSep_mono fun j hj => Entails.of_eq (congrArg cred (launch_at (r1Cell c j) Nx (launch_r1 c j (ne_of_seg hj)))))
    iexact H1
  · iapply (show bigSep (seg c 0 32) (fun j => (cred (tallyOn (r2Cell c j) (launchCredit (Pipeline.owing O₀) 0 (r2Cell c j))) : sProp 𝕄)) ⊢ bigSep (seg c 0 32) (fun j => cred (tallyAt (r2Cell c j) () Nx)) from
      bigSep_mono fun j hj => Entails.of_eq (congrArg cred (launch_at (r2Cell c j) Nx (launch_r2 c j (ne_of_seg hj)))))
    iexact H2

end Deal

end Cert.Attn
-- ==== Proof.Entry.lean ====
/-
# What the body starts from, cut out of the launch's pieces
-/
module

public import proofs.«01_k».proof.Proof.Deal

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Entry
variable (m : (ℓ : Loc nD τ sig) → Buf (Elt F) ℓ)

/-- The nine scratch buffers, at any contents. -/
def scr9 (c : Dev nD) : sProp 𝕄 :=
  iprop(whole cc0_scratch0 c ∗ whole cc0_scratch1 c ∗ whole cc0_scratch2 c ∗ whole cc0_scratch3 c ∗ whole cc0_scratch4 c ∗ whole cc0_scratch5 c
    ∗ whole cc0_scratch6 c ∗ whole cc0_scratch7 c ∗ whole cc0_scratch8 c)
/-- The key and value caches, whole and unchanged. -/
def argK (c : Dev nD) : sProp 𝕄 := ((c : Thread nD τ).loc main_arg2) ↦{fullShare} m ((c : Thread nD τ).loc main_arg2)
def argV (c : Dev nD) : sProp 𝕄 := ((c : Thread nD τ).loc main_arg3) ↦{fullShare} m ((c : Thread nD τ).loc main_arg3)
/-- What the device's own two slices leave of them. -/
def restK (c : Dev nD) : sProp 𝕄 :=
  ((c : Thread nD τ).loc main_arg2) ↦[(Finset.univ \ (srcS kA c 0).view.set) \ (srcS kA c 1).view.set]{fullShare} m ((c : Thread nD τ).loc main_arg2)
def restV (c : Dev nD) : sProp 𝕄 :=
  ((c : Thread nD τ).loc main_arg3) ↦[(Finset.univ \ (srcS vA c 0).view.set) \ (srcS vA c 1).view.set]{fullShare} m ((c : Thread nD τ).loc main_arg3)

/-- The device's slices of the two batches are apart. -/
theorem src_apart (c : Dev nD) : (srcR c 1).set ⊆ Finset.univ \ (srcR c 0).set := fun x hx => by
  refine Finset.mem_sdiff.mpr ⟨Finset.mem_univ _, fun h => ?_⟩
  have h1 := ((src_mem c 1 x).mp hx).1
  have h0 := ((src_mem c 0 x).mp h).1
  exact absurd (h1.symm.trans h0) (by decide)
/-- A cache is the device's two slices and the rest. -/
theorem argK_split (c : Dev nD) : argK m c ⊣⊢ iprop(kSrc m c 0 ∗ kSrc m c 1 ∗ restK m c) := by
  have h := src_apart c
  rw [← k_sset, ← k_sset] at h
  have e1 := pointsTo_split_subset (Ix := Unit) (Name := ℕ) (U := UU) (Lvl := ℕ) (q := fullShare) (f := m ((c : Thread nD τ).loc main_arg2)) (Finset.subset_univ (srcS kA c 0).view.set)
  have e2 := pointsTo_split_subset (Ix := Unit) (Name := ℕ) (U := UU) (Lvl := ℕ) (q := fullShare) (f := m ((c : Thread nD τ).loc main_arg2)) h
  exact ⟨ent e1.1 (sep_mono_right e2.1), ent (sep_mono_right e2.2) e1.2⟩
/-- The V cache is the device's two slices and the rest. -/
theorem argV_split (c : Dev nD) : argV m c ⊣⊢ iprop(vSrc m c 0 ∗ vSrc m c 1 ∗ restV m c) := by
  have h := src_apart c
  rw [← v_sset, ← v_sset] at h
  have e1 := pointsTo_split_subset (Ix := Unit) (Name := ℕ) (U := UU) (Lvl := ℕ) (q := fullShare) (f := m ((c : Thread nD τ).loc main_arg3)) (Finset.subset_univ (srcS vA c 0).view.set)
  have e2 := pointsTo_split_subset (Ix := Unit) (Name := ℕ) (U := UU) (Lvl := ℕ) (q := fullShare) (f := m ((c : Thread nD τ).loc main_arg3)) h
  exact ⟨ent e1.1 (sep_mono_right e2.1), ent (sep_mono_right e2.2) e1.2⟩

/-- A family over four is its four members. -/
theorem big_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
/-- A family over two is its two members. -/
theorem big_two (Φ : Fin 2 → sProp 𝕄) : bigSep Finset.univ Φ = iprop(Φ 0 ∗ Φ 1) := BI.bigSep_fin_two Φ

/-- The sixteen head copies in program order are the sixteen heads. -/
theorem big_perm (Φ : Fin 16 → sProp 𝕄) : bigSep Finset.univ Φ = bigSep Finset.univ (fun p => Φ (perm p)) :=
  bigSep_univ_equiv (Equiv.ofBijective perm (by decide)) Φ
/-- A family over the sixteen is one over the eight of K and one over the eight of V. -/
theorem big_halves (Φ : Fin 16 → sProp 𝕄) :
    bigSep Finset.univ Φ = iprop(bigSep Finset.univ (fun i : Fin 8 => Φ ⟨i.val, by omega⟩) ∗ bigSep Finset.univ (fun i : Fin 8 => Φ ⟨8 + i.val, by omega⟩)) := by
  rw [← rng_full, rng_cut _ 0 8 16 (by decide) (by decide), rng_shift _ 0 8 8 rfl (by decide), rng_shift _ 8 8 16 rfl (by decide)]
  exact congrArg₂ _ (bigSep_congr fun i _ => congrArg Φ (Fin.ext (Nat.zero_add _))) rfl

/-- The destinations of the head copies with their tokens. -/
theorem trE_intro (c : Dev nD) :
    iprop(whole cc0_scratch2 c ∗ whole cc0_scratch3 c ∗ bigSep Finset.univ (fun i : Fin 16 => dutyTok ER (dcell c (8 + i.val) (by omega)) 0 0))
      ⊢ (bigSep Finset.univ (trE (F := F) c) : sProp 𝕄) := by
  have h : (bigSep Finset.univ (trE (F := F) c) : sProp 𝕄)
      = iprop((bigSep Finset.univ (fun i : Fin 8 => anyOf (head ktM i) c) ∗ bigSep Finset.univ (fun i : Fin 8 => anyOf (head vtM i) c))
        ∗ bigSep Finset.univ (fun i : Fin 16 => dutyTok ER (dcell c (8 + i.val) (by omega)) 0 0)) := by
    rw [big_perm (fun i => dutyTok ER (dcell c (8 + i.val) (by omega)) 0 0)]
    have h2 := big_halves (F := F) (fun i => if h : i.val < 8 then anyOf (head ktM ⟨i.val, h⟩) c else anyOf (head vtM ⟨i.val - 8, by omega⟩) c)
    rw [big_perm] at h2
    refine (bigSep_sep' _ _ _).trans (congrArg₂ _ (h2.trans ?_) rfl)
    refine congrArg₂ _ (bigSep_congr fun i _ => dif_pos i.isLt) (bigSep_congr fun i _ => (dif_neg (by show ¬ (8 + i.val < 8); omega)).trans ?_)
    exact congrArg (fun j => anyOf (head vtM j) c) (Fin.ext (Nat.add_sub_cancel_left 8 i.val))
  rw [h]
  iintro ⟨H2, H3, Ht⟩
  isplitr [Ht]
  · isplitl [H2]
    · iapply (ktW_cut c); iexact H2
    · iapply (vtW_cut c); iexact H3
  · iexact Ht

/-- The slab copies' sources, destinations and tokens. -/
theorem kvD_intro (c : Dev nD) :
    iprop(whole cc0_scratch0 c ∗ whole cc0_scratch1 c ∗ (kSrc m c 0 ∗ kSrc m c 1) ∗ (vSrc m c 0 ∗ vSrc m c 1)
        ∗ bigSep Finset.univ (fun i : Fin 4 => dutyTok ER (dcell c (4 + i.val) (by omega)) 0 0))
      ⊢ (bigSep Finset.univ (kvD m c) : sProp 𝕄) := by
  rw [big_four, big_four]
  have hk := k4W_cut (F := F) c
  have hv := v4W_cut (F := F) c
  rw [big_two] at hk hv
  iintro ⟨H0, H1, ⟨Hk0, Hk1⟩, ⟨Hv0, Hv1⟩, Ht0, Ht1, Ht2, Ht3⟩
  ihave H0' := hk $$ H0
  ihave H1' := hv $$ H1
  icases H0' with ⟨Ha0, Ha1⟩
  icases H1' with ⟨Hb0, Hb1⟩
  isplitl [Hk0 Ha0 Ht0]
  · iapply (show iprop(kSrc m c 0 ∗ anyOf (slab k4M 0) c ∗ dutyTok ER (dcell c 4 (by decide)) 0 0) ⊢ kvD m c 0 from Entails.of_eq rfl)
    isplitl [Hk0]; · iexact Hk0
    isplitl [Ha0]; · iexact Ha0
    iexact Ht0
  isplitl [Hv0 Hb0 Ht1]
  · iapply (show iprop(vSrc m c 0 ∗ anyOf (slab v4M 0) c ∗ dutyTok ER (dcell c 5 (by decide)) 0 0) ⊢ kvD m c 1 from Entails.of_eq rfl)
    isplitl [Hv0]; · iexact Hv0
    isplitl [Hb0]; · iexact Hb0
    iexact Ht1
  isplitl [Hk1 Ha1 Ht2]
  · iapply (show iprop(kSrc m c 1 ∗ anyOf (slab k4M 1) c ∗ dutyTok ER (dcell c 6 (by decide)) 0 0) ⊢ kvD m c 2 from Entails.of_eq rfl)
    isplitl [Hk1]; · iexact Hk1
    isplitl [Ha1]; · iexact Ha1
    iexact Ht2
  · iapply (show iprop(vSrc m c 1 ∗ anyOf (slab v4M 1) c ∗ dutyTok ER (dcell c 7 (by decide)) 0 0) ⊢ kvD m c 3 from Entails.of_eq rfl)
    isplitl [Hv1]; · iexact Hv1
    isplitl [Hb1]; · iexact Hb1
    iexact Ht3

/-- The credit a device is dealt. -/
def credP (c : Dev nD) : sProp 𝕄 :=
  iprop(cred (tallyAt (barCell c) () 31) ∗ bigSep (seg c 0 32) (fun j => cred (tallyAt (r1Cell c j) () Nx)) ∗ bigSep (seg c 0 32) (fun j => cred (tallyAt (r2Cell c j) () Nx)))
/-- What the body is not given: the positions of the device's cells for itself, and the rest of the caches. -/
def aside (c : Dev nD) : sProp 𝕄 :=
  iprop((at0 c 24 (by decide) c ∗ at0 c 56 (by decide) c ∗ at0 c 88 (by decide) c ∗ at0 c 120 (by decide) c) ∗ restK m c ∗ restV m c)

/-- The scratch buffers, the caches and the ghost state make up what the body starts from. -/
theorem entry (c : Dev nD) :
    iprop(linear c ∗ credP c ∗ (argK m c ∗ argV m c) ∗ scr9 c ∗ Ow c (sigO c 0) ∗ (xP m c ∗ wqP m c ∗ woP m c ∗ outAny c))
      ⊢ iprop(bodyIn m c ∗ aside m c) := by
  have hat : bigSep Finset.univ (fun i : Fin 16 => (atPos ER (dcell c (8 + i.val) (by omega)) 0 ∅ 0 : sProp 𝕄)) ⊢ bigSep Finset.univ (trAt (F := F) c) :=
    Entails.of_eq (big_perm (fun i : Fin 16 => (atPos ER (dcell c (8 + i.val) (by omega)) 0 ∅ 0 : sProp 𝕄)))
  have hph := phW_cut (F := F) c
  have hpbh := pbhW_cut (F := F) c
  have hrs := rsW_cut (F := F) c
  have hag := agW_cut (F := F) c
  rw [big_two] at hph hpbh
  rw [own_split c] at hrs hag
  unfold linear payToks fams
  beta_reduce
  rw [own_split c (fun j => (dutyTok ER (barCell j) 0 c : sProp 𝕄)), own_split c (fun j => (dutyTok ER (s1Cell c j) 0 0 : sProp 𝕄)),
    own_split c (fun j => (dutyTok ER (r1Cell j c) 0 0 : sProp 𝕄)), own_split c (fun j => (dutyTok ER (s2Cell c j) 0 0 : sProp 𝕄)),
    own_split c (fun j => (dutyTok ER (r2Cell j c) 0 0 : sProp 𝕄)), own_split c (fun j => (atPos ER (s1Cell c j) 0 ∅ 0 : sProp 𝕄)),
    own_split c (fun j => (atPos ER (r1Cell c j) 0 ∅ 0 : sProp 𝕄)), own_split c (fun j => (atPos ER (s2Cell c j) 0 ∅ 0 : sProp 𝕄)),
    own_split c (fun j => (atPos ER (r2Cell c j) 0 ∅ 0 : sProp 𝕄))]
  unfold credP scr9
  iintro ⟨⟨⟨Ab, Akv, Atr, ⟨As1c, As1⟩, ⟨Ar1c, Ar1⟩, ⟨As2c, As2⟩, ⟨Ar2c, Ar2⟩⟩, ⟨⟨-, Tb⟩, Tkv, Ttr, ⟨-, Ts1⟩, ⟨-, Tr1⟩, ⟨-, Ts2⟩, ⟨-, Tr2⟩⟩⟩, ⟨Cb, C1, C2⟩, ⟨HK, HV⟩,
    ⟨H0, H1, H2, H3, H4, H5, H6, H7, H8⟩, Ho, Hst⟩
  ihave HK' := (argK_split m c).1 $$ HK
  ihave HV' := (argV_split m c).1 $$ HV
  icases HK' with ⟨Hk0, Hk1, HrK⟩
  icases HV' with ⟨Hv0, Hv1, HrV⟩
  ihave H4' := hph $$ H4
  ihave H5' := hpbh $$ H5
  ihave H6' := hrs $$ H6
  ihave H8' := hag $$ H8
  icases H4' with ⟨Hp0, Hp1⟩
  icases H5' with ⟨Hq0, Hq1⟩
  icases H6' with ⟨Hrsc, Hrs⟩
  icases H8' with ⟨Hagc, Hag⟩
  ihave HD := (kvD_intro m c) $$ [H0 H1 Hk0 Hk1 Hv0 Hv1 Tkv]
  · isplitl [H0]; · iexact H0
    isplitl [H1]; · iexact H1
    isplitl [Hk0 Hk1]; · isplitl [Hk0] <;> iassumption
    isplitl [Hv0 Hv1]; · isplitl [Hv0] <;> iassumption
    iexact Tkv
  ihave HE := (trE_intro (F := F) c) $$ [H2 H3 Ttr]
  · isplitl [H2]; · iexact H2
    isplitl [H3]; · iexact H3
    iexact Ttr
  ihave Atr' := hat $$ Atr
  ihave HsB := (zip2 (seg c 0 32) (fun j => (anyOf (slot rsM j) c : sProp 𝕄)) (fun j => anyOf (slot agM j) c)) $$ [Hrs Hag]
  · isplitl [Hrs] <;> iassumption
  ihave HsA := (zip2 (seg c 0 32) (fun j => (dutyTok ER (barCell j) 0 c : sProp 𝕄)) (fun j => barPay j c)) $$ [Tb HsB]
  · isplitl [Tb]; · iexact Tb
    iexact HsB
  ihave Ht1 := (zip2 (seg c 0 32) (fun j => (dutyTok ER (s1Cell c j) 0 0 : sProp 𝕄)) (fun j => dutyTok ER (r1Cell j c) 0 0)) $$ [Ts1 Tr1]
  · isplitl [Ts1] <;> iassumption
  ihave Ht2 := (zip2 (seg c 0 32) (fun j => (dutyTok ER (s2Cell c j) 0 0 : sProp 𝕄)) (fun j => dutyTok ER (r2Cell j c) 0 0)) $$ [Ts2 Tr2]
  · isplitl [Ts2] <;> iassumption
  ihave Hw1 := (fam_at (F := F) c 56 (by decide)) $$ [C1 Ar1]
  · isplitl [C1]; · iexact C1
    iexact Ar1
  ihave Hw2 := (fam_at (F := F) c 120 (by decide)) $$ [C2 Ar2]
  · isplitl [C2]; · iexact C2
    iexact Ar2
  unfold bodyIn inLocal inBar inBufs inEx aside
  isplitr [As1c Ar1c As2c Ar2c HrK HrV]
  · isplitl [Ho]; · iexact Ho
    isplitl [HD Akv HE Atr']
    · isplitl [HD]; · iexact HD
      isplitl [Akv]; · iexact Akv
      isplitl [HE]; · iexact HE
      iexact Atr'
    isplitl [HsA Cb Ab]
    · isplitl [HsA]; · iexact HsA
      isplitl [Cb] <;> iassumption
    isplitl [Hst Hp0 Hp1 Hq0 Hq1 Hrsc Hagc H7]
    · isplitl [Hst]; · iexact Hst
      isplitl [Hp0 Hp1 Hq0 Hq1]
      · isplitl [Hp0]; · iexact Hp0
        isplitl [Hp1]; · iexact Hp1
        isplitl [Hq0] <;> iassumption
      isplitl [Hrsc]; · iexact Hrsc
      isplitl [Hagc]; · iexact Hagc
      iapply (show whole cc0_scratch7 c ⊢ (anyOf redS c : sProp 𝕄) from by unfold whole anyOf; rw [redS_set])
      iexact H7
    · isplitl [Ht1 As1 Hw1]
      · isplitl [Ht1]; · iexact Ht1
        isplitl [As1]; · iexact As1
        iexact Hw1
      · isplitl [Ht2]; · iexact Ht2
        isplitl [As2]; · iexact As2
        iexact Hw2
  · isplitr [HrK HrV]
    · isplitl [As1c]; · iexact As1c
      isplitl [Ar1c]; · iexact Ar1c
      isplitl [As2c] <;> iassumption
    · isplitl [HrK] <;> iassumption

end Entry

end Cert.Attn
-- ==== Proof.Exit.lean ====
/-
# What the body leaves, put back together
-/
module

public import proofs.«01_k».proof.Proof.Entry

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Exit
variable (m : (ℓ : Loc nD τ sig) → Buf (Elt F) ℓ) (K : Dev nD × Fin 149 → ℕ)

/-- A cell whose duties are over. -/
def done (g : GSem nD τ sig) : sProp 𝕄 := iprop(∃ R, ⌜∀ r, R ≤ r → (Rd m).duties g r = ∅⌝ ∗ atPos ER g R ∅ 0)
/-- A cell past its first round has no more duties. -/
theorem done_one (g : GSem nD τ sig) : atPos ER g 1 ∅ 0 ⊢ done m g := by
  unfold done; iintro H; iexists 1; isplitr; · ipureintro; exact duties_later m g
  iexact H
/-- A device's own place in an exchange is not used. -/
theorem own_unused (c : Dev nD) (b : ℕ) (hb : 24 ≤ b) (h32 : (b - 24) % 32 = 0) : ¬ dmaUsed c (b + c.val) := fun h => by
  have hc : c.val < 32 := c.isLt
  exact h.2 (by omega) (by omega)
/-- A device's own place in an exchange is never credited. -/
theorem done_own (c : Dev nD) (b : ℕ) (hb' : b ≤ 120) (hb : 24 ≤ b) (h32 : (b - 24) % 32 = 0) : at0 c b hb' c ⊢ done m (famCell c b hb' c) := by
  unfold done; iintro H; iexists 0; isplitr
  · ipureintro; exact fun r _ => duties_unused m c _ _ (own_unused c b hb h32) r
  iexact H

/-- Every cell of a device closed at zero. -/
theorem close_all (c : Dev nD) :
    iprop(recs m K ∗ (done m (barCell c) ∗ fams (done m) c)) ⊢ |={Set.univ}=> iprop(semVal (barCell c) 0 ∗ fams (fun g => semVal g 0) c) := by
  rw [← all_cells (done m) c, ← all_cells (fun g => semVal g 0) c]
  refine ent (with_pers (Ψ := fun k : Fin 149 => iprop(|={Set.univ}=> semVal (kcell (c, k)) 0)) fun k _ => ?_) (bigSep_fupd _ _)
  unfold recs done
  iintro ⟨⟨#HI, -⟩, ⟨%R, %hR, Hat⟩⟩
  ihave Hc := (show (bigSep Finset.univ fun ck : Dev nD × Fin 149 => (cellInv ER (Rd m) (K ck) (kcell ck) : sProp 𝕄)) ⊢ cellInv ER (Rd m) (K (c, k)) (kcell (c, k)) from
    bigSep_elim (Finset.mem_univ (c, k))) $$ HI
  iapply (Rounds.cell_close ER (Rd m) (Set.mem_univ (K (c, k))) (fun h => h) hR)
  isplitl [Hc] <;> iassumption

/-- One exchange's cells: the peers' past their round, the device's own never used. -/
theorem fam_done (c : Dev nD) (b : ℕ) (hb' : b ≤ 120) (hb : 24 ≤ b) (h32 : (b - 24) % 32 = 0) :
    iprop(at0 c b hb' c ∗ bigSep (seg c 0 32) (fun j => atPos ER (famCell c b hb' j) 1 ∅ 0)) ⊢ bigSep Finset.univ (fun j => done m (famCell c b hb' j)) := by
  rw [own_split c (fun j => done m (famCell c b hb' j))]
  exact BIClass.sep_mono (done_own m c b hb' hb h32) (bigSep_mono fun j _ => done_one m _)

/-- The head copies' leavings: the cells, the heads and the columns. -/
theorem trX_exit (c : Dev nD) :
    (bigSep Finset.univ (trX m c) : sProp 𝕄)
      ⊢ iprop(bigSep Finset.univ (fun i : Fin 16 => done m (dcell c (8 + i.val) (by omega)))
        ∗ (whole cc0_scratch2 c ∗ whole cc0_scratch3 c) ∗ (whole cc0_scratch0 c ∗ whole cc0_scratch1 c)) := by
  have e8 (Φ : Fin 2 × Fin 4 → sProp 𝕄) : bigSep Finset.univ (fun i : Fin 8 => Φ (bOf i, hOf i)) = bigSep Finset.univ Φ :=
    (bigSep_univ_equiv (Equiv.ofBijective (fun i : Fin 8 => (bOf i, hOf i)) (by decide)) Φ).symm
  have h : (bigSep Finset.univ (trX m c) : sProp 𝕄)
      = iprop(bigSep Finset.univ (fun i : Fin 16 => atPos ER (dcell c (8 + i.val) (by omega)) 1 ∅ 0) ∗ bigSep Finset.univ (trPay m c)) := by
    rw [big_perm (fun i => atPos ER (dcell c (8 + i.val) (by omega)) 1 ∅ 0), big_perm (trPay m c)]
    exact bigSep_sep' _ _ _
  have hk : bigSep Finset.univ (fun i : Fin 8 => trPay m c ⟨i.val, by omega⟩) ⊢ iprop(whole cc0_scratch2 c ∗ whole cc0_scratch0 c) := by
    rw [bigSep_congr (s := Finset.univ) (fun (i : Fin 8) _ => show trPay m c ⟨i.val, by omega⟩ = iprop(holds (head ktM i) c (kHead m c i) ∗ anyOf (col k4M (bOf i) (hOf i)) c) from dif_pos i.isLt),
      bigSep_sep', e8 (fun x => anyOf (col k4M x.1 x.2) c)]
    exact BIClass.sep_mono (ent (bigSep_mono fun i _ => holds_any _ c _) (ktW_join c)) (k4colW_join c)
  have hv : bigSep Finset.univ (fun i : Fin 8 => trPay m c ⟨8 + i.val, by omega⟩) ⊢ iprop(whole cc0_scratch3 c ∗ whole cc0_scratch1 c) := by
    rw [bigSep_congr (s := Finset.univ) (fun (i : Fin 8) _ => show trPay m c ⟨8 + i.val, by omega⟩ = iprop(holds (head vtM i) c (vHead m c i) ∗ anyOf (col v4M (bOf i) (hOf i)) c) from by
        have e : (⟨8 + i.val - 8, by omega⟩ : Fin 8) = i := Fin.ext (Nat.add_sub_cancel_left 8 i.val)
        unfold trPay; rw [dif_neg (by show ¬ (8 + i.val < 8); omega)]; simp only [e]),
      bigSep_sep', e8 (fun x => anyOf (col v4M x.1 x.2) c)]
    exact BIClass.sep_mono (ent (bigSep_mono fun i _ => holds_any _ c _) (vtW_join c)) (v4colW_join c)
  rw [h, big_halves (trPay m c)]
  iintro ⟨Ha, Hk, Hv⟩
  ihave Hk' := hk $$ Hk
  ihave Hv' := hv $$ Hv
  icases Hk' with ⟨H2, H0⟩
  icases Hv' with ⟨H3, H1⟩
  isplitl [Ha]
  · iapply (show bigSep Finset.univ (fun i : Fin 16 => (atPos ER (dcell c (8 + i.val) (by omega)) 1 ∅ 0 : sProp 𝕄)) ⊢ bigSep Finset.univ (fun i : Fin 16 => done m (dcell c (8 + i.val) (by omega))) from
      bigSep_mono fun i _ => done_one m _)
    iexact Ha
  isplitl [H2 H3]
  · isplitl [H2] <;> iassumption
  · isplitl [H0] <;> iassumption

/-- The slab copies' leavings: the cells and the slices of the caches. -/
theorem kvR_exit (c : Dev nD) :
    (bigSep Finset.univ (kvR m c) : sProp 𝕄)
      ⊢ iprop(bigSep Finset.univ (fun i : Fin 4 => done m (dcell c (4 + i.val) (by omega))) ∗ (kSrc m c 0 ∗ kSrc m c 1) ∗ (vSrc m c 0 ∗ vSrc m c 1)) := by
  rw [big_four, big_four]
  have h0 : kvR m c 0 ⊢ iprop(done m (dcell c 4 (by decide)) ∗ kSrc m c 0) := sep_mono_left (done_one m _)
  have h1 : kvR m c 1 ⊢ iprop(done m (dcell c 5 (by decide)) ∗ vSrc m c 0) := sep_mono_left (done_one m _)
  have h2 : kvR m c 2 ⊢ iprop(done m (dcell c 6 (by decide)) ∗ kSrc m c 1) := sep_mono_left (done_one m _)
  have h3 : kvR m c 3 ⊢ iprop(done m (dcell c 7 (by decide)) ∗ vSrc m c 1) := sep_mono_left (done_one m _)
  iintro ⟨A0, A1, A2, A3⟩
  ihave B0 := h0 $$ A0
  ihave B1 := h1 $$ A1
  ihave B2 := h2 $$ A2
  ihave B3 := h3 $$ A3
  icases B0 with ⟨D0, S0⟩
  icases B1 with ⟨D1, S1⟩
  icases B2 with ⟨D2, S2⟩
  icases B3 with ⟨D3, S3⟩
  isplitl [D0 D1 D2 D3]
  · isplitl [D0]; · iexact D0
    isplitl [D1]; · iexact D1
    isplitl [D2] <;> iassumption
  isplitl [S0 S2]
  · isplitl [S0] <;> iassumption
  · isplitl [S1] <;> iassumption

/-- What is left after the body: the scratch buffers, the device's cells at zero, and the caches. -/
def Φ₁ (c : Dev nD) : sProp 𝕄 :=
  iprop(scr9 c ∗ (semVal (barCell c) 0 ∗ fams (fun g => semVal g 0) c) ∗ (argK m c ∗ argV m c))

/-- An exchange's waits over: the positions and what the copies handed back. -/
theorem wtB_sep (c : Dev nD) (b : ℕ) (hb : b ≤ 120) {P : Fin 32 → sProp 𝕄} (h : ∀ j ∈ seg c 0 32, dmaPay m c (b + j.val) ⊢ P j) :
    bigSep (seg c 0 32) (wtB m c b hb) ⊢ iprop(bigSep (seg c 0 32) (fun j => atPos ER (famCell c b hb j) 1 ∅ 0) ∗ bigSep (seg c 0 32) P) :=
  ent (Entails.of_eq (bigSep_sep' _ _ _)) (sep_mono_right (bigSep_mono h))
/-- A send of the first exchange gives back the rows sent. -/
theorem pay_s1 (c : Dev nD) (j : Fin 32) : dmaPay m c (24 + j.val) = s1Pay c j := by
  unfold dmaPay
  rw [dif_neg (by omega), dif_neg (by omega), dif_pos (by omega)]
  exact congrArg (s1Pay c) (Fin.ext (Nat.add_sub_cancel_left 24 j.val))
/-- An arrival of the first exchange gives the landing slot with the peer's rows. -/
theorem pay_r1 (c : Dev nD) (j : Fin 32) : dmaPay m c (56 + j.val) = r1Pay m c j := by
  unfold dmaPay
  rw [dif_neg (by omega), dif_neg (by omega), dif_neg (by omega), dif_pos (by omega)]
  exact congrArg (r1Pay m c) (Fin.ext (Nat.add_sub_cancel_left 56 j.val))
/-- A send of the second exchange gives back its share of the reduced rows. -/
theorem pay_s2 (c : Dev nD) (j : Fin 32) : dmaPay m c (88 + j.val) = s2Pay m c j := by
  unfold dmaPay
  rw [dif_neg (by omega), dif_neg (by omega), dif_neg (by omega), dif_neg (by omega), dif_pos (by omega)]
  exact congrArg (s2Pay m c) (Fin.ext (Nat.add_sub_cancel_left 88 j.val))

/-- The body's leavings and what was set aside make up the scratch buffers, the cells at zero and the caches. -/
theorem exit (c : Dev nD) :
    iprop(recs m K ∗ bodyOut m c ∗ aside m c) ⊢ |={Set.univ}=> iprop(Ow c 0 ∗ (xP m c ∗ wqP m c ∗ woP m c ∗ outP m c) ∗ Φ₁ m c) := by
  have hph := phW_join (F := F) c
  have hpb := pbW_join (F := F) c
  have hrs := rsW_join (F := F) c
  rw [big_two] at hph
  rw [own_split c] at hpb hrs
  have w1 := wtB_sep m c 24 (by decide) (P := fun j => anyOf (slot pbM j) c) fun j _ => Entails.of_eq (pay_s1 m c j)
  have w2 := wtB_sep m c 56 (by decide) (P := fun j => anyOf (slot rsM j) c) fun j _ => ent (Entails.of_eq (pay_r1 m c j)) (holds_any _ c _)
  have w3 := wtB_sep m c 88 (by decide) (P := s2Pay m c) fun j _ => Entails.of_eq (pay_s2 m c j)
  unfold bodyOut aside rsAll
  iintro ⟨#HR, ⟨Ho, ⟨Hkv, Htr, Hbar⟩, Hst, ⟨Hp0, Hp1, Hw1, Hpbc⟩, ⟨Hw2, Hrsc⟩, Hred, Hw3, Hag, Hr2⟩, ⟨As1, Ar1, As2, Ar2⟩, HrK, HrV⟩
  ihave Hw1' := w1 $$ Hw1
  ihave Hw2' := w2 $$ Hw2
  ihave Hw3' := w3 $$ Hw3
  icases Hw1' with ⟨P1, Q1⟩
  icases Hw2' with ⟨P2, Q2⟩
  icases Hw3' with ⟨P3, Q3⟩
  ihave Hkv' := (kvR_exit m c) $$ Hkv
  icases Hkv' with ⟨Dkv, ⟨Hk0, Hk1⟩, Hv0, Hv1⟩
  ihave Htr' := (trX_exit m c) $$ Htr
  icases Htr' with ⟨Dtr, ⟨H2, H3⟩, H0, H1⟩
  ihave Db := (done_one m (barCell c)) $$ Hbar
  ihave D1 := (fam_done m c 24 (by decide) (by decide) (by decide)) $$ [As1 P1]
  · isplitl [As1] <;> iassumption
  ihave D2 := (fam_done m c 56 (by decide) (by decide) (by decide)) $$ [Ar1 P2]
  · isplitl [Ar1] <;> iassumption
  ihave D3 := (fam_done m c 88 (by decide) (by decide) (by decide)) $$ [As2 P3]
  · isplitl [As2] <;> iassumption
  ihave D4 := (fam_done m c 120 (by decide) (by decide) (by decide)) $$ [Ar2 Hr2]
  · isplitl [Ar2]; · iexact Ar2
    iexact Hr2
  ihave HK := (argK_split m c).2 $$ [Hk0 Hk1 HrK]
  · isplitl [Hk0]; · iexact Hk0
    isplitl [Hk1] <;> iassumption
  ihave HV := (argV_split m c).2 $$ [Hv0 Hv1 HrV]
  · isplitl [Hv0]; · iexact Hv0
    isplitl [Hv1] <;> iassumption
  ihave H4 := hph $$ [Hp0 Hp1]
  · isplitl [Hp0] <;> iassumption
  ihave Hpbc' := (holds_any (slot pbM c) c (pbRow m c c)) $$ Hpbc
  ihave H5 := hpb $$ [Hpbc' Q1]
  · isplitl [Hpbc'] <;> iassumption
  ihave Hrsc' := (holds_any (slot rsM c) c (rsRow m c c)) $$ Hrsc
  ihave H6 := hrs $$ [Hrsc' Q2]
  · isplitl [Hrsc'] <;> iassumption
  ihave H7 := (red_exit m c) $$ [Hred Q3]
  · isplitl [Hred]; · iexact Hred
    iexact Q3
  imod (close_all m K c) $$ [Db Dkv Dtr D1 D2 D3 D4] with Hz
  · isplitl []; · iexact HR
    isplitl [Db]; · iexact Db
    unfold fams
    isplitl [Dkv]; · iexact Dkv
    isplitl [Dtr]; · iexact Dtr
    isplitl [D1]; · iexact D1
    isplitl [D2]; · iexact D2
    isplitl [D3]; · iexact D3
    iexact D4
  imodintro
  isplitl [Ho]; · iexact Ho
  isplitl [Hst]; · iexact Hst
  unfold Φ₁ scr9
  isplitr [Hz HK HV]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · unfold whole; iexists (redV m c); iexact H7
    unfold whole agP; iexists (agV m); iexact Hag
  isplitl [Hz]; · iexact Hz
  isplitl [HK] <;> iassumption

end Exit

end Cert.Attn
-- ==== Proof.Launch.lean ====
/-
# The launch: the body's obligation and the run
-/
module

public import proofs.«01_k».proof.Proof.Exit
public import Idealize.ShloMosaic.Lib.Pipeline.CollectiveSegs

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

section Launch
variable (m : (ℓ : Loc nD τ sig) → Buf (Elt F) ℓ) (ρ : Dev nD → PrngReg)

/-- What device `c`'s body starts from beside its buffers: the invariants at some names with its positions and tokens, its credit, the levels, and the caches. -/
def start (c : Dev nD) : sProp 𝕄 := iprop((∃ K, recs m K ∗ linear c) ∗ credP c ∗ levAts L lv ∗ (argK m c ∗ argV m c))
def Φ₀ (c : Dev nD) : sProp 𝕄 := iprop(start m c ∗ scr9 c)

/-- What the region's windows and the body's invariant hold before and after the one point. -/
def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => wqv m c
    | ⟨2, _⟩ => wov m c
    | ⟨3, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

omit [FloatOps F] in
/-- A family over the four staged buffers is its four members. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt () t₀.succ
    ∗ stg c cc0_stg0_0 (xv m c) ∗ stg c cc0_stg1_0 (wqv m c) ∗ stg c cc0_stg2_0 (wov m c) ∗ stg c cc0_stg3_0 (outV m))

/-- The input's staging buffer holds the input when the body starts. -/
theorem before_x (c : Dev nD) (d) : (dats m 0 c).before (0 : Fin 4) t₀ d = xv m c := by unfold Dat.before; rw [if_pos (by rfl)]; rfl
/-- The query weights' staging buffer holds them when the body starts. -/
theorem before_wq (c : Dev nD) (d) : (dats m 0 c).before (1 : Fin 4) t₀ d = wqv m c := by unfold Dat.before; rw [if_pos (by rfl)]; rfl
/-- The output weights' staging buffer holds them when the body starts. -/
theorem before_wo (c : Dev nD) (d) : (dats m 0 c).before (2 : Fin 4) t₀ d = wov m c := by unfold Dat.before; rw [if_pos (by rfl)]; rfl

/-- The body, with the invariants and what was set aside, run to the pieces the region's exit takes. -/
theorem body_done (c : Dev nD) (K : Dev nD × Fin 149 → ℕ) :
    iprop((ctx m K ∗ bodyIn m c) ∗ (recs m K ∗ aside m c)) ⊢ wpc c (cc0__body_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) (fun _ => bodyPost m c) := by
  unfold cc0__body_skel
  refine ent (sep_mono_left (body_main m K c)) (ent (show iprop(wpc c (k0_part45 xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) (fun _ => bodyOut m c) ∗ (recs m K ∗ aside m c)) ⊢ wpc c (k0_part45 xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) (fun _ => iprop(bodyOut m c ∗ (recs m K ∗ aside m c))) from by unfold wpc; exact wp_frame_r _ _ _) ?_)
  rw [show ∀ (p : Pg F PUnit) Q, wpc c (p >>= fun _ => pure ⟨⟩) Q = wpc c p (fun _ => wpc c (pure ⟨⟩ : Pg F PUnit) Q) from fun p Q => by unfold wpc; exact wp_bind _ _ _ p _ Q]
  unfold wpc
  refine wp_mono _ _ _ fun _ => ?_
  show _ ⊢ iprop(|={Set.univ}=> bodyPost m c)
  iintro ⟨Hout, HR, Has⟩
  imod (exit m K c) $$ [Hout HR Has] with ⟨HO, ⟨Hx, Hwq, Hwo, Ho⟩, HΦ⟩
  · isplitl [HR]; · iexact HR
    isplitl [Hout] <;> iassumption
  imodintro
  unfold bodyPost
  isplitl [HΦ]; · iexact HΦ
  isplitl [HO]
  · unfold Dat.owesAt Pipeline.owesWithin
    rw [show (dats m 0 c).owed t₀.succ = 0 from rfl]
    unfold Ow
    icases HO with ⟨%W, HO⟩
    iexists W
    isplitr; · ipureintro; exact fun _ _ => Set.mem_union_left _ trivial
    iexact HO
  isplitl [Hx]; · iexists _; isplitr; · ipureintro; rfl
                  unfold xP; iexact Hx
  isplitl [Hwq]; · iexists _; isplitr; · ipureintro; rfl
                   unfold wqP; iexact Hwq
  isplitl [Hwo]; · iexists _; isplitr; · ipureintro; rfl
                   unfold woP; iexact Hwo
  iexists _; isplitr; · ipureintro; rfl
  unfold outP; iexact Ho

/-- The body run from the launch's pieces to the pieces the region's exit takes. -/
theorem body_run (c : Dev nD) : bodyPre m c ⊢ wpc c (cc0__body_skel xM hx wqM hwq kA hkA vA hvA woM hwo outM hout k4M hk4 v4M hv4 ktM hkt vtM hvt pM hp pbM hpb rsM hrs redM hred agM hag cc0_scratch9 cc0_scratch10 cc0_scratch11 cc0_scratch12 cc0_scratch13 cc0_scratch14) (fun _ => bodyPost m c) := by
  unfold bodyPre Φ₀ start
  iintro ⟨⟨⟨⟨%K, #HR, Hlin⟩, Hcr, #Hlev, Hargs⟩, Hscr⟩, Ho, ⟨%d0, %g0, %hg0, Hx⟩, ⟨%d1, %g1, %hg1, Hwq⟩, ⟨%d2, %g2, %hg2, Hwo⟩, ⟨%d3, %g3, %hg3, Hout⟩⟩
  rw [before_x] at hg0
  rw [before_wq] at hg1
  rw [before_wo] at hg2
  subst hg0 hg1 hg2
  unfold Dat.owesAt Pipeline.owesWithin
  icases Ho with ⟨%W, %hW, HO⟩
  rw [show (dats m 0 c).owed t₀.castSucc = sigO c 0 from rfl]
  ihave He := (entry m c) $$ [Hlin Hcr Hargs Hscr HO Hx Hwq Hwo Hout]
  · isplitl [Hlin]; · iexact Hlin
    isplitl [Hcr]; · iexact Hcr
    isplitl [Hargs]; · iexact Hargs
    isplitl [Hscr]; · iexact Hscr
    isplitl [HO]; · unfold Ow; iexists W; iexact HO
    isplitl [Hx]; · unfold xP; iexact Hx
    isplitl [Hwq]; · unfold wqP; iexact Hwq
    isplitl [Hwo]; · unfold woP; iexact Hwo
    unfold outAny; iexists g3; iexact Hout
  icases He with ⟨Hin, Has⟩
  iapply (body_done m c K)
  isplitl [Hin]
  · isplitr [Hin]
    · unfold ctx recs
      icases HR with ⟨#H1, #H2⟩
      isplitl []; · iexact H1
      isplitl []; · iexact H2
      iexact Hlev
    · iexact Hin
  · isplitl []; · iexact HR
    iexact Has

/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  have h := body_run m c
  unfold wpc at h
  rw [← cc0__body_eq_skeleton] at h
  unfold bodyPre bodyPost at h
  refine ent ?_ (ent h ?_)
  · exact Entails.of_eq rfl
  · exact Entails.of_eq rfl

/-! ## The launch -/

/-- The body has each staging buffer in full. -/
theorem share_eq (c : Dev nD) (w : Fin cfg0.W) : (dats m 0 c).share w = fullShare := by unfold Dat.share; split <;> rfl

/-- What the launch gives a device, with its ghost state, is what its program starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hr, Hlev, Hcr, -, HG⟩
  ihave Hc := (creds (F := F) c) $$ Hcr
  ihave Hr' := (show Pipeline.unscopedRestP Pipeline.Prefetch.none cfg0.spec c (fun b => m ((c : Thread nD τ).loc b)) ⊢ iprop(argK m c ∗ argV m c) from by
    rw [Pipeline.unscopedRestP_none]
    exact Entails.of_eq (unscopedRest0_eq c fun b => m ((c : Thread nD τ).loc b))) $$ Hr
  imodintro
  unfold start G' credP
  isplitl
  · isplitl [HG]; · iexact HG
    isplitl [Hc]; · iexact Hc
    isplitl [Hlev]; · iexact Hlev
    iexact Hr'
  · iempintro

/-- What a device starts from, with its scratch buffers, is the body's precondition. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = scr9 c from scopedRest0_eq c]
  unfold Φ₀
  iintro ⟨Hs, -, Hr⟩
  isplitl [Hs] <;> iassumption

/-- What every device keeps past the region: its barrier at zero and the caches. -/
def Yc (c : Dev nD) : sProp 𝕄 := iprop(unscopedSems0 c ∗ (argK m c ∗ argV m c))

/-- The body's postcondition gives back the semaphores, the scratch buffers and the caches. -/
theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, show Pipeline.scopedRest cfg0.spec c = scr9 c from scopedRest0_eq c, ownSems0_eq]
  unfold Φ₁ Yc
  rw [unscopedSems0_eq]
  iintro ⟨Hr, ⟨Hb, Hf⟩, Ha⟩
  isplitl [Hb Ha]
  · isplitl [Hb] <;> iassumption
  isplitl [Hf] <;> iassumption

/-- A cell of level 0 may be awaited both at the launch and when nothing is owed. -/
theorem mayWait_any (c : Dev nD) (sm : SemLoc sig) (h : lvOf sm = 0) (O : CellTallies nD τ sig Unit) (hO : O = O₀ c ∨ O = 0) :
    (levAts L lv : sProp 𝕄) ⊢ MayWait (c : Thread nD τ) sm () O := by
  rcases hO with rfl | rfl
  · exact mayWait c sm 0 _ (le_of_eq h) (add_above (add_above (ow2_above c 0 0 (by decide)) (ow1_above c 0 0 (by decide))) (owB_above c 0 0 (by decide)))
  · exact mayWait_zero c sm
/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_any c _ (by fin_cases w <;> fin_cases s <;> decide) _ (by
      rcases t with ⟨_ | _, ht⟩
      · exact Or.inl rfl
      · exact Or.inr rfl)

/-! ## The run -/

/-- The windows' arrays after the region. -/
def finalA (c : Dev nD) (w : Fin cfg0.W) : Buf (Elt F) ((cfg0.win w).arr.view.loc (c : Thread nD τ)) := (dats m 0 c).arrAt w cfg0.N
/-- What holds of the final memory: the windows' arrays as computed, the caches as they were. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

/-- What is read of the final state where a device keeps `Yc`. -/
theorem read_end (c : Dev nD) (s' : Phys nD τ sig (Elt F)) :
    iprop(Yc m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2) ∧ s'.mem.mem ((c : Thread nD τ).loc main_arg3) = m ((c : Thread nD τ).loc main_arg3)⌝ ∗ SI s') := by
  unfold Yc argK argV
  iintro ⟨⟨Hu, HK, HV⟩, -, HSI⟩
  icombine HSI HK gives %hK
  icombine HSI HV gives %hV
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hK i (Finset.mem_univ i), funext fun i => hV i (Finset.mem_univ i)⟩
  · iexact HSI

set_option maxRecDepth 8000 in
/-- From any memory with zero counters, for any float values: every weakly fair execution of the 32 devices ends, with
    the windows' arrays as computed, the caches unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Yc m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => read_end m c s')
    (hQ := fun _ h hs => ⟨fun c => ⟨fun w => (h c).1 w, (h c).2.2.2⟩, sem_eq_zero hs fun c => (h c).2.2.1⟩)

end Launch

end Cert.Attn
-- ==== Proof.Frames.lean ====
/-
# The frames: the runs read at the arguments and at the counters
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `main_arg0` ends as it was. -/
theorem final_arg0 (m : (ℓ : Loc nD τ sig) → Buf (Elt F) ℓ) (c : Dev nD) : finalA m c 0 = m ((c : Thread nD τ).loc main_arg0) :=
  (dats m 0 c).arrAt_in (0 : Fin 4) rfl _
/-- `main_arg1` ends as it was. -/
theorem final_arg1 (m : (ℓ : Loc nD τ sig) → Buf (Elt F) ℓ) (c : Dev nD) : finalA m c 1 = m ((c : Thread nD τ).loc main_arg1) :=
  (dats m 0 c).arrAt_in (1 : Fin 4) rfl _
/-- `main_arg4` ends as it was. -/
theorem final_arg4 (m : (ℓ : Loc nD τ sig) → Buf (Elt F) ℓ) (c : Dev nD) : finalA m c 2 = m ((c : Thread nD τ).loc main_arg4) :=
  (dats m 0 c).arrAt_in (2 : Fin 4) rfl _

/-- What the run says of the arguments: each ends as it was. -/
theorem args_kept {m : (ℓ : Loc nD τ sig) → Buf (Elt F) ℓ} {r : PUnit × MemSt nD τ sig (Elt F)} (h : QC m r) (c : Dev nD) :
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4) :=
  ⟨((h c).1 (0 : Fin 4)).trans (final_arg0 m c), ((h c).1 (1 : Fin 4)).trans (final_arg1 m c), (h c).2.1, (h c).2.2,
    ((h c).1 (2 : Fin 4)).trans (final_arg4 m c)⟩

/-- `Cert.quiescent_KernelIdeal`: the idealized kernel's run, read at its arguments and at its counters. -/
theorem frame_ideal : Cert.quiescent_KernelIdeal := fun m ρ _ =>
  (θ_run defs _ _).mono (fun _ h => ⟨fun c => args_kept h.1 c, h.2⟩) (run_main (F := Ideal) m ρ)

/-! ## The kernel as printed

The idealized print differs from the kernel's own in names alone, so its run is the kernel's at any floats. -/

/-- The two prints' body tables are one. -/
theorem table_eq : (Cert.Kernel.defs₀ : Defs nD τ sig (Elt F) Λ₀) = defs₀ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- The two prints' tables of regions and bodies are one. -/
theorem defs_eq : Cert.Kernel.defs (F := F) = defs (F := F) := by
  unfold Cert.Kernel.defs Cert.KernelIdeal.defs
  exact congrArg (Pipeline.defs (pcfgs (F := F))) table_eq

/-- The two prints' programs are one. -/
theorem main_eq : Cert.Kernel.main (F := F) = main (F := F) := rfl

/-- `Cert.quiescent_Kernel`: the run at the bit-exact floats, read at its arguments and at its counters. -/
theorem frame_kernel : Cert.quiescent_Kernel := fun m ρ _ => by
  have h := run_main (F := Bits) m ρ
  rw [← main_eq, ← defs_eq] at h
  refine (θ_run Cert.Kernel.defs _ _).mono ?_ h
  exact fun _ h => ⟨fun c => args_kept h.1 c, h.2⟩

/-- `Cert.quiescent_ReferenceIdeal`: the reference's run, read at its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn
-- ==== Proof.Soft.lean ====
/-
# One attention head over the extended reals, and the kernel's printed head read at an index.
-/
module

public import proofs.«01_k».proof.Proof.Vals
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

section Spec
variable (M : Fin 256 → Fin 256 → BitVec 1) (q k v : Fin 256 → Fin 64 → EReal)

/-- The masked, scaled score of query row `i` against key row `j`. -/
def scE (i j : Fin 256) : EReal :=
  Scalar.select (M i j) ((∑ d : Fin 64, q i d * k j d) * Ideal.ofBits .f32 0x3E000000#32) (Ideal.ofBits .f32 0xCE6E6B28#32)
/-- A row's largest score. -/
def mxE (i : Fin 256) : EReal := (Finset.univ : Finset (Fin 256)).fold max (Ideal.ofBits .f32 0xFF800000#32) (scE M q k i)
/-- The exponential of a score less its row's largest. -/
def exE (i j : Fin 256) : EReal := Ideal.exp (scE M q k i j - mxE M q k i)
/-- The head's context: the softmax weights applied to the values. -/
def ctxE (i : Fin 256) (d : Fin 64) : EReal :=
  ∑ j : Fin 256, Ideal.div (exE M q k i j) (∑ t : Fin 256, exE M q k i t) * v j d
end Spec

/-! ## The kernel's head at vector level -/

/-- Scores of a head: queries against keys. -/
def headS (q k : FVec F S256x64 .bf16) : FVec F S256x256 .f32 :=
  matmul dot_S256x64_S256x64_S256x256_1_1_0_0_n_n none q k (constant S256x256 .f32 0x00000000#32)
/-- Scores scaled and masked. -/
def headM (M : IVec S256x256 1) (s : FVec F S256x256 .f32) : FVec F S256x256 .f32 :=
  select M (mulf s (broadcast S256x256 (Scalar.ofBits .f32 0x3E000000#32))) (broadcast S256x256 (Scalar.ofBits .f32 0xCE6E6B28#32))
/-- A vector of row values spread over the row. -/
def spread (r : FVec F S256 .f32) : FVec F S256x256 .f32 :=
  broadcastTo S256x256 (shapeCast S256x1 r shapeCasts_S256_S256x1) broadcasts_S256x1_S256x256
/-- Exponentials of the masked scores less the row's largest. -/
def headE (s : FVec F S256x256 .f32) : FVec F S256x256 .f32 :=
  exp (subf s (spread (multiReduction .maximumf [1] S256 s 0xFF800000#32 reduces_S256x256_S256 (.inl rfl) rfl)))
/-- Softmax weights from the exponentials. -/
def headW (e : FVec F S256x256 .f32) : FVec F S256x256 .f32 :=
  divf e (spread (multiReduction .add [1] S256 e 0x00000000#32 reduces_S256x256_S256 (.inl rfl) rfl))
/-- The weights applied to the values. -/
def headC (w : FVec F S256x256 .f32) (v : FVec F S256x64 .bf16) : FVec F S256x64 .f32 :=
  matmul dot_S256x256_S256x64_S256x64_1_0_0_1_n_n none (truncf .bf16 w bitsLt_bf16_f32) v (constant S256x64 .f32 0x00000000#32)
/-- A head's context from its queries, keys and values. -/
def headX (M : IVec S256x256 1) (q k v : FVec F S256x64 .bf16) : FVec F S256x64 .f32 := headC (headW (headE (headM M (headS q k)))) v
/-- A context projected through its rows of the output weights. -/
def headP (x : FVec F S256x64 .f32) (wo : FVec F S64x512 .f32) : FVec F S256x512 .f32 :=
  matmul dot_S256x64_S64x512_S256x512_1_0_0_1_n_n none (truncf .bf16 x bitsLt_bf16_f32)
    (truncf .bf16 (shapeCast S64x512 wo shapeCasts_S64x512_S64x512) bitsLt_bf16_f32) (constant S256x512 .f32 0x00000000#32)
/-- A loaded slab with its unit axis dropped. -/
def headL (w : FVec F S1x256x64 .f32) : FVec F S256x64 .bf16 :=
  truncf .bf16 (shapeCast S256x64 w shapeCasts_S1x256x64_S256x64) bitsLt_bf16_f32

/-! ## … and read at an index -/

/-- A score is the sum of the query's elements by the key's. -/
theorem headS_apply (q k : FVec Ideal S256x64 .bf16) (i j : Fin 256) :
    headS q k (ix2 i j) = ∑ d : Fin 64, q (ix2 i d) * k (ix2 j d) := by
  refine (Ideal.matmul_transposedRhs_apply (M := 256) (K := 64) (N := 256) none q k (constant S256x256 .f32 0x00000000#32) i j).trans ?_
  rw [constant_apply, Ideal.ofBits_zero_f32, zero_add]

/-- A masked score is the scaled score where the mask is set and the large negative constant elsewhere. -/
theorem headM_apply (M : IVec S256x256 1) (s : FVec Ideal S256x256 .f32) (i : S256x256.Idx) :
    headM M s i = Scalar.select (M i) (s i * Ideal.ofBits .f32 0x3E000000#32) (Ideal.ofBits .f32 0xCE6E6B28#32) := rfl

/-- An exponential of a vector is taken element by element. -/
theorem exp_apply {s : Shape} (a : FVec Ideal s .f32) (i : s.Idx) : exp a i = Ideal.exp (a i) := rfl

/-- A value per row, spread over the row, is the row's value. -/
theorem spread_apply (r : FVec F S256 .f32) (i j : Fin 256) : spread r (ix2 i j) = r (ix1 i) := by
  unfold spread
  rw [broadcastTo_apply _ _ (ix2 i j) (ix2 i (0 : Fin 1)) (fun a => by fin_cases a <;> rfl)]
  exact shapeCast_apply _ _ _ (ix1 i) (by rw [Shape.rowMajor_val_one, Shape.rowMajor_val_two]; simp [ix1, ix2])

/-- A row's maximum is the fold of `max` over the row. -/
theorem rowMax_apply (s : FVec Ideal S256x256 .f32) (i : Fin 256) :
    multiReduction .maximumf [1] S256 s 0xFF800000#32 reduces_S256x256_S256 (.inl rfl) rfl (ix1 i)
      = (Finset.univ : Finset (Fin 256)).fold max (Ideal.ofBits .f32 0xFF800000#32) (fun t => s (ix2 i t)) := by
  refine (Ideal.multiReduction_maximumf_single s _ reduces_S256x256_S256 _ _ (ix1 i)).trans ?_
  exact congrArg (fun f => Finset.fold max (Ideal.ofBits .f32 0xFF800000#32) f (Finset.univ : Finset (Fin 256)))
    (funext fun t => congrArg s (eq_ix2 _))
/-- A row's sum is the sum over the row. -/
theorem rowSum_apply (s : FVec Ideal S256x256 .f32) (i : Fin 256) :
    multiReduction .add [1] S256 s 0x00000000#32 reduces_S256x256_S256 (.inl rfl) rfl (ix1 i) = ∑ t : Fin 256, s (ix2 i t) := by
  refine (Ideal.multiReduction_add_single s _ reduces_S256x256_S256 _ _ (ix1 i)).trans ?_
  exact Finset.sum_congr rfl fun t _ => congrArg s (eq_ix2 _)

/-- An exponential is of the score less the row's largest. -/
theorem headE_apply (s : FVec Ideal S256x256 .f32) (i j : Fin 256) :
    headE s (ix2 i j) = Ideal.exp (s (ix2 i j)
      - (Finset.univ : Finset (Fin 256)).fold max (Ideal.ofBits .f32 0xFF800000#32) (fun t => s (ix2 i t))) := by
  unfold headE
  rw [exp_apply, subf_apply, spread_apply]
  exact congrArg (fun z => Ideal.exp (s (ix2 i j) - z)) (rowMax_apply s i)

/-- A weight is the exponential over its row's sum. -/
theorem headW_apply (e : FVec Ideal S256x256 .f32) (i j : Fin 256) :
    headW e (ix2 i j) = Ideal.div (e (ix2 i j)) (∑ t : Fin 256, e (ix2 i t)) := by
  unfold headW
  rw [divf_apply, spread_apply]
  exact congrArg (Ideal.div (e (ix2 i j))) (rowSum_apply e i)

/-- A context element is the sum of the values by the weights. -/
theorem headC_apply (w : FVec Ideal S256x256 .f32) (v : FVec Ideal S256x64 .bf16) (i : Fin 256) (d : Fin 64) :
    headC w v (ix2 i d) = ∑ j : Fin 256, w (ix2 i j) * v (ix2 j d) := by
  refine (Ideal.matmul_plain_apply (M := 256) (K := 256) (N := 64) none (truncf .bf16 w bitsLt_bf16_f32) v (constant S256x64 .f32 0x00000000#32) i d).trans ?_
  rw [constant_apply, Ideal.ofBits_zero_f32, zero_add]
  rfl

/-- The kernel's printed head is the head over the extended reals. -/
theorem headX_apply (M : IVec S256x256 1) (q k v : FVec Ideal S256x64 .bf16) (i : Fin 256) (d : Fin 64) :
    headX M q k v (ix2 i d)
      = ctxE (fun a b => M (ix2 a b)) (fun a b => q (ix2 a b)) (fun a b => k (ix2 a b)) (fun a b => v (ix2 a b)) i d := by
  have hS : ∀ a b, headM M (headS q k) (ix2 a b) = scE (fun a b => M (ix2 a b)) (fun a b => q (ix2 a b)) (fun a b => k (ix2 a b)) a b :=
    fun a b => by rw [headM_apply, headS_apply]; rfl
  have hE : ∀ a b, headE (headM M (headS q k)) (ix2 a b)
      = exE (fun a b => M (ix2 a b)) (fun a b => q (ix2 a b)) (fun a b => k (ix2 a b)) a b := fun a b => by
    rw [headE_apply]; simp only [hS]; rfl
  unfold headX
  rw [headC_apply]
  refine Finset.sum_congr rfl fun j _ => ?_
  rw [headW_apply]; simp only [hE]

/-- A projected element is the sum of the context's elements by the output weights. -/
theorem headP_apply (x : FVec Ideal S256x64 .f32) (wo : FVec Ideal S64x512 .f32) (i : Fin 256) (n : Fin 512) :
    headP x wo (ix2 i n) = ∑ d : Fin 64, x (ix2 i d) * wo (ix2 d n) := by
  refine (Ideal.matmul_plain_apply (M := 256) (K := 64) (N := 512) none (truncf .bf16 x bitsLt_bf16_f32)
    (truncf .bf16 (shapeCast S64x512 wo shapeCasts_S64x512_S64x512) bitsLt_bf16_f32) (constant S256x512 .f32 0x00000000#32) i n).trans ?_
  rw [constant_apply, Ideal.ofBits_zero_f32, zero_add, shapeCast_self]
  rfl

/-! ## The kernel's partial products are sums of heads -/

section Heads
variable (m : (ℓ : Loc nD τ sig) → Buf (Elt F) ℓ)

/-- Where a head's query element lies among the device's queries. -/
def qIx (i : Fin 8) (x : S256x64.Idx) : S512x256.Idx :=
  ix2 (⟨256 * (bOf i).val + (x 0).val, by have : (x 0).val < 256 := (x 0).isLt; omega⟩ : Fin 512)
    (⟨64 * (hOf i).val + (x 1).val, by have : (x 1).val < 64 := (x 1).isLt; omega⟩ : Fin 256)
/-- The queries of one head and one batch. -/
def qHead (c : Dev nD) (i : Fin 8) : FVec F S256x64 .bf16 := fun x =>
  truncf .bf16 (qv m c) bitsLt_bf16_f32 (qIx i x)

/-- A head's queries are a slice of the device's. -/
theorem qHead_slice (c : Dev nD) (i : Fin 8) (h : S512x256.Slices ![256 * (bOf i).val, 64 * (hOf i).val] S256x64) :
    truncf .bf16 (extractStridedSlice S256x64 ![256 * (bOf i).val, 64 * (hOf i).val] (qv m c) h) bitsLt_bf16_f32 = qHead m c i :=
  funext fun x => congrArg (fun z : F .f32 => FloatOps.truncf (F := F) (φ := .f32) .bf16 bitsLt_bf16_f32 z)
    (extractStridedSlice_apply _ (qv m c) h x (qIx i x) (fun a => by fin_cases a <;> rfl))

/-- Head `i`'s share of a partial product. -/
def prodH (c : Dev nD) (i : Fin 8) : FVec F S256x512 .f32 :=
  headP (headX maskV (qHead m c i) (headL (kv m c i)) (headL (vv m c i))) (woH m c (hOf i))

/-- The sum of four heads' shares, in program order, as stored. -/
def prodSum (c : Dev nD) (h0 h1 h2 h3 : Fin 8) : FVec F S256x512 .bf16 :=
  shapeCast S256x512 (truncf .bf16 (addf (addf (addf (prodH m c h0) (prodH m c h1)) (prodH m c h2)) (prodH m c h3)) bitsLt_bf16_f32)
    shapeCasts_S256x512_S256x512
/-- Batch 0's partial product is the sum of its four heads' shares. -/
theorem pb0_eq (c : Dev nD) : pb0 m c = prodSum m c 0 1 2 3 := by
  unfold prodSum prodH
  rw [← qHead_slice m c 0 slices_S512x256_o0_0_S256x64, ← qHead_slice m c 1 slices_S512x256_o0_64_S256x64,
    ← qHead_slice m c 2 slices_S512x256_o0_128_S256x64, ← qHead_slice m c 3 slices_S512x256_o0_192_S256x64]
  rfl
/-- Batch 1's partial product is the sum of its four heads' shares. -/
theorem pb1_eq (c : Dev nD) : pb1 m c = prodSum m c 4 5 6 7 := by
  unfold prodSum prodH
  rw [← qHead_slice m c 4 slices_S512x256_o256_0_S256x64, ← qHead_slice m c 5 slices_S512x256_o256_64_S256x64,
    ← qHead_slice m c 6 slices_S512x256_o256_128_S256x64, ← qHead_slice m c 7 slices_S512x256_o256_192_S256x64]
  rfl

end Heads

end Cert.Attn
-- ==== Proof.SumK.lean ====
/-
# The kernel's result read at an index: a sum over devices, heads and head columns.
-/
module

public import proofs.«01_k».proof.Proof.Soft

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

section Reads
variable (m : (ℓ : Loc nD τ sig) → Buf (Elt F) ℓ)

/-- The input as staged is the argument. -/
theorem xv_eq (c : Dev nD) : xv m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The device's query weights as staged are its argument. -/
theorem wqv_eq (c : Dev nD) : wqv m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
/-- The device's output weights as staged are its argument. -/
theorem wov_eq (c : Dev nD) : wov m c = m ((c : Thread nD τ).loc main_arg4) := by
  have hz : (fun a => (win0_2.index (0 : Fin 1)) a * main_arg4.ty.shape.size a) = fun _ => 0 := funext fun a => by fin_cases a <;> decide
  exact Memref.read_access_unit_zero (Elt F) main_arg4 hz (fun a => by fin_cases a <;> decide) _

/-- Head `h` of device `c` among all heads. -/
abbrev gOf (c : Dev nD) (h : Fin 4) : Fin 128 := ⟨4 * c.val + h.val, by have : c.val < 32 := c.isLt; omega⟩

/-- A slab of K or V read at an index. -/
theorem slab_read (f : S2x256x128x64.Idx → F .f32) (c : Dev nD) (b : Fin 2) (j : Fin 256) (h : Fin 4) (d : Fin 64) :
    shapeCast S256x4x64 (fun x : S1x256x4x64.Idx => f ((srcR c b).toLoadRect.idx x)) (by decide) (ix3 j h d) = f (ix4 b j (gOf c h) d) := by
  rw [shapeCast_apply _ _ (ix3 j h d) (ix4 (0 : Fin 1) j h d) (by
    rw [Shape.rowMajor_val_three, Shape.rowMajor_val_four]; simp [ix3, ix4])]
  refine congrArg f (funext fun a => Fin.ext ?_)
  fin_cases a
  · show b.val + 1 * 0 = b.val; omega
  · show 0 + 1 * j.val = j.val; omega
  · show 4 * c.val + 1 * h.val = 4 * c.val + h.val; omega
  · show 0 + 1 * d.val = d.val; omega

/-- The input as device `c` holds it. -/
abbrev inX (c : Dev nD) : S2x256x512.Idx → F .f32 := m ((c : Thread nD τ).loc main_arg0)
/-- The device's block of the query weights. -/
abbrev inWq (c : Dev nD) : S512x256.Idx → F .f32 := m ((c : Thread nD τ).loc main_arg1)
/-- K as device `c` holds it. -/
abbrev inK (c : Dev nD) : S2x256x128x64.Idx → F .f32 := m ((c : Thread nD τ).loc main_arg2)
/-- V as device `c` holds it. -/
abbrev inV (c : Dev nD) : S2x256x128x64.Idx → F .f32 := m ((c : Thread nD τ).loc main_arg3)
/-- The device's block of the output weights. -/
abbrev inWo (c : Dev nD) : S256x512.Idx → F .f32 := m ((c : Thread nD τ).loc main_arg4)

/-- A slab of K is the device's heads of its batch of the cache. -/
theorem kSlab_apply (c : Dev nD) (b : Fin 2) (j : Fin 256) (h : Fin 4) (d : Fin 64) :
    kSlab m c b (ix3 j h d) = inK m c (ix4 b j (gOf c h) d) := slab_read (inK m c) c b j h d
/-- A slab of V is the device's heads of its batch of the cache. -/
theorem vSlab_apply (c : Dev nD) (b : Fin 2) (j : Fin 256) (h : Fin 4) (d : Fin 64) :
    vSlab m c b (ix3 j h d) = inV m c (ix4 b j (gOf c h) d) := slab_read (inV m c) c b j h d

/-- Dropping the unit axis a load adds gives the head back. -/
theorem headL_unsq (w : Vec Ideal S256x64 .f32) (x : S256x64.Idx) : headL (unsq w) x = w x :=
  congrArg w (Equiv.symm_apply_apply _ x)

/-- A head's rows of the output weights, read from the device's block. -/
theorem woH_apply (c : Dev nD) (h : Fin 4) (d : Fin 64) (n : Fin 512) :
    woH m c h (ix2 d n) = inWo m c (ix2 (⟨64 * h.val + d.val, by omega⟩ : Fin 256) n) := by
  unfold woH
  rw [wov_eq]
  refine congrArg (inWo m c) (funext fun a => Fin.ext ?_)
  fin_cases a
  · show 64 * h.val + 1 * d.val = 64 * h.val + d.val; omega
  · show 0 + 1 * n.val = n.val; omega

end Reads

section Sums
variable (m : (ℓ : Loc nD τ sig) → Buf (Elt Ideal) ℓ)

/-- A query of device `c`. -/
def qE (c : Dev nD) (b : Fin 2) (h : Fin 4) (i : Fin 256) (d : Fin 64) : EReal :=
  ∑ t : Fin 512, inX m c (ix3 b i t)
    * inWq m c (ix2 t (⟨64 * h.val + d.val, by omega⟩ : Fin 256))

/-- Head `h` of batch `b`. -/
abbrev iOf (b : Fin 2) (h : Fin 4) : Fin 8 := ⟨4 * b.val + h.val, by omega⟩
/-- The batch of a batch's head is that batch. -/
theorem bOf_iOf (b : Fin 2) (h : Fin 4) : bOf (iOf b h) = b := by revert b h; decide
/-- The head of a batch's head is that head. -/
theorem hOf_iOf (b : Fin 2) (h : Fin 4) : hOf (iOf b h) = h := by revert b h; decide

/-- The queries of a head are the input's rows against the head's columns of the weights. -/
theorem qHead_apply (c : Dev nD) (b : Fin 2) (h : Fin 4) (i : Fin 256) (d : Fin 64) :
    qHead m c (iOf b h) (ix2 i d) = qE m c b h i d := by
  show qv m c (qIx (iOf b h) (ix2 i d)) = _
  unfold qv k0_pay1
  refine (Ideal.matmul_plain_apply (M := 512) (K := 512) (N := 256) none _ _ (constant S512x256 .f32 0x00000000#32) _ _).trans ?_
  rw [constant_apply, Ideal.ofBits_zero_f32, zero_add]
  refine Finset.sum_congr rfl fun t _ => ?_
  rw [truncf_apply, truncf_apply, shapeCast_self, shapeCast_self, xv_eq, wqv_eq]
  rw [shapeCast_apply _ _ _ (ix3 b i t) (by
    rw [Shape.rowMajor_val_three, Shape.rowMajor_val_two]
    have := bOf_iOf b h
    simp [ix3, ix2, bOf_iOf]; omega)]
  refine congrArg (inX m c (ix3 b i t) * ·) (congrArg (inWq m c) ?_)
  refine congrArg (ix2 t) (Fin.ext ?_)
  show 64 * (hOf (iOf b h)).val + d.val = 64 * h.val + d.val
  rw [hOf_iOf]

/-- The context of one head. -/
def cE (c : Dev nD) (b : Fin 2) (h : Fin 4) (i : Fin 256) (d : Fin 64) : EReal :=
  ctxE (fun x y => maskV (ix2 x y)) (qE m c b h) (fun j e => inK m c (ix4 b j (gOf c h) e))
    (fun j e => inV m c (ix4 b j (gOf c h) e)) i d

/-- One head's share of a partial product. -/
theorem prodH_apply (c : Dev nD) (b : Fin 2) (h : Fin 4) (i : Fin 256) (n : Fin 512) :
    prodH m c (iOf b h) (ix2 i n) = ∑ d : Fin 64, cE m c b h i d
      * inWo m c (ix2 (⟨64 * h.val + d.val, by omega⟩ : Fin 256) n) := by
  unfold prodH
  rw [headP_apply]
  refine Finset.sum_congr rfl fun d _ => ?_
  rw [headX_apply, woH_apply, hOf_iOf]
  unfold cE
  congr 2
  · funext a e; exact qHead_apply m c b h a e
  · funext a e
    refine (headL_unsq (kHead m c (iOf b h)) (ix2 a e)).trans ?_
    show kSlab m c (bOf (iOf b h)) (ix3 a (hOf (iOf b h)) e) = _
    rw [kSlab_apply, bOf_iOf, hOf_iOf]
  · funext a e
    refine (headL_unsq (vHead m c (iOf b h)) (ix2 a e)).trans ?_
    show vSlab m c (bOf (iOf b h)) (ix3 a (hOf (iOf b h)) e) = _
    rw [vSlab_apply, bOf_iOf, hOf_iOf]

/-- A sum of four heads' shares, read at an index. -/
theorem prodSum_apply (c : Dev nD) (b : Fin 2) (i : Fin 256) (n : Fin 512) :
    prodSum m c (iOf b 0) (iOf b 1) (iOf b 2) (iOf b 3) (ix2 i n) = ∑ h : Fin 4, prodH m c (iOf b h) (ix2 i n) := by
  unfold prodSum
  rw [shapeCast_self, Fin.sum_univ_four]
  rfl

/-- A device's partial product of batch `b`. -/
theorem pbHalf_apply (c : Dev nD) (b : Fin 2) (i : Fin 256) (n : Fin 512) :
    pbHalf m c b (ix2 i n) = ∑ h : Fin 4, prodH m c (iOf b h) (ix2 i n) := by
  unfold pbHalf
  by_cases hb : b = 0
  · subst hb; rw [if_pos rfl, pb0_eq]; exact prodSum_apply m c 0 i n
  · obtain rfl : b = 1 := by omega
    rw [if_neg hb, pb1_eq]; exact prodSum_apply m c 1 i n

/-- The reduced rows are sums over the devices. -/
theorem redV_apply (c : Dev nD) (x : S16x512.Idx) : redV m c x = ∑ p : Fin 32, rsRow m c p x := by
  unfold redV k0_pay35
  rw [shapeCast_self]
  simp only [Fin.sum_univ_castSucc, Fin.sum_univ_zero, zero_add]
  rfl

/-- The result: the sum over the devices of their partial products. -/
theorem outV_apply (b : Fin 2) (i : Fin 256) (n : Fin 512) :
    (outV m : S2x256x512.Idx → EReal) (ix3 b i n) = ∑ p : Fin 32, ∑ h : Fin 4, ∑ d : Fin 64, cE m p b h i d
      * inWo m p (ix2 (⟨64 * h.val + d.val, by omega⟩ : Fin 256) n) := by
  unfold outV k0_pay37
  rw [shapeCast_apply _ _ (ix3 b i n) (ix2 (⟨256 * b.val + i.val, by omega⟩ : Fin 512) n) (by
    rw [Shape.rowMajor_val_three, Shape.rowMajor_val_two]; simp [ix3, ix2]; omega), extf_apply]
  unfold agV
  refine (redV_apply m _ _).trans ?_
  refine Finset.sum_congr (M := EReal) rfl fun p _ => ?_
  unfold rsRow pbRow
  refine Eq.trans ?_ ((pbHalf_apply m p b i n).trans (Finset.sum_congr rfl fun h _ => prodH_apply m p b h i n))
  have hb : halfOf (⟨(256 * b.val + i.val) / 16, by omega⟩ : Fin 32) = b := Fin.ext (by show (256 * b.val + i.val) / 16 / 16 = b.val; omega)
  refine congr (congrArg (pbHalf m p) hb) (congrArg (fun z : Fin 256 => ix2 z n) (Fin.ext ?_))
  show 16 * ((256 * b.val + i.val) / 16 % 16) + (256 * b.val + i.val) % 16 = i.val
  omega

end Sums

end Cert.Attn
-- ==== Proof.RefV.lean ====
/-
# The reference's result, in named stages and read at an index.
-/
module

public import proofs.«01_k».proof.Proof.Soft
public import proofs.«01_k».proof.Proof.Gen.ReferenceIdeal.Run
public import Idealize.ShloMosaic.Lib.IdealHost
public import Idealize.ShloMosaic.Lib.ValueIdxCore

@[expose] public section

set_option maxRecDepth 20000

noncomputable section

namespace Cert.Attn

open Cert.ReferenceIdeal Cert.ReferenceIdeal.Gen Cert.ReferenceIdeal.Value

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

namespace Ref

/-! ## The stages -/

/-- The block number of each row. -/
def fdR : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The query row's block number, and the key row's. -/
def colR : IVec S256x256 32 := broadcastInDim S256x256 ![0, 1] bcast_S256x1_S256x256_0_1 (broadcastInDim S256x1 ![0] bcast_S256_S256x1_0 fdR)
def rowR : IVec S256x256 32 := broadcastInDim S256x256 ![0, 1] bcast_S1x256_S256x256_0_1 (broadcastInDim S1x256 ![1] bcast_S256_S1x256_1 fdR)
/-- Three, guarded against zero. -/
def threeR : IVec S_ 32 := select (cmpi .eq (id (constantI S_ 32 3#32)) (constantI S_ 32 0#32)) (constantI S_ 32 1#32) (id (constantI S_ 32 3#32))
/-- The blocks' sum modulo three, before the sign correction. -/
def remR : IVec S256x256 32 := Host.remsi (addi colR rowR) (broadcastInDim S256x256 ![] bcast_S_S256x256 threeR)
/-- The block mask. -/
def maskR : IVec S256x256 1 :=
  ori (ori (cmpi .eq colR rowR) (broadcastInDim S256x256 ![0, 1] bcast_S1x256_S256x256_0_1 (cmpi .eq (broadcastInDim S1x256 ![1] bcast_S256_S1x256_1 fdR) (broadcastInDim S1x256 ![] bcast_S_S1x256 (constantI S_ 32 0#32))))) (cmpi .eq (select (andi (cmpi .ne (cmpi .slt remR (broadcastInDim S256x256 ![] bcast_S_S256x256 (constantI S_ 32 0#32))) (broadcastInDim S256x256 ![] bcast_S_S256x256 (cmpi .slt threeR (constantI S_ 32 0#32)))) (cmpi .ne remR (broadcastInDim S256x256 ![] bcast_S_S256x256 (constantI S_ 32 0#32)))) (addi remR (broadcastInDim S256x256 ![] bcast_S_S256x256 threeR)) remR) (broadcastInDim S256x256 ![] bcast_S_S256x256 (constantI S_ 32 0#32)))
/-- Whether a row keeps any key. -/
def keepR : IVec S1x1x256x1 1 := broadcastInDim S1x1x256x1 ![2] bcast_S256_S1x1x256x1_2 (Host.reduce IntOp.ori maskR (constantI S_ 1 0#1) reducesTo_S256x256_S256_d1 h_S_)
/-- The queries, by head. -/
def qR (x : FVec F S2x256x512 .f32) (wq : FVec F S512x8192 .f32) : FVec F S2x256x128x64 .f32 :=
  shapeCast _ (Host.dotGeneral dot_S2x256x512_S512x8192_S2x256x8192_2_0_01_1_n_n none x wq) shapeCasts_S2x256x8192_S2x256x128x64
/-- The scores. -/
def sR (q k : FVec F S2x256x128x64 .f32) : FVec F S2x128x256x256 .f32 :=
  select (broadcastInDim S2x128x256x256 ![0, 1, 2, 3] bcast_S1x1x256x256_S2x128x256x256_0_1_2_3 (broadcastInDim S1x1x256x256 ![2, 3] bcast_S256x256_S1x1x256x256_2_3 maskR)) (mulf (Host.dotGeneral dot_S2x256x128x64_S2x256x128x64_S2x128x256x256_3_3_1_1_02_02 none q k) (broadcastInDim S2x128x256x256 ![] bcast_S_S2x128x256x256 (constant S_ .f32 0x3E000000#32))) (broadcastInDim S2x128x256x256 ![] bcast_S_S2x128x256x256 (id (constant S_ .f32 0xCE6E6B28#32)))
/-- The exponentials of the scores less the row's largest. -/
def eR (s : FVec F S2x128x256x256 .f32) : FVec F S2x128x256x256 .f32 :=
  Host.exp (subf s (broadcastInDim S2x128x256x256 ![0, 1, 2, 3] bcast_S2x128x256x1_S2x128x256x256_0_1_2_3 (broadcastInDim S2x128x256x1 ![0, 1, 2] bcast_S2x128x256_S2x128x256x1_0_1_2 (Host.reduce FloatOps.maximumf s (constant S_ .f32 0xFF800000#32) reducesTo_S2x128x256x256_S2x128x256_d3 h_S_))))
/-- The softmax weights. -/
def wR (e : FVec F S2x128x256x256 .f32) : FVec F S2x128x256x256 .f32 :=
  select (broadcastInDim S2x128x256x256 ![0, 1, 2, 3] bcast_S1x1x256x1_S2x128x256x256_0_1_2_3 keepR) (Host.divf e (broadcastInDim S2x128x256x256 ![0, 1, 2, 3] bcast_S2x128x256x1_S2x128x256x256_0_1_2_3 (select (broadcastInDim S2x128x256x1 ![0, 1, 2, 3] bcast_S1x1x256x1_S2x128x256x1_0_1_2_3 keepR) (broadcastInDim S2x128x256x1 ![0, 1, 2] bcast_S2x128x256_S2x128x256x1_0_1_2 (Host.reduceAdd e (constant S_ .f32 0x00000000#32) reducesTo_S2x128x256x256_S2x128x256_d3 h_S_)) (broadcastInDim S2x128x256x1 ![] bcast_S_S2x128x256x1 (id (constant S_ .f32 0x3F800000#32)))))) (broadcastInDim S2x128x256x256 ![] bcast_S_S2x128x256x256 (id (constant S_ .f32 0x00000000#32)))
/-- The contexts of all heads, side by side. -/
def cR (w : FVec F S2x128x256x256 .f32) (v : FVec F S2x256x128x64 .f32) : FVec F S2x256x8192 .f32 :=
  shapeCast _ (transpose S2x256x128x64 [0, 3, 1, 2] (Host.dotGeneral dot_S2x256x128x64_S2x128x256x256_S2x128x64x256_1_3_3_2_02_01 none v w) transposes_S2x128x64x256_S2x256x128x64_0_3_1_2) shapeCasts_S2x256x128x64_S2x256x8192
/-- The result. -/
def oR (c : FVec F S2x256x8192 .f32) (wo : FVec F S8192x512 .f32) : FVec F S2x256x512 .f32 :=
  Host.dotGeneral dot_S2x256x8192_S8192x512_S2x256x512_2_0_01_1_n_n none c wo

/-- The reference's result is its stages composed. -/
theorem res_eq (m : (ℓ : Loc nD τ sig) → Buf (Elt F) ℓ) (c : Dev nD) : res_main_v44 m c
    = oR (cR (wR (eR (sR (qR (m ((c.tc : Thread nD τ).loc main_arg0)) (m ((c.tc : Thread nD τ).loc main_arg1)))
        (m ((c.tc : Thread nD τ).loc main_arg2))))) (m ((c.tc : Thread nD τ).loc main_arg3))) (m ((c.tc : Thread nD τ).loc main_arg4)) := by
  unfold res_main_v44
  rfl

/-! ## The mask -/

/-- A row's block number is the row over 64. -/
theorem fdR_apply (i : Fin 256) : fdR (ix1 i) = BitVec.ofNat 32 (i.val / 64) := by
  revert i; decide +kernel

/-- The reference's row block number is the row over 64. -/
theorem colR_apply (i j : Fin 256) : colR (ix2 i j) = BitVec.ofNat 32 (i.val / 64) := by
  rw [← fdR_apply i]
  unfold colR
  rw [broadcastInDim_apply _ _ _ (ix2 i j) (ix2 i (0 : Fin 1)) (fun a => by fin_cases a <;> rfl)]
  exact broadcastInDim_apply _ _ _ _ (ix1 i) (fun a => by fin_cases a <;> rfl)
/-- The reference's column block number is the column over 64. -/
theorem rowR_apply (i j : Fin 256) : rowR (ix2 i j) = BitVec.ofNat 32 (j.val / 64) := by
  rw [← fdR_apply j]
  unfold rowR
  rw [broadcastInDim_apply _ _ _ (ix2 i j) (ix2 (0 : Fin 1) j) (fun a => by fin_cases a <;> rfl)]
  exact broadcastInDim_apply _ _ _ _ (ix1 j) (fun a => by fin_cases a <;> rfl)

/-- The block mask of two block numbers, as the host computes it. -/
def mkR (a b : BitVec 32) : BitVec 1 :=
  let r := IntOp.remsi .host (a + b) 3#32
  IntOp.ori (IntOp.ori (IntOp.cmpi .eq a b) (IntOp.cmpi .eq b 0#32))
    (IntOp.cmpi .eq (Scalar.select (IntOp.andi (IntOp.cmpi .ne (IntOp.cmpi .slt r 0#32) 0#1) (IntOp.cmpi .ne r 0#32)) (r + 3#32) r) 0#32)

/-- The reference's mask is its mask of the two block numbers. -/
theorem maskR_apply (i j : Fin 256) : maskR (ix2 i j) = mkR (BitVec.ofNat 32 (i.val / 64)) (BitVec.ofNat 32 (j.val / 64)) := by
  rw [← colR_apply i j, ← rowR_apply i j]
  rfl

end Ref

end Cert.Attn
-- ==== Proof.MaskEq.lean ====
/-
# The kernel's block mask is the reference's.
-/
module

public import proofs.«01_k».proof.Proof.RefV

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-- The kernel's block number of a query row. -/
def rowK : IVec S256x256 32 := k0_pay4 iotaV 64#32 k0_pay2 k0_pay3 sgnV

/-- The kernel's row block numbers, in the first column. -/
theorem rowK_first (i : Fin 256) : rowK (ix2 i (0 : Fin 256)) = BitVec.ofNat 32 (i.val / 64) := by revert i; decide +kernel
/-- The kernel's column block numbers, in the first row. -/
theorem colK_first (j : Fin 256) : k0_pay5 (ix2 (0 : Fin 256) j) = BitVec.ofNat 32 (j.val / 64) := by revert j; decide +kernel
/-- The kernel's row block number is the row over 64. -/
theorem rowK_apply (i j : Fin 256) : rowK (ix2 i j) = BitVec.ofNat 32 (i.val / 64) := (show _ = rowK (ix2 i (0 : Fin 256)) from rfl).trans (rowK_first i)
/-- The kernel's column block number is the column over 64. -/
theorem colK_apply (i j : Fin 256) : k0_pay5 (ix2 i j) = BitVec.ofNat 32 (j.val / 64) :=
  (show _ = k0_pay5 (ix2 (0 : Fin 256) j) from rfl).trans (colK_first j)

/-- The block mask of two block numbers, as the kernel computes it. -/
def mkK (a b : BitVec 32) : BitVec 1 :=
  let r := IntOp.remsi .vector (a + b) 3#32
  IntOp.ori (IntOp.ori (IntOp.cmpi .eq a b) (IntOp.cmpi .eq b 0#32))
    (IntOp.cmpi .eq (Scalar.select (IntOp.andi (IntOp.xori (IntOp.cmpi .slt r 0#32) 0#1) (IntOp.cmpi .ne r 0#32)) (r + 3#32) r) 0#32)

/-- The kernel's mask is its mask of the two block numbers. -/
theorem maskV_mk (i j : Fin 256) : maskV (ix2 i j) = mkK (rowK (ix2 i j)) (k0_pay5 (ix2 i j)) := rfl

/-- On block numbers the two masks agree. -/
theorem mk_eq (a b : Fin 4) : mkK (BitVec.ofNat 32 a.val) (BitVec.ofNat 32 b.val) = Ref.mkR (BitVec.ofNat 32 a.val) (BitVec.ofNat 32 b.val) := by
  revert a b; decide +kernel
/-- The first block of keys is always kept. -/
theorem mk_zero (a : Fin 4) : Ref.mkR (BitVec.ofNat 32 a.val) (BitVec.ofNat 32 0) = 1#1 := by
  revert a; decide +kernel

/-- The kernel's block mask is the reference's. -/
theorem maskV_eq (i j : Fin 256) : maskV (ix2 i j) = Ref.maskR (ix2 i j) := by
  rw [maskV_mk, rowK_apply, colK_apply, Ref.maskR_apply]
  exact mk_eq ⟨i.val / 64, by omega⟩ ⟨j.val / 64, by omega⟩

/-- Every query row keeps the first block of keys. -/
theorem maskR_zero (i : Fin 256) : Ref.maskR (ix2 i (0 : Fin 256)) = 1#1 := by
  rw [Ref.maskR_apply]
  exact mk_zero ⟨i.val / 64, by omega⟩

end Cert.Attn
-- ==== Proof.RefE.lean ====
/-
# The reference's stages read at an index.
-/
module

public import proofs.«01_k».proof.Proof.MaskEq

@[expose] public section

set_option maxRecDepth 20000

noncomputable section

namespace Cert.Attn

open Cert.ReferenceIdeal Cert.ReferenceIdeal.Gen Cert.ReferenceIdeal.Value

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

namespace Ref

/-! ## The four products -/

/-- `[2, 256, 512]` by `[512, 8192]`. -/
theorem dotQ_apply (l : FVec Ideal S2x256x512 .f32) (r : FVec Ideal S512x8192 .f32) (b : Fin 2) (i : Fin 256) (n : Fin 8192) :
    Host.dotGeneral dot_S2x256x512_S512x8192_S2x256x8192_2_0_01_1_n_n none l r (ix3 b i n) = ∑ t : Fin 512, l (ix3 b i t) * r (ix2 t n) := by
  simp only [Host.dotGeneral]
  let D := dot_S2x256x512_S512x8192_S2x256x8192_2_0_01_1_n_n
  rw [Ideal.dotGeneral_apply, ← Equiv.sum_comp (contrEquiv1 D 512 rfl rfl).symm]
  refine Finset.sum_congr rfl fun k _ => ?_
  have hk := contrEquiv1_symm_val D 512 rfl rfl k
  refine congr (congrArg HMul.hMul (congrArg l ?_)) (congrArg r ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-- `[2, 256, 8192]` by `[8192, 512]`. -/
theorem dotO_apply (l : FVec Ideal S2x256x8192 .f32) (r : FVec Ideal S8192x512 .f32) (b : Fin 2) (i : Fin 256) (n : Fin 512) :
    oR l r (ix3 b i n) = ∑ t : Fin 8192, l (ix3 b i t) * r (ix2 t n) := by
  unfold oR
  simp only [Host.dotGeneral]
  let D := dot_S2x256x8192_S8192x512_S2x256x512_2_0_01_1_n_n
  rw [Ideal.dotGeneral_apply, ← Equiv.sum_comp (contrEquiv1 D 8192 rfl rfl).symm]
  refine Finset.sum_congr rfl fun k _ => ?_
  have hk := contrEquiv1_symm_val D 8192 rfl rfl k
  refine congr (congrArg HMul.hMul (congrArg l ?_)) (congrArg r ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-- Queries against keys, head by head. -/
theorem dotS_apply (l r : FVec Ideal S2x256x128x64 .f32) (b : Fin 2) (h : Fin 128) (i j : Fin 256) :
    Host.dotGeneral dot_S2x256x128x64_S2x256x128x64_S2x128x256x256_3_3_1_1_02_02 none l r (ix4 b h i j)
      = ∑ d : Fin 64, l (ix4 b i h d) * r (ix4 b j h d) := by
  simp only [Host.dotGeneral]
  let D := dot_S2x256x128x64_S2x256x128x64_S2x128x256x256_3_3_1_1_02_02
  rw [Ideal.dotGeneral_apply, ← Equiv.sum_comp (contrEquiv1 D 64 rfl rfl).symm]
  refine Finset.sum_congr rfl fun k _ => ?_
  have hk := contrEquiv1_symm_val D 64 rfl rfl k
  refine congr (congrArg HMul.hMul (congrArg l ?_)) (congrArg r ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

/-- Values against weights, head by head. -/
theorem dotC_apply (l : FVec Ideal S2x256x128x64 .f32) (r : FVec Ideal S2x128x256x256 .f32) (b : Fin 2) (h : Fin 128) (d : Fin 64) (i : Fin 256) :
    Host.dotGeneral dot_S2x256x128x64_S2x128x256x256_S2x128x64x256_1_3_3_2_02_01 none l r (ix4 b h d i)
      = ∑ j : Fin 256, l (ix4 b j h d) * r (ix4 b h i j) := by
  simp only [Host.dotGeneral]
  let D := dot_S2x256x128x64_S2x128x256x256_S2x128x64x256_1_3_3_2_02_01
  rw [Ideal.dotGeneral_apply, ← Equiv.sum_comp (contrEquiv1 D 256 rfl rfl).symm]
  refine Finset.sum_congr rfl fun k _ => ?_
  have hk := contrEquiv1_symm_val D 256 rfl rfl k
  refine congr (congrArg HMul.hMul (congrArg l ?_)) (congrArg r ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-! ## The stages -/

/-- A fold of `or` that meets a one is one. -/
theorem fold_ori_one (f : Fin 256 → BitVec 1) (k : Fin 256) (h : f k = 1#1) :
    (Finset.univ : Finset (Fin 256)).fold IntOp.ori 0#1 f = 1#1 := by
  rw [← Finset.insert_erase (Finset.mem_univ k), Finset.fold_insert (Finset.notMem_erase k _), h]
  generalize Finset.fold IntOp.ori 0#1 f (Finset.univ.erase k) = z
  revert z; decide

/-- Every row is kept. -/
theorem keepR_apply (i : Fin 256) : keepR (ix4 (0 : Fin 1) (0 : Fin 1) i (0 : Fin 1)) = 1#1 := by
  unfold keepR
  rw [broadcastInDim_apply _ _ _ (ix4 (0 : Fin 1) (0 : Fin 1) i (0 : Fin 1)) (ix1 i) (fun a => by fin_cases a <;> rfl)]
  have h : Shape.Reduces S256x256 [1] S256 := by decide
  rw [Host.reduce_eq_fold_single IntOp.ori maskR _ _ h]
  refine fold_ori_one _ (0 : Fin 256) ?_
  exact (congrArg maskR (eq_ix2 _)).trans (maskR_zero i)

/-- A query of the reference is the sum of the input's row against a column of the weights. -/
theorem qR_apply (x : FVec Ideal S2x256x512 .f32) (wq : FVec Ideal S512x8192 .f32) (b : Fin 2) (i : Fin 256) (h : Fin 128) (d : Fin 64) :
    qR x wq (ix4 b i h d) = ∑ t : Fin 512, x (ix3 b i t) * wq (ix2 t (⟨64 * h.val + d.val, by omega⟩ : Fin 8192)) := by
  unfold qR
  rw [shapeCast_apply _ _ (ix4 b i h d) (ix3 b i (⟨64 * h.val + d.val, by omega⟩ : Fin 8192)) (by
    rw [Shape.rowMajor_val_three, Shape.rowMajor_val_four]; simp [ix3, ix4]; omega)]
  exact dotQ_apply x wq b i _

/-- The reference's masked scores are those over the extended reals. -/
theorem sR_apply (q k : FVec Ideal S2x256x128x64 .f32) (b : Fin 2) (h : Fin 128) (i j : Fin 256) :
    sR q k (ix4 b h i j) = scE (fun x y => maskR (ix2 x y)) (fun x d => q (ix4 b x h d)) (fun y d => k (ix4 b y h d)) i j := by
  unfold sR scE
  rw [select_apply, mulf_apply, dotS_apply]
  congr 1

/-- A value per row, spread over the row. -/
theorem spreadR_apply (z : FVec Ideal S2x128x256x1 .f32) (b : Fin 2) (h : Fin 128) (i j : Fin 256) :
    broadcastInDim S2x128x256x256 ![0, 1, 2, 3] bcast_S2x128x256x1_S2x128x256x256_0_1_2_3 z (ix4 b h i j) = z (ix4 b h i (0 : Fin 1)) :=
  broadcastInDim_apply _ _ _ (ix4 b h i j) (ix4 b h i (0 : Fin 1)) (fun a => by fin_cases a <;> rfl)
/-- A value per row, with a unit axis. -/
theorem unitR_apply (z : FVec Ideal S2x128x256 .f32) (b : Fin 2) (h : Fin 128) (i : Fin 256) (u : Fin 1) :
    broadcastInDim S2x128x256x1 ![0, 1, 2] bcast_S2x128x256_S2x128x256x1_0_1_2 z (ix4 b h i u) = z (ix3 b h i) :=
  broadcastInDim_apply _ _ _ (ix4 b h i u) (ix3 b h i) (fun a => by fin_cases a <;> rfl)

/-- The reference's exponentials are of the scores less the row's largest. -/
theorem eR_apply (s : FVec Ideal S2x128x256x256 .f32) (b : Fin 2) (h : Fin 128) (i j : Fin 256) :
    eR s (ix4 b h i j) = Ideal.exp (s (ix4 b h i j)
      - (Finset.univ : Finset (Fin 256)).fold max (Ideal.ofBits .f32 0xFF800000#32) (fun t => s (ix4 b h i t))) := by
  unfold eR
  show Ideal.exp (subf s _ (ix4 b h i j)) = _
  rw [subf_apply, spreadR_apply, unitR_apply]
  have hr : Shape.Reduces S2x128x256x256 [3] S2x128x256 := by decide
  rw [Host.reduce_eq_fold_single FloatOps.maximumf s _ _ hr]
  refine congrArg (fun z => Ideal.exp (s (ix4 b h i j) - z)) ?_
  refine congrArg (fun f => Finset.fold max (Ideal.ofBits .f32 0xFF800000#32) f (Finset.univ : Finset (Fin 256))) (funext fun t => ?_)
  exact congrArg s (eq_ix4 _)

/-- A row's sum is the sum over the row. -/
theorem rowSumR_apply (e : FVec Ideal S2x128x256x256 .f32) (b : Fin 2) (h : Fin 128) (i : Fin 256) :
    Host.reduceAdd e (constant S_ .f32 0x00000000#32) reducesTo_S2x128x256x256_S2x128x256_d3 h_S_ (ix3 b h i)
      = ∑ t : Fin 256, e (ix4 b h i t) := by
  have hr : Shape.Reduces S2x128x256x256 [3] S2x128x256 := by decide
  rw [hostReduceAdd_apply, Ideal.hostReduceAdd_single _ hr, constant_apply, Ideal.ofBits_zero_f32, zero_add]
  exact Finset.sum_congr rfl fun t _ => congrArg e (eq_ix4 _)

/-- The reference's weights are the exponentials over their row's sum. -/
theorem wR_apply (e : FVec Ideal S2x128x256x256 .f32) (b : Fin 2) (h : Fin 128) (i j : Fin 256) :
    wR e (ix4 b h i j) = Ideal.div (e (ix4 b h i j)) (∑ t : Fin 256, e (ix4 b h i t)) := by
  unfold wR
  rw [select_apply, broadcastInDim_apply _ _ _ (ix4 b h i j) (ix4 (0 : Fin 1) (0 : Fin 1) i (0 : Fin 1)) (fun a => by fin_cases a <;> rfl),
    keepR_apply, select_one]
  rw [hostDivf_apply, spreadR_apply, select_apply,
    broadcastInDim_apply _ _ _ (ix4 b h i (0 : Fin 1)) (ix4 (0 : Fin 1) (0 : Fin 1) i (0 : Fin 1)) (fun a => by fin_cases a <;> rfl),
    keepR_apply, select_one, unitR_apply]
  rw [rowSumR_apply]

/-- The reference's context is the sum of the values by the weights. -/
theorem cR_apply (w : FVec Ideal S2x128x256x256 .f32) (v : FVec Ideal S2x256x128x64 .f32) (b : Fin 2) (i : Fin 256) (h : Fin 128) (d : Fin 64) :
    cR w v (ix3 b i (⟨64 * h.val + d.val, by omega⟩ : Fin 8192)) = ∑ j : Fin 256, w (ix4 b h i j) * v (ix4 b j h d) := by
  unfold cR
  rw [shapeCast_apply _ _ (ix3 b i (⟨64 * h.val + d.val, by omega⟩ : Fin 8192)) (ix4 b i h d) (by
    rw [Shape.rowMajor_val_three, Shape.rowMajor_val_four]; simp [ix3, ix4]; omega),
    transpose_apply _ _ _ (ix4 b i h d) (ix4 b h d i) (fun a => by fin_cases a <;> rfl), dotC_apply]
  exact Finset.sum_congr rfl fun j _ => mul_comm _ _

/-- The reference's context of one head is the head over the extended reals. -/
theorem ctxR_apply (q k v : FVec Ideal S2x256x128x64 .f32) (b : Fin 2) (i : Fin 256) (h : Fin 128) (d : Fin 64) :
    cR (wR (eR (sR q k))) v (ix3 b i (⟨64 * h.val + d.val, by omega⟩ : Fin 8192))
      = ctxE (fun x y => maskR (ix2 x y)) (fun x e => q (ix4 b x h e)) (fun y e => k (ix4 b y h e)) (fun y e => v (ix4 b y h e)) i d := by
  have hE : ∀ x y, eR (sR q k) (ix4 b h x y)
      = exE (fun x y => maskR (ix2 x y)) (fun x e => q (ix4 b x h e)) (fun y e => k (ix4 b y h e)) x y := fun x y => by
    rw [eR_apply]; simp only [sR_apply]; rfl
  rw [cR_apply]
  refine Finset.sum_congr rfl fun j _ => ?_
  rw [wR_apply]; simp only [hE]

end Ref

end Cert.Attn
-- ==== Proof.Value.lean ====
/-
# The kernel's result is the reference's
-/
module

public import proofs.«01_k».proof.Proof.SumK
public import proofs.«01_k».proof.Proof.RefE
public import proofs.«01_k».proof.Proof.Frames
public import Idealize.ShloMosaic.Lib.Layout

@[expose] public section

set_option maxRecDepth 20000

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-! ## Regrouping a sum over all head columns -/

/-- A sum over `m * n` positions is the sum over `m` blocks of `n`. -/
theorem sum_blocks (m n : ℕ) (f : Fin (m * n) → EReal) :
    ∑ k, f k = ∑ a : Fin m, ∑ b : Fin n, f ⟨n * a.val + b.val, by
      calc n * a.val + b.val < n * a.val + n := Nat.add_lt_add_left b.isLt _
        _ = n * (a.val + 1) := rfl
        _ ≤ n * m := Nat.mul_le_mul_left _ a.isLt
        _ = m * n := Nat.mul_comm _ _⟩ := by
  rw [← Equiv.sum_comp finProdFinEquiv f, Fintype.sum_prod_type]
  refine Finset.sum_congr rfl fun a _ => Finset.sum_congr rfl fun b _ => congrArg f (Fin.ext ?_)
  show b.val + n * a.val = n * a.val + b.val
  exact Nat.add_comm _ _

/-- A sum over the 8192 head columns, by device, head and column. -/
theorem sum_cols (f : Fin 8192 → EReal) :
    ∑ k, f k = ∑ p : Fin 32, ∑ h : Fin 4, ∑ d : Fin 64, f ⟨64 * (4 * p.val + h.val) + d.val, by omega⟩ := by
  refine (sum_blocks 32 256 f).trans (Finset.sum_congr rfl fun p _ => ?_)
  refine (sum_blocks 4 64 (fun k : Fin 256 => f ⟨256 * p.val + k.val, by omega⟩)).trans ?_
  refine Finset.sum_congr rfl fun h _ => Finset.sum_congr rfl fun d _ => congrArg f (Fin.ext ?_)
  show 256 * p.val + (64 * h.val + d.val) = 64 * (4 * p.val + h.val) + d.val
  omega

/-! ## The two results -/

section Agree
variable (m : (ℓ : Loc nD τ sig) → Buf (Elt Ideal) ℓ) (x : S2x256x512.Idx → EReal) (wq : Cert.ReferenceIdeal.S512x8192.Idx → EReal)
  (k v : S2x256x128x64.Idx → EReal) (wo : Cert.ReferenceIdeal.S8192x512.Idx → EReal)

/-- The devices hold the arguments: the weights in blocks, the rest whole. -/
structure Holds : Prop where
  hx : ∀ c : Dev nD, inX m c = x
  hq : ∀ (c : Dev nD) (t : Fin 512) (n : Fin 256), inWq m c (ix2 t n) = wq (ix2 t (⟨256 * c.val + n.val, by have : c.val < 32 := c.isLt; omega⟩ : Fin 8192))
  hk : ∀ c : Dev nD, inK m c = k
  hv : ∀ c : Dev nD, inV m c = v
  ho : ∀ (c : Dev nD) (t : Fin 256) (n : Fin 512), inWo m c (ix2 t n) = wo (ix2 (⟨256 * c.val + t.val, by have : c.val < 32 := c.isLt; omega⟩ : Fin 8192) n)

variable {m x wq k v wo}

/-- A device's queries are the reference's at its heads. -/
theorem qE_eq (H : Holds m x wq k v wo) (c : Dev nD) (b : Fin 2) (h : Fin 4) (i : Fin 256) (d : Fin 64) :
    qE m c b h i d = Ref.qR (F := Ideal) x wq (ix4 b i (gOf c h) d) := by
  rw [Ref.qR_apply]
  unfold qE
  refine Finset.sum_congr rfl fun t _ => ?_
  rw [H.hx, H.hq]
  refine congrArg (x (ix3 b i t) * ·) (congrArg (fun z : Fin 8192 => wq (ix2 t z)) (Fin.ext ?_))
  show 256 * c.val + (64 * h.val + d.val) = 64 * (4 * c.val + h.val) + d.val
  omega

/-- A device's contexts are the reference's at its heads. -/
theorem cE_eq (H : Holds m x wq k v wo) (c : Dev nD) (b : Fin 2) (h : Fin 4) (i : Fin 256) (d : Fin 64) :
    cE m c b h i d = Ref.cR (Ref.wR (Ref.eR (Ref.sR (Ref.qR (F := Ideal) x wq) k))) v
      (ix3 b i (⟨64 * (gOf c h).val + d.val, by omega⟩ : Fin 8192)) := by
  rw [Ref.ctxR_apply]
  unfold cE
  rw [H.hk, H.hv]
  have hM : (fun a b : Fin 256 => maskV (ix2 a b)) = fun a b => Ref.maskR (ix2 a b) := funext fun a => funext fun b => maskV_eq a b
  have hQ : qE m c b h = fun a e => Ref.qR (F := Ideal) x wq (ix4 b a (gOf c h) e) := funext fun a => funext fun e => qE_eq H c b h a e
  rw [hM, hQ]

/-- The kernel's result is the reference's, at an index. -/
theorem outV_at (H : Holds m x wq k v wo) (b : Fin 2) (i : Fin 256) (n : Fin 512) :
    (outV m : S2x256x512.Idx → EReal) (ix3 b i n)
      = Ref.oR (Ref.cR (Ref.wR (Ref.eR (Ref.sR (Ref.qR (F := Ideal) x wq) k))) v) wo (ix3 b i n) := by
  refine (outV_apply m b i n).trans (Eq.symm ?_)
  refine (Ref.dotO_apply _ wo b i n).trans ((sum_cols _).trans ?_)
  refine Finset.sum_congr rfl fun p _ => Finset.sum_congr rfl fun h _ => Finset.sum_congr rfl fun d _ => ?_
  rw [cE_eq H, H.ho]
  refine congrArg (_ * ·) (congrArg (fun z : Fin 8192 => wo (ix2 z n)) (Fin.ext ?_))
  show 64 * (4 * p.val + h.val) + d.val = 256 * p.val + (64 * h.val + d.val)
  omega

/-- The kernel's result is the reference's. -/
theorem outV_eq (H : Holds m x wq k v wo) :
    (outV m : S2x256x512.Idx → EReal) = Ref.oR (Ref.cR (Ref.wR (Ref.eR (Ref.sR (Ref.qR (F := Ideal) x wq) k))) v) wo :=
  funext fun j : S2x256x512.Idx => by
    rw [eq_ix3 j]
    exact outV_at H (j 0) (j 1) (j 2)

end Agree

/-! ## The claim -/

/-- The result array ends at the kernel's result: its one block is the whole array. -/
theorem final_out (m : (ℓ : Loc nD τ sig) → Buf (Elt F) ℓ) (c : Dev nD) : finalA m c 3 = outV m := by
  have hz : (fun a => (win0_3.index (0 : Fin 1)) a * main_v1.ty.shape.size a) = fun _ => 0 := funext fun a => by fin_cases a <;> decide
  refine (Memref.read_access_unit_zero (Elt F) main_v1 hz (fun a => by fin_cases a <;> decide) (finalA m c 3)).symm.trans ?_
  show (win0_3.blk (0 : Fin 1)).view.read (Elt F) (finalA m c (3 : Fin 4)) = outV m
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

/-- `Cert.algebraic_KernelIdeal_ReferenceIdeal`: both programs end holding one result. -/
theorem algebraic : Cert.algebraic_KernelIdeal_ReferenceIdeal := by
  intro m g m' g' _ hagree
  have H : Holds m _ _ _ _ _ := {
    hx := fun c => (hagree c).1
    hq := fun c t n => by
      refine (congrFun (hagree c).2.1 (ix2 t n)).trans ?_
      refine congrArg (m' (((0 : Dev Cert.ReferenceIdeal.nD).tc : Thread Cert.ReferenceIdeal.nD Cert.ReferenceIdeal.τ).loc Cert.ReferenceIdeal.main_arg1)) (funext fun a => Fin.ext ?_)
      fin_cases a
      · rfl
      · show c.val * 256 + n.val = 256 * c.val + n.val
        omega
    hk := fun c => (hagree c).2.2.1
    hv := fun c => (hagree c).2.2.2.1
    ho := fun c t n => by
      refine (congrFun (hagree c).2.2.2.2 (ix2 t n)).trans ?_
      refine congrArg (m' (((0 : Dev Cert.ReferenceIdeal.nD).tc : Thread Cert.ReferenceIdeal.nD Cert.ReferenceIdeal.τ).loc Cert.ReferenceIdeal.main_arg4)) (funext fun a => Fin.ext ?_)
      fin_cases a
      · show c.val * 256 + t.val = 256 * c.val + t.val
        omega
      · rfl }
  refine ⟨outV m, ?_, ?_⟩
  · refine (θ_run defs _ _).mono ?_ (run_main (F := Ideal) m g)
    exact fun _ h c => ⟨((h.1 c).1 (3 : Fin 4)).trans (final_out m c), args_kept h.1 c⟩
  · refine (θ_run Cert.ReferenceIdeal.defs _ _).mono ?_ (Cert.ReferenceIdeal.Value.run (F := Ideal) m' g')
    exact fun _ h => ⟨(h 0).1.trans ((Ref.res_eq m' 0).trans (outV_eq H).symm), (h 0).2⟩

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.frame_kernel, Cert.Attn.frame_ideal, Cert.Attn.frame_reference, trivial, Cert.Attn.algebraic⟩

end Cert.Proof

end
